-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Qks (m : (ℓ : Loc Cert.Qks.nD Cert.Qks.τ Cert.Qks.sig) → Buf (Elt Bits) ℓ) : Prop :=
  True

def Pre_QksIdeal (m : (ℓ : Loc Cert.QksIdeal.nD Cert.QksIdeal.τ Cert.QksIdeal.sig) → Buf (Elt Ideal) ℓ) : Prop :=
  True

def Pre_QksRefIdeal (m : (ℓ : Loc Cert.QksRefIdeal.nD Cert.QksRefIdeal.τ Cert.QksRefIdeal.sig) → Buf (Elt Ideal) ℓ) : Prop :=
  True

def Pre_Ffn [hPre_ffn_tables : Cert.Pre_ffn_tables.Facts] (m : (ℓ : Loc Cert.Ffn.nD Cert.Ffn.τ Cert.Ffn.sig) → Buf (Elt Bits) ℓ) : Prop :=
  ∀ c : Dev Cert.Ffn.nD,
    (Cert.Pre_ffn_tables.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8)) (m ((c.tc : Thread Cert.Ffn.nD Cert.Ffn.τ).loc Cert.Ffn.main_arg9))).1 = (fun _ => 1#1)
    ∧ (Cert.Pre_ffn_tables.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8)) (m ((c.tc : Thread Cert.Ffn.nD Cert.Ffn.τ).loc Cert.Ffn.main_arg9))).2.1 = (fun _ => 1#1)
    ∧ (Cert.Pre_ffn_tables.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8)) (m ((c.tc : Thread Cert.Ffn.nD Cert.Ffn.τ).loc Cert.Ffn.main_arg9))).2.2 = (fun _ => 1#1)

def Pre_FfnIdeal [hPre_ffn_tables : Cert.Pre_ffn_tables.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_tables.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).1 = (fun _ => 1#1)
    ∧ (Cert.Pre_ffn_tables.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.1 = (fun _ => 1#1)
    ∧ (Cert.Pre_ffn_tables.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2 = (fun _ => 1#1)

def Pre_FfnRefIdeal [hPre_ffn_tables : Cert.Pre_ffn_tables.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_tables.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).1 = (fun _ => 1#1)
    ∧ (Cert.Pre_ffn_tables.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.1 = (fun _ => 1#1)
    ∧ (Cert.Pre_ffn_tables.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2 = (fun _ => 1#1)

def Pre_Mrg (m : (ℓ : Loc Cert.Mrg.nD Cert.Mrg.τ Cert.Mrg.sig) → Buf (Elt Bits) ℓ) : Prop :=
  True

def Pre_MrgIdeal (m : (ℓ : Loc Cert.MrgIdeal.nD Cert.MrgIdeal.τ Cert.MrgIdeal.sig) → Buf (Elt Ideal) ℓ) : Prop :=
  True

def Pre_MrgRefIdeal (m : (ℓ : Loc Cert.MrgRefIdeal.nD Cert.MrgRefIdeal.τ Cert.MrgRefIdeal.sig) → Buf (Elt Ideal) ℓ) : Prop :=
  True

def Pre_Bia (m : (ℓ : Loc Cert.Bia.nD Cert.Bia.τ Cert.Bia.sig) → Buf (Elt Bits) ℓ) : Prop :=
  True

def Pre_BiaIdeal (m : (ℓ : Loc Cert.BiaIdeal.nD Cert.BiaIdeal.τ Cert.BiaIdeal.sig) → Buf (Elt Ideal) ℓ) : Prop :=
  True

def Pre_BiaRefIdeal (m : (ℓ : Loc Cert.BiaRefIdeal.nD Cert.BiaRefIdeal.τ Cert.BiaRefIdeal.sig) → Buf (Elt Ideal) ℓ) : Prop :=
  True

def Pre_Bnd (m : (ℓ : Loc Cert.Bnd.nD Cert.Bnd.τ Cert.Bnd.sig) → Buf (Elt Bits) ℓ) : Prop :=
  True

def Pre_BndIdeal (m : (ℓ : Loc Cert.BndIdeal.nD Cert.BndIdeal.τ Cert.BndIdeal.sig) → Buf (Elt Ideal) ℓ) : Prop :=
  True

def Pre_BndIdeal_band_finite [hPre_band_finite : Cert.Pre_band_finite.Facts] (m : (ℓ : Loc Cert.BndIdeal.nD Cert.BndIdeal.τ Cert.BndIdeal.sig) → Buf (Elt Ideal) ℓ) : Prop :=
  ∀ c : Dev Cert.BndIdeal.nD,
    (Cert.Pre_band_finite.fn (F := Ideal) (m ((c.tc : Thread Cert.BndIdeal.nD Cert.BndIdeal.τ).loc Cert.BndIdeal.main_arg0)) (m ((c.tc : Thread Cert.BndIdeal.nD Cert.BndIdeal.τ).loc Cert.BndIdeal.main_arg1)) (m ((c.tc : Thread Cert.BndIdeal.nD Cert.BndIdeal.τ).loc Cert.BndIdeal.main_arg2)) (m ((c.tc : Thread Cert.BndIdeal.nD Cert.BndIdeal.τ).loc Cert.BndIdeal.main_arg3))).1 = (fun _ => 1#1)
    ∧ (Cert.Pre_band_finite.fn (F := Ideal) (m ((c.tc : Thread Cert.BndIdeal.nD Cert.BndIdeal.τ).loc Cert.BndIdeal.main_arg0)) (m ((c.tc : Thread Cert.BndIdeal.nD Cert.BndIdeal.τ).loc Cert.BndIdeal.main_arg1)) (m ((c.tc : Thread Cert.BndIdeal.nD Cert.BndIdeal.τ).loc Cert.BndIdeal.main_arg2)) (m ((c.tc : Thread Cert.BndIdeal.nD Cert.BndIdeal.τ).loc Cert.BndIdeal.main_arg3))).2.1 = (fun _ => 1#1)
    ∧ (Cert.Pre_band_finite.fn (F := Ideal) (m ((c.tc : Thread Cert.BndIdeal.nD Cert.BndIdeal.τ).loc Cert.BndIdeal.main_arg0)) (m ((c.tc : Thread Cert.BndIdeal.nD Cert.BndIdeal.τ).loc Cert.BndIdeal.main_arg1)) (m ((c.tc : Thread Cert.BndIdeal.nD Cert.BndIdeal.τ).loc Cert.BndIdeal.main_arg2)) (m ((c.tc : Thread Cert.BndIdeal.nD Cert.BndIdeal.τ).loc Cert.BndIdeal.main_arg3))).2.2 = (fun _ => 1#1)

def Pre_BndRefIdeal (m : (ℓ : Loc Cert.BndRefIdeal.nD Cert.BndRefIdeal.τ Cert.BndRefIdeal.sig) → Buf (Elt Ideal) ℓ) : Prop :=
  True

def Pre_BndRefIdeal_band_finite [hPre_band_finite : Cert.Pre_band_finite.Facts] (m : (ℓ : Loc Cert.BndRefIdeal.nD Cert.BndRefIdeal.τ Cert.BndRefIdeal.sig) → Buf (Elt Ideal) ℓ) : Prop :=
  ∀ c : Dev Cert.BndRefIdeal.nD,
    (Cert.Pre_band_finite.fn (F := Ideal) (m ((c.tc : Thread Cert.BndRefIdeal.nD Cert.BndRefIdeal.τ).loc Cert.BndRefIdeal.main_arg0)) (m ((c.tc : Thread Cert.BndRefIdeal.nD Cert.BndRefIdeal.τ).loc Cert.BndRefIdeal.main_arg1)) (m ((c.tc : Thread Cert.BndRefIdeal.nD Cert.BndRefIdeal.τ).loc Cert.BndRefIdeal.main_arg2)) (m ((c.tc : Thread Cert.BndRefIdeal.nD Cert.BndRefIdeal.τ).loc Cert.BndRefIdeal.main_arg3))).1 = (fun _ => 1#1)
    ∧ (Cert.Pre_band_finite.fn (F := Ideal) (m ((c.tc : Thread Cert.BndRefIdeal.nD Cert.BndRefIdeal.τ).loc Cert.BndRefIdeal.main_arg0)) (m ((c.tc : Thread Cert.BndRefIdeal.nD Cert.BndRefIdeal.τ).loc Cert.BndRefIdeal.main_arg1)) (m ((c.tc : Thread Cert.BndRefIdeal.nD Cert.BndRefIdeal.τ).loc Cert.BndRefIdeal.main_arg2)) (m ((c.tc : Thread Cert.BndRefIdeal.nD Cert.BndRefIdeal.τ).loc Cert.BndRefIdeal.main_arg3))).2.1 = (fun _ => 1#1)
    ∧ (Cert.Pre_band_finite.fn (F := Ideal) (m ((c.tc : Thread Cert.BndRefIdeal.nD Cert.BndRefIdeal.τ).loc Cert.BndRefIdeal.main_arg0)) (m ((c.tc : Thread Cert.BndRefIdeal.nD Cert.BndRefIdeal.τ).loc Cert.BndRefIdeal.main_arg1)) (m ((c.tc : Thread Cert.BndRefIdeal.nD Cert.BndRefIdeal.τ).loc Cert.BndRefIdeal.main_arg2)) (m ((c.tc : Thread Cert.BndRefIdeal.nD Cert.BndRefIdeal.τ).loc Cert.BndRefIdeal.main_arg3))).2.2 = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Qks [hQks : Cert.Qks.Facts] : Prop :=
  ∀ (m : (ℓ : Loc Cert.Qks.nD Cert.Qks.τ Cert.Qks.sig) → Buf (Elt Bits) ℓ) (g : Dev Cert.Qks.nD → PrngReg), Pre_Qks m →
    θ_run (Cert.Qks.defs (F := Bits)) (onTc (τ := Cert.Qks.τ) (Cert.Qks.main (F := Bits))) ⟨m, fun _ => 0, g⟩ (fun r => (∀ c : Dev Cert.Qks.nD,
      r.2.mem ((c.tc : Thread Cert.Qks.nD Cert.Qks.τ).loc Cert.Qks.main_arg0) = m ((c.tc : Thread Cert.Qks.nD Cert.Qks.τ).loc Cert.Qks.main_arg0)
      ∧ r.2.mem ((c.tc : Thread Cert.Qks.nD Cert.Qks.τ).loc Cert.Qks.main_arg1) = m ((c.tc : Thread Cert.Qks.nD Cert.Qks.τ).loc Cert.Qks.main_arg1)
      ∧ r.2.mem ((c.tc : Thread Cert.Qks.nD Cert.Qks.τ).loc Cert.Qks.main_arg2) = m ((c.tc : Thread Cert.Qks.nD Cert.Qks.τ).loc Cert.Qks.main_arg2)
      ∧ r.2.mem ((c.tc : Thread Cert.Qks.nD Cert.Qks.τ).loc Cert.Qks.main_arg3) = m ((c.tc : Thread Cert.Qks.nD Cert.Qks.τ).loc Cert.Qks.main_arg3)
      ∧ r.2.mem ((c.tc : Thread Cert.Qks.nD Cert.Qks.τ).loc Cert.Qks.main_arg4) = m ((c.tc : Thread Cert.Qks.nD Cert.Qks.τ).loc Cert.Qks.main_arg4))
      ∧ r.2.sem = fun _ => 0)

def quiescent_QksIdeal [hQksIdeal : Cert.QksIdeal.Facts] : Prop :=
  ∀ (m : (ℓ : Loc Cert.QksIdeal.nD Cert.QksIdeal.τ Cert.QksIdeal.sig) → Buf (Elt Ideal) ℓ) (g : Dev Cert.QksIdeal.nD → PrngReg), Pre_QksIdeal m →
    θ_run (Cert.QksIdeal.defs (F := Ideal)) (onTc (τ := Cert.QksIdeal.τ) (Cert.QksIdeal.main (F := Ideal))) ⟨m, fun _ => 0, g⟩ (fun r => (∀ c : Dev Cert.QksIdeal.nD,
      r.2.mem ((c.tc : Thread Cert.QksIdeal.nD Cert.QksIdeal.τ).loc Cert.QksIdeal.main_arg0) = m ((c.tc : Thread Cert.QksIdeal.nD Cert.QksIdeal.τ).loc Cert.QksIdeal.main_arg0)
      ∧ r.2.mem ((c.tc : Thread Cert.QksIdeal.nD Cert.QksIdeal.τ).loc Cert.QksIdeal.main_arg1) = m ((c.tc : Thread Cert.QksIdeal.nD Cert.QksIdeal.τ).loc Cert.QksIdeal.main_arg1)
      ∧ r.2.mem ((c.tc : Thread Cert.QksIdeal.nD Cert.QksIdeal.τ).loc Cert.QksIdeal.main_arg2) = m ((c.tc : Thread Cert.QksIdeal.nD Cert.QksIdeal.τ).loc Cert.QksIdeal.main_arg2)
      ∧ r.2.mem ((c.tc : Thread Cert.QksIdeal.nD Cert.QksIdeal.τ).loc Cert.QksIdeal.main_arg3) = m ((c.tc : Thread Cert.QksIdeal.nD Cert.QksIdeal.τ).loc Cert.QksIdeal.main_arg3)
      ∧ r.2.mem ((c.tc : Thread Cert.QksIdeal.nD Cert.QksIdeal.τ).loc Cert.QksIdeal.main_arg4) = m ((c.tc : Thread Cert.QksIdeal.nD Cert.QksIdeal.τ).loc Cert.QksIdeal.main_arg4))
      ∧ r.2.sem = fun _ => 0)

def quiescent_QksRefIdeal [hQksRefIdeal : Cert.QksRefIdeal.Facts] : Prop :=
  ∀ (m : (ℓ : Loc Cert.QksRefIdeal.nD Cert.QksRefIdeal.τ Cert.QksRefIdeal.sig) → Buf (Elt Ideal) ℓ) (g : Dev Cert.QksRefIdeal.nD → PrngReg), Pre_QksRefIdeal m →
    θ_run (Cert.QksRefIdeal.defs (F := Ideal)) (onTc (τ := Cert.QksRefIdeal.τ) (Cert.QksRefIdeal.main (F := Ideal))) ⟨m, fun _ => 0, g⟩ (fun r => (∀ c : Dev Cert.QksRefIdeal.nD,
      r.2.mem ((c.tc : Thread Cert.QksRefIdeal.nD Cert.QksRefIdeal.τ).loc Cert.QksRefIdeal.main_arg0) = m ((c.tc : Thread Cert.QksRefIdeal.nD Cert.QksRefIdeal.τ).loc Cert.QksRefIdeal.main_arg0)
      ∧ r.2.mem ((c.tc : Thread Cert.QksRefIdeal.nD Cert.QksRefIdeal.τ).loc Cert.QksRefIdeal.main_arg1) = m ((c.tc : Thread Cert.QksRefIdeal.nD Cert.QksRefIdeal.τ).loc Cert.QksRefIdeal.main_arg1)
      ∧ r.2.mem ((c.tc : Thread Cert.QksRefIdeal.nD Cert.QksRefIdeal.τ).loc Cert.QksRefIdeal.main_arg2) = m ((c.tc : Thread Cert.QksRefIdeal.nD Cert.QksRefIdeal.τ).loc Cert.QksRefIdeal.main_arg2)
      ∧ r.2.mem ((c.tc : Thread Cert.QksRefIdeal.nD Cert.QksRefIdeal.τ).loc Cert.QksRefIdeal.main_arg3) = m ((c.tc : Thread Cert.QksRefIdeal.nD Cert.QksRefIdeal.τ).loc Cert.QksRefIdeal.main_arg3)
      ∧ r.2.mem ((c.tc : Thread Cert.QksRefIdeal.nD Cert.QksRefIdeal.τ).loc Cert.QksRefIdeal.main_arg4) = m ((c.tc : Thread Cert.QksRefIdeal.nD Cert.QksRefIdeal.τ).loc Cert.QksRefIdeal.main_arg4))
      ∧ r.2.sem = fun _ => 0)

def quiescent_Ffn [hFfn : Cert.Ffn.Facts] [hPre_ffn_tables : Cert.Pre_ffn_tables.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] [hPre_ffn_tables : Cert.Pre_ffn_tables.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] [hPre_ffn_tables : Cert.Pre_ffn_tables.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Mrg [hMrg : Cert.Mrg.Facts] : Prop :=
  ∀ (m : (ℓ : Loc Cert.Mrg.nD Cert.Mrg.τ Cert.Mrg.sig) → Buf (Elt Bits) ℓ) (g : Dev Cert.Mrg.nD → PrngReg), Pre_Mrg m →
    θ_run (Cert.Mrg.defs (F := Bits)) (onTc (τ := Cert.Mrg.τ) (Cert.Mrg.main (F := Bits))) ⟨m, fun _ => 0, g⟩ (fun r => (∀ c : Dev Cert.Mrg.nD,
      r.2.mem ((c.tc : Thread Cert.Mrg.nD Cert.Mrg.τ).loc Cert.Mrg.main_arg0) = m ((c.tc : Thread Cert.Mrg.nD Cert.Mrg.τ).loc Cert.Mrg.main_arg0)
      ∧ r.2.mem ((c.tc : Thread Cert.Mrg.nD Cert.Mrg.τ).loc Cert.Mrg.main_arg1) = m ((c.tc : Thread Cert.Mrg.nD Cert.Mrg.τ).loc Cert.Mrg.main_arg1)
      ∧ r.2.mem ((c.tc : Thread Cert.Mrg.nD Cert.Mrg.τ).loc Cert.Mrg.main_arg2) = m ((c.tc : Thread Cert.Mrg.nD Cert.Mrg.τ).loc Cert.Mrg.main_arg2)
      ∧ r.2.mem ((c.tc : Thread Cert.Mrg.nD Cert.Mrg.τ).loc Cert.Mrg.main_arg3) = m ((c.tc : Thread Cert.Mrg.nD Cert.Mrg.τ).loc Cert.Mrg.main_arg3)
      ∧ r.2.mem ((c.tc : Thread Cert.Mrg.nD Cert.Mrg.τ).loc Cert.Mrg.main_arg4) = m ((c.tc : Thread Cert.Mrg.nD Cert.Mrg.τ).loc Cert.Mrg.main_arg4)
      ∧ r.2.mem ((c.tc : Thread Cert.Mrg.nD Cert.Mrg.τ).loc Cert.Mrg.main_arg5) = m ((c.tc : Thread Cert.Mrg.nD Cert.Mrg.τ).loc Cert.Mrg.main_arg5)
      ∧ r.2.mem ((c.tc : Thread Cert.Mrg.nD Cert.Mrg.τ).loc Cert.Mrg.main_arg6) = m ((c.tc : Thread Cert.Mrg.nD Cert.Mrg.τ).loc Cert.Mrg.main_arg6)
      ∧ r.2.mem ((c.tc : Thread Cert.Mrg.nD Cert.Mrg.τ).loc Cert.Mrg.main_arg7) = m ((c.tc : Thread Cert.Mrg.nD Cert.Mrg.τ).loc Cert.Mrg.main_arg7)
      ∧ r.2.mem ((c.tc : Thread Cert.Mrg.nD Cert.Mrg.τ).loc Cert.Mrg.main_arg8) = m ((c.tc : Thread Cert.Mrg.nD Cert.Mrg.τ).loc Cert.Mrg.main_arg8)
      ∧ r.2.mem ((c.tc : Thread Cert.Mrg.nD Cert.Mrg.τ).loc Cert.Mrg.main_arg9) = m ((c.tc : Thread Cert.Mrg.nD Cert.Mrg.τ).loc Cert.Mrg.main_arg9)
      ∧ r.2.mem ((c.tc : Thread Cert.Mrg.nD Cert.Mrg.τ).loc Cert.Mrg.main_arg10) = m ((c.tc : Thread Cert.Mrg.nD Cert.Mrg.τ).loc Cert.Mrg.main_arg10)
      ∧ r.2.mem ((c.tc : Thread Cert.Mrg.nD Cert.Mrg.τ).loc Cert.Mrg.main_arg11) = m ((c.tc : Thread Cert.Mrg.nD Cert.Mrg.τ).loc Cert.Mrg.main_arg11))
      ∧ r.2.sem = fun _ => 0)

def quiescent_MrgIdeal [hMrgIdeal : Cert.MrgIdeal.Facts] : Prop :=
  ∀ (m : (ℓ : Loc Cert.MrgIdeal.nD Cert.MrgIdeal.τ Cert.MrgIdeal.sig) → Buf (Elt Ideal) ℓ) (g : Dev Cert.MrgIdeal.nD → PrngReg), Pre_MrgIdeal m →
    θ_run (Cert.MrgIdeal.defs (F := Ideal)) (onTc (τ := Cert.MrgIdeal.τ) (Cert.MrgIdeal.main (F := Ideal))) ⟨m, fun _ => 0, g⟩ (fun r => (∀ c : Dev Cert.MrgIdeal.nD,
      r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
      ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
      ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
      ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
      ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
      ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5)
      ∧ r.2.mem ((c.tc : Thread Cert.MrgIdeal.nD Cert.MrgIdeal.τ).loc Cert.MrgIdeal.main_arg6) = m ((c.tc : Thread Cert.MrgIdeal.nD Cert.MrgIdeal.τ).loc Cert.MrgIdeal.main_arg6)
      ∧ r.2.mem ((c.tc : Thread Cert.MrgIdeal.nD Cert.MrgIdeal.τ).loc Cert.MrgIdeal.main_arg7) = m ((c.tc : Thread Cert.MrgIdeal.nD Cert.MrgIdeal.τ).loc Cert.MrgIdeal.main_arg7)
      ∧ r.2.mem ((c.tc : Thread Cert.MrgIdeal.nD Cert.MrgIdeal.τ).loc Cert.MrgIdeal.main_arg8) = m ((c.tc : Thread Cert.MrgIdeal.nD Cert.MrgIdeal.τ).loc Cert.MrgIdeal.main_arg8)
      ∧ r.2.mem ((c.tc : Thread Cert.MrgIdeal.nD Cert.MrgIdeal.τ).loc Cert.MrgIdeal.main_arg9) = m ((c.tc : Thread Cert.MrgIdeal.nD Cert.MrgIdeal.τ).loc Cert.MrgIdeal.main_arg9)
      ∧ r.2.mem ((c.tc : Thread Cert.MrgIdeal.nD Cert.MrgIdeal.τ).loc Cert.MrgIdeal.main_arg10) = m ((c.tc : Thread Cert.MrgIdeal.nD Cert.MrgIdeal.τ).loc Cert.MrgIdeal.main_arg10)
      ∧ r.2.mem ((c.tc : Thread Cert.MrgIdeal.nD Cert.MrgIdeal.τ).loc Cert.MrgIdeal.main_arg11) = m ((c.tc : Thread Cert.MrgIdeal.nD Cert.MrgIdeal.τ).loc Cert.MrgIdeal.main_arg11))
      ∧ r.2.sem = fun _ => 0)

def quiescent_MrgRefIdeal [hMrgRefIdeal : Cert.MrgRefIdeal.Facts] : Prop :=
  ∀ (m : (ℓ : Loc Cert.MrgRefIdeal.nD Cert.MrgRefIdeal.τ Cert.MrgRefIdeal.sig) → Buf (Elt Ideal) ℓ) (g : Dev Cert.MrgRefIdeal.nD → PrngReg), Pre_MrgRefIdeal m →
    θ_run (Cert.MrgRefIdeal.defs (F := Ideal)) (onTc (τ := Cert.MrgRefIdeal.τ) (Cert.MrgRefIdeal.main (F := Ideal))) ⟨m, fun _ => 0, g⟩ (fun r => (∀ c : Dev Cert.MrgRefIdeal.nD,
      r.2.mem ((c.tc : Thread Cert.MrgRefIdeal.nD Cert.MrgRefIdeal.τ).loc Cert.MrgRefIdeal.main_arg0) = m ((c.tc : Thread Cert.MrgRefIdeal.nD Cert.MrgRefIdeal.τ).loc Cert.MrgRefIdeal.main_arg0)
      ∧ r.2.mem ((c.tc : Thread Cert.MrgRefIdeal.nD Cert.MrgRefIdeal.τ).loc Cert.MrgRefIdeal.main_arg1) = m ((c.tc : Thread Cert.MrgRefIdeal.nD Cert.MrgRefIdeal.τ).loc Cert.MrgRefIdeal.main_arg1)
      ∧ r.2.mem ((c.tc : Thread Cert.MrgRefIdeal.nD Cert.MrgRefIdeal.τ).loc Cert.MrgRefIdeal.main_arg2) = m ((c.tc : Thread Cert.MrgRefIdeal.nD Cert.MrgRefIdeal.τ).loc Cert.MrgRefIdeal.main_arg2)
      ∧ r.2.mem ((c.tc : Thread Cert.MrgRefIdeal.nD Cert.MrgRefIdeal.τ).loc Cert.MrgRefIdeal.main_arg3) = m ((c.tc : Thread Cert.MrgRefIdeal.nD Cert.MrgRefIdeal.τ).loc Cert.MrgRefIdeal.main_arg3)
      ∧ r.2.mem ((c.tc : Thread Cert.MrgRefIdeal.nD Cert.MrgRefIdeal.τ).loc Cert.MrgRefIdeal.main_arg4) = m ((c.tc : Thread Cert.MrgRefIdeal.nD Cert.MrgRefIdeal.τ).loc Cert.MrgRefIdeal.main_arg4)
      ∧ r.2.mem ((c.tc : Thread Cert.MrgRefIdeal.nD Cert.MrgRefIdeal.τ).loc Cert.MrgRefIdeal.main_arg5) = m ((c.tc : Thread Cert.MrgRefIdeal.nD Cert.MrgRefIdeal.τ).loc Cert.MrgRefIdeal.main_arg5)
      ∧ r.2.mem ((c.tc : Thread Cert.MrgRefIdeal.nD Cert.MrgRefIdeal.τ).loc Cert.MrgRefIdeal.main_arg6) = m ((c.tc : Thread Cert.MrgRefIdeal.nD Cert.MrgRefIdeal.τ).loc Cert.MrgRefIdeal.main_arg6)
      ∧ r.2.mem ((c.tc : Thread Cert.MrgRefIdeal.nD Cert.MrgRefIdeal.τ).loc Cert.MrgRefIdeal.main_arg7) = m ((c.tc : Thread Cert.MrgRefIdeal.nD Cert.MrgRefIdeal.τ).loc Cert.MrgRefIdeal.main_arg7)
      ∧ r.2.mem ((c.tc : Thread Cert.MrgRefIdeal.nD Cert.MrgRefIdeal.τ).loc Cert.MrgRefIdeal.main_arg8) = m ((c.tc : Thread Cert.MrgRefIdeal.nD Cert.MrgRefIdeal.τ).loc Cert.MrgRefIdeal.main_arg8)
      ∧ r.2.mem ((c.tc : Thread Cert.MrgRefIdeal.nD Cert.MrgRefIdeal.τ).loc Cert.MrgRefIdeal.main_arg9) = m ((c.tc : Thread Cert.MrgRefIdeal.nD Cert.MrgRefIdeal.τ).loc Cert.MrgRefIdeal.main_arg9)
      ∧ r.2.mem ((c.tc : Thread Cert.MrgRefIdeal.nD Cert.MrgRefIdeal.τ).loc Cert.MrgRefIdeal.main_arg10) = m ((c.tc : Thread Cert.MrgRefIdeal.nD Cert.MrgRefIdeal.τ).loc Cert.MrgRefIdeal.main_arg10)
      ∧ r.2.mem ((c.tc : Thread Cert.MrgRefIdeal.nD Cert.MrgRefIdeal.τ).loc Cert.MrgRefIdeal.main_arg11) = m ((c.tc : Thread Cert.MrgRefIdeal.nD Cert.MrgRefIdeal.τ).loc Cert.MrgRefIdeal.main_arg11))
      ∧ r.2.sem = fun _ => 0)

def quiescent_Bia [hBia : Cert.Bia.Facts] : Prop :=
  ∀ (m : (ℓ : Loc Cert.Bia.nD Cert.Bia.τ Cert.Bia.sig) → Buf (Elt Bits) ℓ) (g : Dev Cert.Bia.nD → PrngReg), Pre_Bia m →
    θ_run (Cert.Bia.defs (F := Bits)) (onTc (τ := Cert.Bia.τ) (Cert.Bia.main (F := Bits))) ⟨m, fun _ => 0, g⟩ (fun r => (∀ c : Dev Cert.Bia.nD,
      r.2.mem ((c.tc : Thread Cert.Bia.nD Cert.Bia.τ).loc Cert.Bia.main_arg0) = m ((c.tc : Thread Cert.Bia.nD Cert.Bia.τ).loc Cert.Bia.main_arg0))
      ∧ r.2.sem = fun _ => 0)

def quiescent_BiaIdeal [hBiaIdeal : Cert.BiaIdeal.Facts] : Prop :=
  ∀ (m : (ℓ : Loc Cert.BiaIdeal.nD Cert.BiaIdeal.τ Cert.BiaIdeal.sig) → Buf (Elt Ideal) ℓ) (g : Dev Cert.BiaIdeal.nD → PrngReg), Pre_BiaIdeal m →
    θ_run (Cert.BiaIdeal.defs (F := Ideal)) (onTc (τ := Cert.BiaIdeal.τ) (Cert.BiaIdeal.main (F := Ideal))) ⟨m, fun _ => 0, g⟩ (fun r => (∀ c : Dev Cert.BiaIdeal.nD,
      r.2.mem ((c.tc : Thread Cert.BiaIdeal.nD Cert.BiaIdeal.τ).loc Cert.BiaIdeal.main_arg0) = m ((c.tc : Thread Cert.BiaIdeal.nD Cert.BiaIdeal.τ).loc Cert.BiaIdeal.main_arg0))
      ∧ r.2.sem = fun _ => 0)

def quiescent_BiaRefIdeal [hBiaRefIdeal : Cert.BiaRefIdeal.Facts] : Prop :=
  ∀ (m : (ℓ : Loc Cert.BiaRefIdeal.nD Cert.BiaRefIdeal.τ Cert.BiaRefIdeal.sig) → Buf (Elt Ideal) ℓ) (g : Dev Cert.BiaRefIdeal.nD → PrngReg), Pre_BiaRefIdeal m →
    θ_run (Cert.BiaRefIdeal.defs (F := Ideal)) (onTc (τ := Cert.BiaRefIdeal.τ) (Cert.BiaRefIdeal.main (F := Ideal))) ⟨m, fun _ => 0, g⟩ (fun r => (∀ c : Dev Cert.BiaRefIdeal.nD,
      r.2.mem ((c.tc : Thread Cert.BiaRefIdeal.nD Cert.BiaRefIdeal.τ).loc Cert.BiaRefIdeal.main_arg0) = m ((c.tc : Thread Cert.BiaRefIdeal.nD Cert.BiaRefIdeal.τ).loc Cert.BiaRefIdeal.main_arg0))
      ∧ r.2.sem = fun _ => 0)

def quiescent_Bnd [hBnd : Cert.Bnd.Facts] : Prop :=
  ∀ (m : (ℓ : Loc Cert.Bnd.nD Cert.Bnd.τ Cert.Bnd.sig) → Buf (Elt Bits) ℓ) (g : Dev Cert.Bnd.nD → PrngReg), Pre_Bnd m →
    θ_run (Cert.Bnd.defs (F := Bits)) (onTc (τ := Cert.Bnd.τ) (Cert.Bnd.main (F := Bits))) ⟨m, fun _ => 0, g⟩ (fun r => (∀ c : Dev Cert.Bnd.nD,
      r.2.mem ((c.tc : Thread Cert.Bnd.nD Cert.Bnd.τ).loc Cert.Bnd.main_arg0) = m ((c.tc : Thread Cert.Bnd.nD Cert.Bnd.τ).loc Cert.Bnd.main_arg0)
      ∧ r.2.mem ((c.tc : Thread Cert.Bnd.nD Cert.Bnd.τ).loc Cert.Bnd.main_arg1) = m ((c.tc : Thread Cert.Bnd.nD Cert.Bnd.τ).loc Cert.Bnd.main_arg1)
      ∧ r.2.mem ((c.tc : Thread Cert.Bnd.nD Cert.Bnd.τ).loc Cert.Bnd.main_arg2) = m ((c.tc : Thread Cert.Bnd.nD Cert.Bnd.τ).loc Cert.Bnd.main_arg2)
      ∧ r.2.mem ((c.tc : Thread Cert.Bnd.nD Cert.Bnd.τ).loc Cert.Bnd.main_arg3) = m ((c.tc : Thread Cert.Bnd.nD Cert.Bnd.τ).loc Cert.Bnd.main_arg3))
      ∧ r.2.sem = fun _ => 0)

def quiescent_BndIdeal [hBndIdeal : Cert.BndIdeal.Facts] : Prop :=
  ∀ (m : (ℓ : Loc Cert.BndIdeal.nD Cert.BndIdeal.τ Cert.BndIdeal.sig) → Buf (Elt Ideal) ℓ) (g : Dev Cert.BndIdeal.nD → PrngReg), Pre_BndIdeal m →
    θ_run (Cert.BndIdeal.defs (F := Ideal)) (onTc (τ := Cert.BndIdeal.τ) (Cert.BndIdeal.main (F := Ideal))) ⟨m, fun _ => 0, g⟩ (fun r => (∀ c : Dev Cert.BndIdeal.nD,
      r.2.mem ((c.tc : Thread Cert.BndIdeal.nD Cert.BndIdeal.τ).loc Cert.BndIdeal.main_arg0) = m ((c.tc : Thread Cert.BndIdeal.nD Cert.BndIdeal.τ).loc Cert.BndIdeal.main_arg0)
      ∧ r.2.mem ((c.tc : Thread Cert.BndIdeal.nD Cert.BndIdeal.τ).loc Cert.BndIdeal.main_arg1) = m ((c.tc : Thread Cert.BndIdeal.nD Cert.BndIdeal.τ).loc Cert.BndIdeal.main_arg1)
      ∧ r.2.mem ((c.tc : Thread Cert.BndIdeal.nD Cert.BndIdeal.τ).loc Cert.BndIdeal.main_arg2) = m ((c.tc : Thread Cert.BndIdeal.nD Cert.BndIdeal.τ).loc Cert.BndIdeal.main_arg2)
      ∧ r.2.mem ((c.tc : Thread Cert.BndIdeal.nD Cert.BndIdeal.τ).loc Cert.BndIdeal.main_arg3) = m ((c.tc : Thread Cert.BndIdeal.nD Cert.BndIdeal.τ).loc Cert.BndIdeal.main_arg3))
      ∧ r.2.sem = fun _ => 0)

def quiescent_BndIdeal_pre_band_finite [hBndIdeal : Cert.BndIdeal.Facts] [hPre_band_finite : Cert.Pre_band_finite.Facts] : Prop :=
  ∀ (m : (ℓ : Loc Cert.BndIdeal.nD Cert.BndIdeal.τ Cert.BndIdeal.sig) → Buf (Elt Ideal) ℓ) (g : Dev Cert.BndIdeal.nD → PrngReg), Pre_BndIdeal_band_finite m →
    θ_run (Cert.BndIdeal.defs (F := Ideal)) (onTc (τ := Cert.BndIdeal.τ) (Cert.BndIdeal.main (F := Ideal))) ⟨m, fun _ => 0, g⟩ (fun r => (∀ c : Dev Cert.BndIdeal.nD,
      r.2.mem ((c.tc : Thread Cert.BndIdeal.nD Cert.BndIdeal.τ).loc Cert.BndIdeal.main_arg0) = m ((c.tc : Thread Cert.BndIdeal.nD Cert.BndIdeal.τ).loc Cert.BndIdeal.main_arg0)
      ∧ r.2.mem ((c.tc : Thread Cert.BndIdeal.nD Cert.BndIdeal.τ).loc Cert.BndIdeal.main_arg1) = m ((c.tc : Thread Cert.BndIdeal.nD Cert.BndIdeal.τ).loc Cert.BndIdeal.main_arg1)
      ∧ r.2.mem ((c.tc : Thread Cert.BndIdeal.nD Cert.BndIdeal.τ).loc Cert.BndIdeal.main_arg2) = m ((c.tc : Thread Cert.BndIdeal.nD Cert.BndIdeal.τ).loc Cert.BndIdeal.main_arg2)
      ∧ r.2.mem ((c.tc : Thread Cert.BndIdeal.nD Cert.BndIdeal.τ).loc Cert.BndIdeal.main_arg3) = m ((c.tc : Thread Cert.BndIdeal.nD Cert.BndIdeal.τ).loc Cert.BndIdeal.main_arg3))
      ∧ r.2.sem = fun _ => 0)

def quiescent_BndRefIdeal [hBndRefIdeal : Cert.BndRefIdeal.Facts] : Prop :=
  ∀ (m : (ℓ : Loc Cert.BndRefIdeal.nD Cert.BndRefIdeal.τ Cert.BndRefIdeal.sig) → Buf (Elt Ideal) ℓ) (g : Dev Cert.BndRefIdeal.nD → PrngReg), Pre_BndRefIdeal m →
    θ_run (Cert.BndRefIdeal.defs (F := Ideal)) (onTc (τ := Cert.BndRefIdeal.τ) (Cert.BndRefIdeal.main (F := Ideal))) ⟨m, fun _ => 0, g⟩ (fun r => (∀ c : Dev Cert.BndRefIdeal.nD,
      r.2.mem ((c.tc : Thread Cert.BndRefIdeal.nD Cert.BndRefIdeal.τ).loc Cert.BndRefIdeal.main_arg0) = m ((c.tc : Thread Cert.BndRefIdeal.nD Cert.BndRefIdeal.τ).loc Cert.BndRefIdeal.main_arg0)
      ∧ r.2.mem ((c.tc : Thread Cert.BndRefIdeal.nD Cert.BndRefIdeal.τ).loc Cert.BndRefIdeal.main_arg1) = m ((c.tc : Thread Cert.BndRefIdeal.nD Cert.BndRefIdeal.τ).loc Cert.BndRefIdeal.main_arg1)
      ∧ r.2.mem ((c.tc : Thread Cert.BndRefIdeal.nD Cert.BndRefIdeal.τ).loc Cert.BndRefIdeal.main_arg2) = m ((c.tc : Thread Cert.BndRefIdeal.nD Cert.BndRefIdeal.τ).loc Cert.BndRefIdeal.main_arg2)
      ∧ r.2.mem ((c.tc : Thread Cert.BndRefIdeal.nD Cert.BndRefIdeal.τ).loc Cert.BndRefIdeal.main_arg3) = m ((c.tc : Thread Cert.BndRefIdeal.nD Cert.BndRefIdeal.τ).loc Cert.BndRefIdeal.main_arg3))
      ∧ r.2.sem = fun _ => 0)

def quiescent_BndRefIdeal_pre_band_finite [hBndRefIdeal : Cert.BndRefIdeal.Facts] [hPre_band_finite : Cert.Pre_band_finite.Facts] : Prop :=
  ∀ (m : (ℓ : Loc Cert.BndRefIdeal.nD Cert.BndRefIdeal.τ Cert.BndRefIdeal.sig) → Buf (Elt Ideal) ℓ) (g : Dev Cert.BndRefIdeal.nD → PrngReg), Pre_BndRefIdeal_band_finite m →
    θ_run (Cert.BndRefIdeal.defs (F := Ideal)) (onTc (τ := Cert.BndRefIdeal.τ) (Cert.BndRefIdeal.main (F := Ideal))) ⟨m, fun _ => 0, g⟩ (fun r => (∀ c : Dev Cert.BndRefIdeal.nD,
      r.2.mem ((c.tc : Thread Cert.BndRefIdeal.nD Cert.BndRefIdeal.τ).loc Cert.BndRefIdeal.main_arg0) = m ((c.tc : Thread Cert.BndRefIdeal.nD Cert.BndRefIdeal.τ).loc Cert.BndRefIdeal.main_arg0)
      ∧ r.2.mem ((c.tc : Thread Cert.BndRefIdeal.nD Cert.BndRefIdeal.τ).loc Cert.BndRefIdeal.main_arg1) = m ((c.tc : Thread Cert.BndRefIdeal.nD Cert.BndRefIdeal.τ).loc Cert.BndRefIdeal.main_arg1)
      ∧ r.2.mem ((c.tc : Thread Cert.BndRefIdeal.nD Cert.BndRefIdeal.τ).loc Cert.BndRefIdeal.main_arg2) = m ((c.tc : Thread Cert.BndRefIdeal.nD Cert.BndRefIdeal.τ).loc Cert.BndRefIdeal.main_arg2)
      ∧ r.2.mem ((c.tc : Thread Cert.BndRefIdeal.nD Cert.BndRefIdeal.τ).loc Cert.BndRefIdeal.main_arg3) = m ((c.tc : Thread Cert.BndRefIdeal.nD Cert.BndRefIdeal.τ).loc Cert.BndRefIdeal.main_arg3))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)) (v3 : (c : Dev Cert.QkvIdeal.nD) → Buf (Elt Ideal) ((c.tc : Thread Cert.QkvIdeal.nD Cert.QkvIdeal.τ).loc Cert.QkvIdeal.main_v5_3)) (v4 : (c : Dev Cert.QkvIdeal.nD) → Buf (Elt Ideal) ((c.tc : Thread Cert.QkvIdeal.nD Cert.QkvIdeal.τ).loc Cert.QkvIdeal.main_v5_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_v5_3) = v3 c
          ∧ r.2.mem ((c.tc : Thread Cert.QkvIdeal.nD Cert.QkvIdeal.τ).loc Cert.QkvIdeal.main_v5_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v28) = v0 c
          ∧ r.2.mem ((c.tc : Thread Cert.QkvRefIdeal.nD Cert.QkvRefIdeal.τ).loc Cert.QkvRefIdeal.main_v30) = v1 c
          ∧ r.2.mem ((c.tc : Thread Cert.QkvRefIdeal.nD Cert.QkvRefIdeal.τ).loc Cert.QkvRefIdeal.main_v32) = v2 c
          ∧ r.2.mem ((c.tc : Thread Cert.QkvRefIdeal.nD Cert.QkvRefIdeal.τ).loc Cert.QkvRefIdeal.main_v33) = v3 c
          ∧ r.2.mem ((c.tc : Thread Cert.QkvRefIdeal.nD Cert.QkvRefIdeal.τ).loc Cert.QkvRefIdeal.main_v34) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Qks_QksIdeal : Prop :=
  True

def algebraic_QksIdeal_QksRefIdeal [hQksIdeal : Cert.QksIdeal.Facts] [hQksRefIdeal : Cert.QksRefIdeal.Facts] : Prop :=
  ∀ (m : (ℓ : Loc Cert.QksIdeal.nD Cert.QksIdeal.τ Cert.QksIdeal.sig) → Buf (Elt Ideal) ℓ) (g : Dev Cert.QksIdeal.nD → PrngReg)
    (m' : (ℓ : Loc Cert.QksRefIdeal.nD Cert.QksRefIdeal.τ Cert.QksRefIdeal.sig) → Buf (Elt Ideal) ℓ) (g' : Dev Cert.QksRefIdeal.nD → PrngReg), Pre_QksIdeal m →
    (∀ c : Dev Cert.QksIdeal.nD,
      m' ((c.tc : Thread Cert.QksRefIdeal.nD Cert.QksRefIdeal.τ).loc Cert.QksRefIdeal.main_arg0) = m ((c.tc : Thread Cert.QksIdeal.nD Cert.QksIdeal.τ).loc Cert.QksIdeal.main_arg0)
      ∧ m' ((c.tc : Thread Cert.QksRefIdeal.nD Cert.QksRefIdeal.τ).loc Cert.QksRefIdeal.main_arg1) = m ((c.tc : Thread Cert.QksIdeal.nD Cert.QksIdeal.τ).loc Cert.QksIdeal.main_arg1)
      ∧ m' ((c.tc : Thread Cert.QksRefIdeal.nD Cert.QksRefIdeal.τ).loc Cert.QksRefIdeal.main_arg2) = m ((c.tc : Thread Cert.QksIdeal.nD Cert.QksIdeal.τ).loc Cert.QksIdeal.main_arg2)
      ∧ m' ((c.tc : Thread Cert.QksRefIdeal.nD Cert.QksRefIdeal.τ).loc Cert.QksRefIdeal.main_arg3) = m ((c.tc : Thread Cert.QksIdeal.nD Cert.QksIdeal.τ).loc Cert.QksIdeal.main_arg3)
      ∧ m' ((c.tc : Thread Cert.QksRefIdeal.nD Cert.QksRefIdeal.τ).loc Cert.QksRefIdeal.main_arg4) = m ((c.tc : Thread Cert.QksIdeal.nD Cert.QksIdeal.τ).loc Cert.QksIdeal.main_arg4)) →
    ∃ (v0 : (c : Dev Cert.QksIdeal.nD) → Buf (Elt Ideal) ((c.tc : Thread Cert.QksIdeal.nD Cert.QksIdeal.τ).loc Cert.QksIdeal.main_v5_0)) (v1 : (c : Dev Cert.QksIdeal.nD) → Buf (Elt Ideal) ((c.tc : Thread Cert.QksIdeal.nD Cert.QksIdeal.τ).loc Cert.QksIdeal.main_v10)) (v2 : (c : Dev Cert.QksIdeal.nD) → Buf (Elt Ideal) ((c.tc : Thread Cert.QksIdeal.nD Cert.QksIdeal.τ).loc Cert.QksIdeal.main_v15)) (v3 : (c : Dev Cert.QksIdeal.nD) → Buf (Elt Ideal) ((c.tc : Thread Cert.QksIdeal.nD Cert.QksIdeal.τ).loc Cert.QksIdeal.main_v17)) (v4 : (c : Dev Cert.QksIdeal.nD) → Buf (Elt Ideal) ((c.tc : Thread Cert.QksIdeal.nD Cert.QksIdeal.τ).loc Cert.QksIdeal.main_v19)),
      θ_run (Cert.QksIdeal.defs (F := Ideal)) (onTc (τ := Cert.QksIdeal.τ) (Cert.QksIdeal.main (F := Ideal))) ⟨m, fun _ => 0, g⟩ (fun r => ∀ c : Dev Cert.QksIdeal.nD,
          r.2.mem ((c.tc : Thread Cert.QksIdeal.nD Cert.QksIdeal.τ).loc Cert.QksIdeal.main_v5_0) = v0 c
          ∧ r.2.mem ((c.tc : Thread Cert.QksIdeal.nD Cert.QksIdeal.τ).loc Cert.QksIdeal.main_v10) = v1 c
          ∧ r.2.mem ((c.tc : Thread Cert.QksIdeal.nD Cert.QksIdeal.τ).loc Cert.QksIdeal.main_v15) = v2 c
          ∧ r.2.mem ((c.tc : Thread Cert.QksIdeal.nD Cert.QksIdeal.τ).loc Cert.QksIdeal.main_v17) = v3 c
          ∧ r.2.mem ((c.tc : Thread Cert.QksIdeal.nD Cert.QksIdeal.τ).loc Cert.QksIdeal.main_v19) = v4 c
          ∧ r.2.mem ((c.tc : Thread Cert.QksIdeal.nD Cert.QksIdeal.τ).loc Cert.QksIdeal.main_arg0) = m ((c.tc : Thread Cert.QksIdeal.nD Cert.QksIdeal.τ).loc Cert.QksIdeal.main_arg0)
          ∧ r.2.mem ((c.tc : Thread Cert.QksIdeal.nD Cert.QksIdeal.τ).loc Cert.QksIdeal.main_arg1) = m ((c.tc : Thread Cert.QksIdeal.nD Cert.QksIdeal.τ).loc Cert.QksIdeal.main_arg1)
          ∧ r.2.mem ((c.tc : Thread Cert.QksIdeal.nD Cert.QksIdeal.τ).loc Cert.QksIdeal.main_arg2) = m ((c.tc : Thread Cert.QksIdeal.nD Cert.QksIdeal.τ).loc Cert.QksIdeal.main_arg2)
          ∧ r.2.mem ((c.tc : Thread Cert.QksIdeal.nD Cert.QksIdeal.τ).loc Cert.QksIdeal.main_arg3) = m ((c.tc : Thread Cert.QksIdeal.nD Cert.QksIdeal.τ).loc Cert.QksIdeal.main_arg3)
          ∧ r.2.mem ((c.tc : Thread Cert.QksIdeal.nD Cert.QksIdeal.τ).loc Cert.QksIdeal.main_arg4) = m ((c.tc : Thread Cert.QksIdeal.nD Cert.QksIdeal.τ).loc Cert.QksIdeal.main_arg4))
      ∧ θ_run (Cert.QksRefIdeal.defs (F := Ideal)) (onTc (τ := Cert.QksRefIdeal.τ) (Cert.QksRefIdeal.main (F := Ideal))) ⟨m', fun _ => 0, g'⟩ (fun r => ∀ c : Dev Cert.QksRefIdeal.nD,
          r.2.mem ((c.tc : Thread Cert.QksRefIdeal.nD Cert.QksRefIdeal.τ).loc Cert.QksRefIdeal.main_v28) = v0 c
          ∧ r.2.mem ((c.tc : Thread Cert.QksRefIdeal.nD Cert.QksRefIdeal.τ).loc Cert.QksRefIdeal.main_v33) = v1 c
          ∧ r.2.mem ((c.tc : Thread Cert.QksRefIdeal.nD Cert.QksRefIdeal.τ).loc Cert.QksRefIdeal.main_v38) = v2 c
          ∧ r.2.mem ((c.tc : Thread Cert.QksRefIdeal.nD Cert.QksRefIdeal.τ).loc Cert.QksRefIdeal.main_v40) = v3 c
          ∧ r.2.mem ((c.tc : Thread Cert.QksRefIdeal.nD Cert.QksRefIdeal.τ).loc Cert.QksRefIdeal.main_v42) = v4 c
          ∧ r.2.mem ((c.tc : Thread Cert.QksRefIdeal.nD Cert.QksRefIdeal.τ).loc Cert.QksRefIdeal.main_arg0) = m' ((c.tc : Thread Cert.QksRefIdeal.nD Cert.QksRefIdeal.τ).loc Cert.QksRefIdeal.main_arg0)
          ∧ r.2.mem ((c.tc : Thread Cert.QksRefIdeal.nD Cert.QksRefIdeal.τ).loc Cert.QksRefIdeal.main_arg1) = m' ((c.tc : Thread Cert.QksRefIdeal.nD Cert.QksRefIdeal.τ).loc Cert.QksRefIdeal.main_arg1)
          ∧ r.2.mem ((c.tc : Thread Cert.QksRefIdeal.nD Cert.QksRefIdeal.τ).loc Cert.QksRefIdeal.main_arg2) = m' ((c.tc : Thread Cert.QksRefIdeal.nD Cert.QksRefIdeal.τ).loc Cert.QksRefIdeal.main_arg2)
          ∧ r.2.mem ((c.tc : Thread Cert.QksRefIdeal.nD Cert.QksRefIdeal.τ).loc Cert.QksRefIdeal.main_arg3) = m' ((c.tc : Thread Cert.QksRefIdeal.nD Cert.QksRefIdeal.τ).loc Cert.QksRefIdeal.main_arg3)
          ∧ r.2.mem ((c.tc : Thread Cert.QksRefIdeal.nD Cert.QksRefIdeal.τ).loc Cert.QksRefIdeal.main_arg4) = m' ((c.tc : Thread Cert.QksRefIdeal.nD Cert.QksRefIdeal.τ).loc Cert.QksRefIdeal.main_arg4))

def preserves_Ffn_FfnIdeal : Prop :=
  True

def algebraic_FfnIdeal_FfnRefIdeal [hFfnIdeal : Cert.FfnIdeal.Facts] [hFfnRefIdeal : Cert.FfnRefIdeal.Facts] [hPre_ffn_tables : Cert.Pre_ffn_tables.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v84) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Mrg_MrgIdeal : Prop :=
  True

def algebraic_MrgIdeal_MrgRefIdeal [hMrgIdeal : Cert.MrgIdeal.Facts] [hMrgRefIdeal : Cert.MrgRefIdeal.Facts] : Prop :=
  ∀ (m : (ℓ : Loc Cert.MrgIdeal.nD Cert.MrgIdeal.τ Cert.MrgIdeal.sig) → Buf (Elt Ideal) ℓ) (g : Dev Cert.MrgIdeal.nD → PrngReg)
    (m' : (ℓ : Loc Cert.MrgRefIdeal.nD Cert.MrgRefIdeal.τ Cert.MrgRefIdeal.sig) → Buf (Elt Ideal) ℓ) (g' : Dev Cert.MrgRefIdeal.nD → PrngReg), Pre_MrgIdeal m →
    (∀ c : Dev Cert.MrgIdeal.nD,
      m' ((c.tc : Thread Cert.MrgRefIdeal.nD Cert.MrgRefIdeal.τ).loc Cert.MrgRefIdeal.main_arg0) = m ((c.tc : Thread Cert.MrgIdeal.nD Cert.MrgIdeal.τ).loc Cert.MrgIdeal.main_arg0)
      ∧ m' ((c.tc : Thread Cert.MrgRefIdeal.nD Cert.MrgRefIdeal.τ).loc Cert.MrgRefIdeal.main_arg1) = m ((c.tc : Thread Cert.MrgIdeal.nD Cert.MrgIdeal.τ).loc Cert.MrgIdeal.main_arg1)
      ∧ m' ((c.tc : Thread Cert.MrgRefIdeal.nD Cert.MrgRefIdeal.τ).loc Cert.MrgRefIdeal.main_arg2) = m ((c.tc : Thread Cert.MrgIdeal.nD Cert.MrgIdeal.τ).loc Cert.MrgIdeal.main_arg2)
      ∧ m' ((c.tc : Thread Cert.MrgRefIdeal.nD Cert.MrgRefIdeal.τ).loc Cert.MrgRefIdeal.main_arg3) = m ((c.tc : Thread Cert.MrgIdeal.nD Cert.MrgIdeal.τ).loc Cert.MrgIdeal.main_arg3)
      ∧ m' ((c.tc : Thread Cert.MrgRefIdeal.nD Cert.MrgRefIdeal.τ).loc Cert.MrgRefIdeal.main_arg4) = m ((c.tc : Thread Cert.MrgIdeal.nD Cert.MrgIdeal.τ).loc Cert.MrgIdeal.main_arg4)
      ∧ m' ((c.tc : Thread Cert.MrgRefIdeal.nD Cert.MrgRefIdeal.τ).loc Cert.MrgRefIdeal.main_arg5) = m ((c.tc : Thread Cert.MrgIdeal.nD Cert.MrgIdeal.τ).loc Cert.MrgIdeal.main_arg5)
      ∧ m' ((c.tc : Thread Cert.MrgRefIdeal.nD Cert.MrgRefIdeal.τ).loc Cert.MrgRefIdeal.main_arg6) = m ((c.tc : Thread Cert.MrgIdeal.nD Cert.MrgIdeal.τ).loc Cert.MrgIdeal.main_arg6)
      ∧ m' ((c.tc : Thread Cert.MrgRefIdeal.nD Cert.MrgRefIdeal.τ).loc Cert.MrgRefIdeal.main_arg7) = m ((c.tc : Thread Cert.MrgIdeal.nD Cert.MrgIdeal.τ).loc Cert.MrgIdeal.main_arg7)
      ∧ m' ((c.tc : Thread Cert.MrgRefIdeal.nD Cert.MrgRefIdeal.τ).loc Cert.MrgRefIdeal.main_arg8) = m ((c.tc : Thread Cert.MrgIdeal.nD Cert.MrgIdeal.τ).loc Cert.MrgIdeal.main_arg8)
      ∧ m' ((c.tc : Thread Cert.MrgRefIdeal.nD Cert.MrgRefIdeal.τ).loc Cert.MrgRefIdeal.main_arg9) = m ((c.tc : Thread Cert.MrgIdeal.nD Cert.MrgIdeal.τ).loc Cert.MrgIdeal.main_arg9)
      ∧ m' ((c.tc : Thread Cert.MrgRefIdeal.nD Cert.MrgRefIdeal.τ).loc Cert.MrgRefIdeal.main_arg10) = m ((c.tc : Thread Cert.MrgIdeal.nD Cert.MrgIdeal.τ).loc Cert.MrgIdeal.main_arg10)
      ∧ m' ((c.tc : Thread Cert.MrgRefIdeal.nD Cert.MrgRefIdeal.τ).loc Cert.MrgRefIdeal.main_arg11) = m ((c.tc : Thread Cert.MrgIdeal.nD Cert.MrgIdeal.τ).loc Cert.MrgIdeal.main_arg11)) →
    ∃ (v0 : (c : Dev Cert.MrgIdeal.nD) → Buf (Elt Ideal) ((c.tc : Thread Cert.MrgIdeal.nD Cert.MrgIdeal.τ).loc Cert.MrgIdeal.main_v5_0)),
      θ_run (Cert.MrgIdeal.defs (F := Ideal)) (onTc (τ := Cert.MrgIdeal.τ) (Cert.MrgIdeal.main (F := Ideal))) ⟨m, fun _ => 0, g⟩ (fun r => ∀ c : Dev Cert.MrgIdeal.nD,
          r.2.mem ((c.tc : Thread Cert.MrgIdeal.nD Cert.MrgIdeal.τ).loc Cert.MrgIdeal.main_v5_0) = v0 c
          ∧ r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
          ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
          ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
          ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
          ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
          ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5)
          ∧ r.2.mem ((c.tc : Thread Cert.MrgIdeal.nD Cert.MrgIdeal.τ).loc Cert.MrgIdeal.main_arg6) = m ((c.tc : Thread Cert.MrgIdeal.nD Cert.MrgIdeal.τ).loc Cert.MrgIdeal.main_arg6)
          ∧ r.2.mem ((c.tc : Thread Cert.MrgIdeal.nD Cert.MrgIdeal.τ).loc Cert.MrgIdeal.main_arg7) = m ((c.tc : Thread Cert.MrgIdeal.nD Cert.MrgIdeal.τ).loc Cert.MrgIdeal.main_arg7)
          ∧ r.2.mem ((c.tc : Thread Cert.MrgIdeal.nD Cert.MrgIdeal.τ).loc Cert.MrgIdeal.main_arg8) = m ((c.tc : Thread Cert.MrgIdeal.nD Cert.MrgIdeal.τ).loc Cert.MrgIdeal.main_arg8)
          ∧ r.2.mem ((c.tc : Thread Cert.MrgIdeal.nD Cert.MrgIdeal.τ).loc Cert.MrgIdeal.main_arg9) = m ((c.tc : Thread Cert.MrgIdeal.nD Cert.MrgIdeal.τ).loc Cert.MrgIdeal.main_arg9)
          ∧ r.2.mem ((c.tc : Thread Cert.MrgIdeal.nD Cert.MrgIdeal.τ).loc Cert.MrgIdeal.main_arg10) = m ((c.tc : Thread Cert.MrgIdeal.nD Cert.MrgIdeal.τ).loc Cert.MrgIdeal.main_arg10)
          ∧ r.2.mem ((c.tc : Thread Cert.MrgIdeal.nD Cert.MrgIdeal.τ).loc Cert.MrgIdeal.main_arg11) = m ((c.tc : Thread Cert.MrgIdeal.nD Cert.MrgIdeal.τ).loc Cert.MrgIdeal.main_arg11))
      ∧ θ_run (Cert.MrgRefIdeal.defs (F := Ideal)) (onTc (τ := Cert.MrgRefIdeal.τ) (Cert.MrgRefIdeal.main (F := Ideal))) ⟨m', fun _ => 0, g'⟩ (fun r => ∀ c : Dev Cert.MrgRefIdeal.nD,
          r.2.mem ((c.tc : Thread Cert.MrgRefIdeal.nD Cert.MrgRefIdeal.τ).loc Cert.MrgRefIdeal.main_v58) = v0 c
          ∧ r.2.mem ((c.tc : Thread Cert.MrgRefIdeal.nD Cert.MrgRefIdeal.τ).loc Cert.MrgRefIdeal.main_arg0) = m' ((c.tc : Thread Cert.MrgRefIdeal.nD Cert.MrgRefIdeal.τ).loc Cert.MrgRefIdeal.main_arg0)
          ∧ r.2.mem ((c.tc : Thread Cert.MrgRefIdeal.nD Cert.MrgRefIdeal.τ).loc Cert.MrgRefIdeal.main_arg1) = m' ((c.tc : Thread Cert.MrgRefIdeal.nD Cert.MrgRefIdeal.τ).loc Cert.MrgRefIdeal.main_arg1)
          ∧ r.2.mem ((c.tc : Thread Cert.MrgRefIdeal.nD Cert.MrgRefIdeal.τ).loc Cert.MrgRefIdeal.main_arg2) = m' ((c.tc : Thread Cert.MrgRefIdeal.nD Cert.MrgRefIdeal.τ).loc Cert.MrgRefIdeal.main_arg2)
          ∧ r.2.mem ((c.tc : Thread Cert.MrgRefIdeal.nD Cert.MrgRefIdeal.τ).loc Cert.MrgRefIdeal.main_arg3) = m' ((c.tc : Thread Cert.MrgRefIdeal.nD Cert.MrgRefIdeal.τ).loc Cert.MrgRefIdeal.main_arg3)
          ∧ r.2.mem ((c.tc : Thread Cert.MrgRefIdeal.nD Cert.MrgRefIdeal.τ).loc Cert.MrgRefIdeal.main_arg4) = m' ((c.tc : Thread Cert.MrgRefIdeal.nD Cert.MrgRefIdeal.τ).loc Cert.MrgRefIdeal.main_arg4)
          ∧ r.2.mem ((c.tc : Thread Cert.MrgRefIdeal.nD Cert.MrgRefIdeal.τ).loc Cert.MrgRefIdeal.main_arg5) = m' ((c.tc : Thread Cert.MrgRefIdeal.nD Cert.MrgRefIdeal.τ).loc Cert.MrgRefIdeal.main_arg5)
          ∧ r.2.mem ((c.tc : Thread Cert.MrgRefIdeal.nD Cert.MrgRefIdeal.τ).loc Cert.MrgRefIdeal.main_arg6) = m' ((c.tc : Thread Cert.MrgRefIdeal.nD Cert.MrgRefIdeal.τ).loc Cert.MrgRefIdeal.main_arg6)
          ∧ r.2.mem ((c.tc : Thread Cert.MrgRefIdeal.nD Cert.MrgRefIdeal.τ).loc Cert.MrgRefIdeal.main_arg7) = m' ((c.tc : Thread Cert.MrgRefIdeal.nD Cert.MrgRefIdeal.τ).loc Cert.MrgRefIdeal.main_arg7)
          ∧ r.2.mem ((c.tc : Thread Cert.MrgRefIdeal.nD Cert.MrgRefIdeal.τ).loc Cert.MrgRefIdeal.main_arg8) = m' ((c.tc : Thread Cert.MrgRefIdeal.nD Cert.MrgRefIdeal.τ).loc Cert.MrgRefIdeal.main_arg8)
          ∧ r.2.mem ((c.tc : Thread Cert.MrgRefIdeal.nD Cert.MrgRefIdeal.τ).loc Cert.MrgRefIdeal.main_arg9) = m' ((c.tc : Thread Cert.MrgRefIdeal.nD Cert.MrgRefIdeal.τ).loc Cert.MrgRefIdeal.main_arg9)
          ∧ r.2.mem ((c.tc : Thread Cert.MrgRefIdeal.nD Cert.MrgRefIdeal.τ).loc Cert.MrgRefIdeal.main_arg10) = m' ((c.tc : Thread Cert.MrgRefIdeal.nD Cert.MrgRefIdeal.τ).loc Cert.MrgRefIdeal.main_arg10)
          ∧ r.2.mem ((c.tc : Thread Cert.MrgRefIdeal.nD Cert.MrgRefIdeal.τ).loc Cert.MrgRefIdeal.main_arg11) = m' ((c.tc : Thread Cert.MrgRefIdeal.nD Cert.MrgRefIdeal.τ).loc Cert.MrgRefIdeal.main_arg11))

def preserves_Bia_BiaIdeal : Prop :=
  True

def algebraic_BiaIdeal_BiaRefIdeal [hBiaIdeal : Cert.BiaIdeal.Facts] [hBiaRefIdeal : Cert.BiaRefIdeal.Facts] : Prop :=
  ∀ (m : (ℓ : Loc Cert.BiaIdeal.nD Cert.BiaIdeal.τ Cert.BiaIdeal.sig) → Buf (Elt Ideal) ℓ) (g : Dev Cert.BiaIdeal.nD → PrngReg)
    (m' : (ℓ : Loc Cert.BiaRefIdeal.nD Cert.BiaRefIdeal.τ Cert.BiaRefIdeal.sig) → Buf (Elt Ideal) ℓ) (g' : Dev Cert.BiaRefIdeal.nD → PrngReg), Pre_BiaIdeal m →
    (∀ c : Dev Cert.BiaIdeal.nD,
      m' ((c.tc : Thread Cert.BiaRefIdeal.nD Cert.BiaRefIdeal.τ).loc Cert.BiaRefIdeal.main_arg0) = m ((c.tc : Thread Cert.BiaIdeal.nD Cert.BiaIdeal.τ).loc Cert.BiaIdeal.main_arg0)) →
    ∃ (v0 : (c : Dev Cert.BiaIdeal.nD) → Buf (Elt Ideal) ((c.tc : Thread Cert.BiaIdeal.nD Cert.BiaIdeal.τ).loc Cert.BiaIdeal.main_v0)),
      θ_run (Cert.BiaIdeal.defs (F := Ideal)) (onTc (τ := Cert.BiaIdeal.τ) (Cert.BiaIdeal.main (F := Ideal))) ⟨m, fun _ => 0, g⟩ (fun r => ∀ c : Dev Cert.BiaIdeal.nD,
          r.2.mem ((c.tc : Thread Cert.BiaIdeal.nD Cert.BiaIdeal.τ).loc Cert.BiaIdeal.main_v0) = v0 c
          ∧ r.2.mem ((c.tc : Thread Cert.BiaIdeal.nD Cert.BiaIdeal.τ).loc Cert.BiaIdeal.main_arg0) = m ((c.tc : Thread Cert.BiaIdeal.nD Cert.BiaIdeal.τ).loc Cert.BiaIdeal.main_arg0))
      ∧ θ_run (Cert.BiaRefIdeal.defs (F := Ideal)) (onTc (τ := Cert.BiaRefIdeal.τ) (Cert.BiaRefIdeal.main (F := Ideal))) ⟨m', fun _ => 0, g'⟩ (fun r => ∀ c : Dev Cert.BiaRefIdeal.nD,
          r.2.mem ((c.tc : Thread Cert.BiaRefIdeal.nD Cert.BiaRefIdeal.τ).loc Cert.BiaRefIdeal.main_v18) = v0 c
          ∧ r.2.mem ((c.tc : Thread Cert.BiaRefIdeal.nD Cert.BiaRefIdeal.τ).loc Cert.BiaRefIdeal.main_arg0) = m' ((c.tc : Thread Cert.BiaRefIdeal.nD Cert.BiaRefIdeal.τ).loc Cert.BiaRefIdeal.main_arg0))

def preserves_Bnd_BndIdeal : Prop :=
  True

def algebraic_BndIdeal_BndRefIdeal_pre_band_finite [hBndIdeal : Cert.BndIdeal.Facts] [hBndRefIdeal : Cert.BndRefIdeal.Facts] [hPre_band_finite : Cert.Pre_band_finite.Facts] : Prop :=
  ∀ (m : (ℓ : Loc Cert.BndIdeal.nD Cert.BndIdeal.τ Cert.BndIdeal.sig) → Buf (Elt Ideal) ℓ) (g : Dev Cert.BndIdeal.nD → PrngReg)
    (m' : (ℓ : Loc Cert.BndRefIdeal.nD Cert.BndRefIdeal.τ Cert.BndRefIdeal.sig) → Buf (Elt Ideal) ℓ) (g' : Dev Cert.BndRefIdeal.nD → PrngReg), Pre_BndIdeal_band_finite m →
    (∀ c : Dev Cert.BndIdeal.nD,
      m' ((c.tc : Thread Cert.BndRefIdeal.nD Cert.BndRefIdeal.τ).loc Cert.BndRefIdeal.main_arg0) = m ((c.tc : Thread Cert.BndIdeal.nD Cert.BndIdeal.τ).loc Cert.BndIdeal.main_arg0)
      ∧ m' ((c.tc : Thread Cert.BndRefIdeal.nD Cert.BndRefIdeal.τ).loc Cert.BndRefIdeal.main_arg1) = m ((c.tc : Thread Cert.BndIdeal.nD Cert.BndIdeal.τ).loc Cert.BndIdeal.main_arg1)
      ∧ m' ((c.tc : Thread Cert.BndRefIdeal.nD Cert.BndRefIdeal.τ).loc Cert.BndRefIdeal.main_arg2) = m ((c.tc : Thread Cert.BndIdeal.nD Cert.BndIdeal.τ).loc Cert.BndIdeal.main_arg2)
      ∧ m' ((c.tc : Thread Cert.BndRefIdeal.nD Cert.BndRefIdeal.τ).loc Cert.BndRefIdeal.main_arg3) = m ((c.tc : Thread Cert.BndIdeal.nD Cert.BndIdeal.τ).loc Cert.BndIdeal.main_arg3)) →
    ∃ (v0 : (c : Dev Cert.BndIdeal.nD) → Buf (Elt Ideal) ((c.tc : Thread Cert.BndIdeal.nD Cert.BndIdeal.τ).loc Cert.BndIdeal.main_v0)),
      θ_run (Cert.BndIdeal.defs (F := Ideal)) (onTc (τ := Cert.BndIdeal.τ) (Cert.BndIdeal.main (F := Ideal))) ⟨m, fun _ => 0, g⟩ (fun r => ∀ c : Dev Cert.BndIdeal.nD,
          r.2.mem ((c.tc : Thread Cert.BndIdeal.nD Cert.BndIdeal.τ).loc Cert.BndIdeal.main_v0) = v0 c
          ∧ r.2.mem ((c.tc : Thread Cert.BndIdeal.nD Cert.BndIdeal.τ).loc Cert.BndIdeal.main_arg0) = m ((c.tc : Thread Cert.BndIdeal.nD Cert.BndIdeal.τ).loc Cert.BndIdeal.main_arg0)
          ∧ r.2.mem ((c.tc : Thread Cert.BndIdeal.nD Cert.BndIdeal.τ).loc Cert.BndIdeal.main_arg1) = m ((c.tc : Thread Cert.BndIdeal.nD Cert.BndIdeal.τ).loc Cert.BndIdeal.main_arg1)
          ∧ r.2.mem ((c.tc : Thread Cert.BndIdeal.nD Cert.BndIdeal.τ).loc Cert.BndIdeal.main_arg2) = m ((c.tc : Thread Cert.BndIdeal.nD Cert.BndIdeal.τ).loc Cert.BndIdeal.main_arg2)
          ∧ r.2.mem ((c.tc : Thread Cert.BndIdeal.nD Cert.BndIdeal.τ).loc Cert.BndIdeal.main_arg3) = m ((c.tc : Thread Cert.BndIdeal.nD Cert.BndIdeal.τ).loc Cert.BndIdeal.main_arg3))
      ∧ θ_run (Cert.BndRefIdeal.defs (F := Ideal)) (onTc (τ := Cert.BndRefIdeal.τ) (Cert.BndRefIdeal.main (F := Ideal))) ⟨m', fun _ => 0, g'⟩ (fun r => ∀ c : Dev Cert.BndRefIdeal.nD,
          r.2.mem ((c.tc : Thread Cert.BndRefIdeal.nD Cert.BndRefIdeal.τ).loc Cert.BndRefIdeal.main_v26) = v0 c
          ∧ r.2.mem ((c.tc : Thread Cert.BndRefIdeal.nD Cert.BndRefIdeal.τ).loc Cert.BndRefIdeal.main_arg0) = m' ((c.tc : Thread Cert.BndRefIdeal.nD Cert.BndRefIdeal.τ).loc Cert.BndRefIdeal.main_arg0)
          ∧ r.2.mem ((c.tc : Thread Cert.BndRefIdeal.nD Cert.BndRefIdeal.τ).loc Cert.BndRefIdeal.main_arg1) = m' ((c.tc : Thread Cert.BndRefIdeal.nD Cert.BndRefIdeal.τ).loc Cert.BndRefIdeal.main_arg1)
          ∧ r.2.mem ((c.tc : Thread Cert.BndRefIdeal.nD Cert.BndRefIdeal.τ).loc Cert.BndRefIdeal.main_arg2) = m' ((c.tc : Thread Cert.BndRefIdeal.nD Cert.BndRefIdeal.τ).loc Cert.BndRefIdeal.main_arg2)
          ∧ r.2.mem ((c.tc : Thread Cert.BndRefIdeal.nD Cert.BndRefIdeal.τ).loc Cert.BndRefIdeal.main_arg3) = m' ((c.tc : Thread Cert.BndRefIdeal.nD Cert.BndRefIdeal.τ).loc Cert.BndRefIdeal.main_arg3))

def Claim : Prop :=
  ∃ (hQkv : Cert.Qkv.Facts) (hQkvIdeal : Cert.QkvIdeal.Facts) (hQkvRefIdeal : Cert.QkvRefIdeal.Facts) (hQks : Cert.Qks.Facts) (hQksIdeal : Cert.QksIdeal.Facts) (hQksRefIdeal : Cert.QksRefIdeal.Facts) (hFfn : Cert.Ffn.Facts) (hFfnIdeal : Cert.FfnIdeal.Facts) (hFfnRefIdeal : Cert.FfnRefIdeal.Facts) (hMrg : Cert.Mrg.Facts) (hMrgIdeal : Cert.MrgIdeal.Facts) (hMrgRefIdeal : Cert.MrgRefIdeal.Facts) (hBia : Cert.Bia.Facts) (hBiaIdeal : Cert.BiaIdeal.Facts) (hBiaRefIdeal : Cert.BiaRefIdeal.Facts) (hBnd : Cert.Bnd.Facts) (hBndIdeal : Cert.BndIdeal.Facts) (hBndRefIdeal : Cert.BndRefIdeal.Facts) (hPre_ffn_tables : Cert.Pre_ffn_tables.Facts) (hPre_band_finite : Cert.Pre_band_finite.Facts),
    quiescent_Qkv (hQkv := hQkv)
    ∧ quiescent_QkvIdeal (hQkvIdeal := hQkvIdeal)
    ∧ quiescent_QkvRefIdeal (hQkvRefIdeal := hQkvRefIdeal)
    ∧ quiescent_Qks (hQks := hQks)
    ∧ quiescent_QksIdeal (hQksIdeal := hQksIdeal)
    ∧ quiescent_QksRefIdeal (hQksRefIdeal := hQksRefIdeal)
    ∧ quiescent_Ffn (hFfn := hFfn) (hPre_ffn_tables := hPre_ffn_tables)
    ∧ quiescent_FfnIdeal (hFfnIdeal := hFfnIdeal) (hPre_ffn_tables := hPre_ffn_tables)
    ∧ quiescent_FfnRefIdeal (hFfnRefIdeal := hFfnRefIdeal) (hPre_ffn_tables := hPre_ffn_tables)
    ∧ quiescent_Mrg (hMrg := hMrg)
    ∧ quiescent_MrgIdeal (hMrgIdeal := hMrgIdeal)
    ∧ quiescent_MrgRefIdeal (hMrgRefIdeal := hMrgRefIdeal)
    ∧ quiescent_Bia (hBia := hBia)
    ∧ quiescent_BiaIdeal (hBiaIdeal := hBiaIdeal)
    ∧ quiescent_BiaRefIdeal (hBiaRefIdeal := hBiaRefIdeal)
    ∧ quiescent_Bnd (hBnd := hBnd)
    ∧ quiescent_BndIdeal (hBndIdeal := hBndIdeal)
    ∧ quiescent_BndIdeal_pre_band_finite (hBndIdeal := hBndIdeal) (hPre_band_finite := hPre_band_finite)
    ∧ quiescent_BndRefIdeal (hBndRefIdeal := hBndRefIdeal)
    ∧ quiescent_BndRefIdeal_pre_band_finite (hBndRefIdeal := hBndRefIdeal) (hPre_band_finite := hPre_band_finite)
    ∧ preserves_Qkv_QkvIdeal
    ∧ algebraic_QkvIdeal_QkvRefIdeal (hQkvIdeal := hQkvIdeal) (hQkvRefIdeal := hQkvRefIdeal)
    ∧ preserves_Qks_QksIdeal
    ∧ algebraic_QksIdeal_QksRefIdeal (hQksIdeal := hQksIdeal) (hQksRefIdeal := hQksRefIdeal)
    ∧ preserves_Ffn_FfnIdeal
    ∧ algebraic_FfnIdeal_FfnRefIdeal (hFfnIdeal := hFfnIdeal) (hFfnRefIdeal := hFfnRefIdeal) (hPre_ffn_tables := hPre_ffn_tables)
    ∧ preserves_Mrg_MrgIdeal
    ∧ algebraic_MrgIdeal_MrgRefIdeal (hMrgIdeal := hMrgIdeal) (hMrgRefIdeal := hMrgRefIdeal)
    ∧ preserves_Bia_BiaIdeal
    ∧ algebraic_BiaIdeal_BiaRefIdeal (hBiaIdeal := hBiaIdeal) (hBiaRefIdeal := hBiaRefIdeal)
    ∧ preserves_Bnd_BndIdeal
    ∧ algebraic_BndIdeal_BndRefIdeal_pre_band_finite (hBndIdeal := hBndIdeal) (hBndRefIdeal := hBndRefIdeal) (hPre_band_finite := hPre_band_finite)
-- ==== Pre_band_finite.lean ====
abbrev S16x64x3072 : Shape := ⟨3, ![16, 64, 3072]⟩
abbrev S16x512x8x64 : Shape := ⟨4, ![16, 512, 8, 64]⟩
abbrev S8x64x576 : Shape := ⟨3, ![8, 64, 576]⟩
abbrev S16x64x1024 : Shape := ⟨3, ![16, 64, 1024]⟩
abbrev S_ : Shape := ⟨0, ![]⟩

class Facts : Prop where
  slices_S16x64x3072_S16x64x1024_0_0_0 : S16x64x3072.Slices ![0, 0, 0] S16x64x1024
  bitsLt_bf16_f32 : FTy.bits .bf16 < FTy.bits .f32
  bcast_S_S16x64x1024 : S_.BroadcastsInDim S16x64x1024 (![] : Fin 0 → Fin S16x64x1024.rank)
  bcast_S_S16x512x8x64 : S_.BroadcastsInDim S16x512x8x64 (![] : Fin 0 → Fin S16x512x8x64.rank)
  bcast_S_S8x64x576 : S_.BroadcastsInDim S8x64x576 (![] : Fin 0 → Fin S8x64x576.rank)

variable [Facts]

def fn {F : FTy → Type} [FloatOps F] (main_arg0 : FVec F S16x64x3072 .bf16) (main_arg1 : FVec F S16x512x8x64 .f32) (main_arg2 : FVec F S16x512x8x64 .f32) (main_arg3 : FVec F S8x64x576 .f32) : IVec S16x64x1024 1 × IVec S16x512x8x64 1 × IVec S8x64x576 1 :=
  let main_v0 : FVec F S16x64x1024 .bf16 := (extractStridedSlice S16x64x1024 ![0, 0, 0] · slices_S16x64x3072_S16x64x1024_0_0_0) main_arg0
  let main_v1 : FVec F S16x64x1024 .f32 := (extf .f32 · bitsLt_bf16_f32) main_v0
  let main_v2 : FVec F S16x64x1024 .f32 := Host.absf main_v1
  let main_cst : FVec F S_ .f32 := constant S_ .f32 0x7F800000#32
  let main_v3 : FVec F S16x64x1024 .f32 := broadcastInDim S16x64x1024 ![] bcast_S_S16x64x1024 main_cst
  let main_v4 : IVec S16x64x1024 1 := cmpf .olt main_v2 main_v3
  let main_v5 : FVec F S16x512x8x64 .f32 := Host.absf main_arg1
  let main_cst_0 : FVec F S_ .f32 := constant S_ .f32 0x7F800000#32
  let main_v6 : FVec F S16x512x8x64 .f32 := broadcastInDim S16x512x8x64 ![] bcast_S_S16x512x8x64 main_cst_0
  let main_v7 : IVec S16x512x8x64 1 := cmpf .olt main_v5 main_v6
  let main_v8 : FVec F S8x64x576 .f32 := Host.absf main_arg3
  let main_cst_1 : FVec F S_ .f32 := constant S_ .f32 0x7F800000#32
  let main_v9 : FVec F S8x64x576 .f32 := broadcastInDim S8x64x576 ![] bcast_S_S8x64x576 main_cst_1
  let main_v10 : IVec S8x64x576 1 := cmpf .olt main_v8 main_v9
  (main_v4, main_v7, main_v10)
-- ==== Pre_ffn_tables.lean ====
abbrev S182 : Shape := ⟨1, ![182]⟩
abbrev S11648 : Shape := ⟨1, ![11648]⟩
abbrev S78336x1024 : Shape := ⟨2, ![78336, 1024]⟩
abbrev S32x1024x1024 : Shape := ⟨3, ![32, 1024, 1024]⟩
abbrev S32x1x1024 : Shape := ⟨3, ![32, 1, 1024]⟩
abbrev S_ : Shape := ⟨0, ![]⟩
abbrev S1 : Shape := ⟨1, ![1]⟩

class Facts : Prop where
  bcast_S_S182 : S_.BroadcastsInDim S182 (![] : Fin 0 → Fin S182.rank)
  slices_S182_S1_0 : S182.Slices ![0] S1
  shapeCasts_S1_S_ : S1.ShapeCasts S_
  bcast_S_S11648 : S_.BroadcastsInDim S11648 (![] : Fin 0 → Fin S11648.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S11648 32) (arg1 : IVec S_ 32) : IVec S11648 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S11648 32 := broadcastInDim S11648 ![] bcast_S_S11648 v2
  let v4 : IVec S11648 32 := Host.remsi arg0 v3
  let c_1 : IVec S_ 32 := constantI S_ 32 0#32
  let v5 : IVec S11648 32 := broadcastInDim S11648 ![] bcast_S_S11648 c_1
  let v6 : IVec S11648 1 := cmpi .ne v4 v5
  let c_2 : IVec S_ 32 := constantI S_ 32 0#32
  let v7 : IVec S11648 32 := broadcastInDim S11648 ![] bcast_S_S11648 c_2
  let v8 : IVec S11648 1 := cmpi .slt v4 v7
  let c_3 : IVec S_ 32 := constantI S_ 32 0#32
  let v9 : IVec S_ 1 := cmpi .slt v2 c_3
  let v10 : IVec S11648 1 := broadcastInDim S11648 ![] bcast_S_S11648 v9
  let v11 : IVec S11648 1 := cmpi .ne v8 v10
  let v12 : IVec S11648 1 := andi v11 v6
  let v13 : IVec S11648 32 := broadcastInDim S11648 ![] bcast_S_S11648 v2
  let v14 : IVec S11648 32 := addi v4 v13
  let v15 : IVec S11648 32 := select v12 v14 v4
  v15

def fn {F : FTy → Type} [FloatOps F] (main_arg0 : IVec S182 32) (main_arg1 : IVec S182 32) (main_arg2 : IVec S11648 32) (main_arg3 : FVec F S78336x1024 .f32) (main_arg4 : FVec F S32x1024x1024 .f32) (main_arg5 : FVec F S32x1x1024 .f32) (main_arg6 : FVec F S32x1024x1024 .f32) (main_arg7 : FVec F S32x1x1024 .f32) (main_arg8 : FVec F S32x1024x1024 .f32) (main_arg9 : FVec F S32x1x1024 .f32) : IVec S182 1 × IVec S_ 1 × IVec S11648 1 :=
  let main_c : IVec S_ 32 := constantI S_ 32 0#32
  let main_v0 : IVec S182 32 := broadcastInDim S182 ![] bcast_S_S182 main_c
  let main_v1 : IVec S182 1 := cmpi .sge main_arg0 main_v0
  let main_c_0 : IVec S_ 32 := constantI S_ 32 32#32
  let main_v2 : IVec S182 32 := broadcastInDim S182 ![] bcast_S_S182 main_c_0
  let main_v3 : IVec S182 1 := cmpi .slt main_arg0 main_v2
  let main_v4 : IVec S182 1 := andi main_v1 main_v3
  let main_v5 : IVec S1 32 := (extractStridedSlice S1 ![0] · slices_S182_S1_0) main_arg1
  let main_v6 : IVec S_ 32 := shapeCast S_ main_v5 shapeCasts_S1_S_
  let main_c_1 : IVec S_ 32 := constantI S_ 32 0#32
  let main_v7 : IVec S_ 1 := cmpi .ne main_v6 main_c_1
  let main_c_2 : IVec S_ 32 := constantI S_ 32 0#32
  let main_v8 : IVec S11648 32 := broadcastInDim S11648 ![] bcast_S_S11648 main_c_2
  let main_v9 : IVec S11648 1 := cmpi .sge main_arg2 main_v8
  let main_c_3 : IVec S_ 32 := constantI S_ 32 78328#32
  let main_v10 : IVec S11648 32 := broadcastInDim S11648 ![] bcast_S_S11648 main_c_3
  let main_v11 : IVec S11648 1 := cmpi .sle main_arg2 main_v10
  let main_v12 : IVec S11648 1 := andi main_v9 main_v11
  let main_c_4 : IVec S_ 32 := constantI S_ 32 8#32
  let main_v13 : IVec S11648 32 := fn_remainder (F := F) main_arg2 main_c_4
  let main_c_5 : IVec S_ 32 := constantI S_ 32 0#32
  let main_v14 : IVec S11648 32 := broadcastInDim S11648 ![] bcast_S_S11648 main_c_5
  let main_v15 : IVec S11648 1 := cmpi .eq main_v13 main_v14
  let main_v16 : IVec S11648 1 := andi main_v12 main_v15
  (main_v4, main_v7, main_v16)
-- ==== Qkv.lean ====
abbrev S2x8192x1024 : Shape := ⟨3, ![2, 8192, 1024]⟩
abbrev S1x1024 : Shape := ⟨2, ![1, 1024]⟩
abbrev S1x1024x3072 : Shape := ⟨3, ![1, 1024, 3072]⟩
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S1024x512 : Shape := ⟨2, ![1024, 512]⟩
abbrev S16384x512 : Shape := ⟨2, ![16384, 512]⟩
abbrev S512x1024 : Shape := ⟨2, ![512, 1024]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S16384x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S16384x3072, .bf16⟩
  | .hbm, ⟨9, _⟩ => ⟨S1024x512, .f32⟩
  | .hbm, ⟨10, _⟩ => ⟨S1024x512, .f32⟩
  | .hbm, ⟨11, _⟩ => ⟨S16384x512, .f32⟩
  | .hbm, ⟨12, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi v27 c15_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c15_i32 : BitVec 32 := 15#32
  let v28 : BitVec 32 := Scalar.subi v27 c15_i32
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x512 : Shape := ⟨3, ![2, 8192, 512]⟩
abbrev S16384x3072 : Shape := ⟨2, ![16384, 3072]⟩
abbrev S2x512x512 : Shape := ⟨3, ![2, 512, 512]⟩
abbrev S1024x512 : Shape := ⟨2, ![1024, 512]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x3072, .f32⟩
  | .hbm, ⟨21, _⟩ => ⟨S2x8192x3072, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S_, .f32⟩
  | .hbm, ⟨32, _⟩ => ⟨S2x8192x512, .f32⟩
  | .hbm, ⟨33, _⟩ => ⟨S2x8192x512, .f32⟩
  | .hbm, ⟨34, _⟩ => ⟨S2x8192x3072, .f32⟩
  | .hbm, ⟨35, _⟩ => ⟨S2x8192x3072, .bf16⟩
  | .hbm, ⟨36, _⟩ => ⟨S16384x3072, .bf16⟩
  | .hbm, ⟨37, _⟩ => ⟨S2x512x512, .f32⟩
  | .hbm, ⟨38, _⟩ => ⟨S1024x512, .f32⟩
  | .hbm, ⟨39, _⟩ => ⟨S2x512x512, .f32⟩
  | .hbm, ⟨40, _⟩ => ⟨S1024x512, .f32⟩
  | .hbm, ⟨41, _⟩ => ⟨S16384x512, .f32⟩
  | .hbm, ⟨42, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Qks.lean ====
abbrev S16x64x1024 : Shape := ⟨3, ![16, 64, 1024]⟩
abbrev S1x1024 : Shape := ⟨2, ![1, 1024]⟩
abbrev S1x1024x3072 : Shape := ⟨3, ![1, 1024, 3072]⟩
abbrev S1x16x512x8x64 : Shape := ⟨5, ![1, 16, 512, 8, 64]⟩
abbrev S1024x1024 : Shape := ⟨2, ![1024, 1024]⟩
abbrev S1024 : Shape := ⟨1, ![1024]⟩
abbrev S1024x3072 : Shape := ⟨2, ![1024, 3072]⟩
abbrev S1024x512 : Shape := ⟨2, ![1024, 512]⟩
abbrev S512x1024 : Shape := ⟨2, ![512, 1024]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩
abbrev S16x512x8x64 : Shape := ⟨4, ![16, 512, 8, 64]⟩
abbrev S16x448x8x64 : Shape := ⟨4, ![16, 448, 8, 64]⟩
abbrev S16x64x8x64 : Shape := ⟨4, ![16, 64, 8, 64]⟩
abbrev S1x16x64x8x64 : Shape := ⟨5, ![1, 16, 64, 8, 64]⟩

abbrev nBuf : Space → Nat
  | .hbm => 29
  | .vmem => 14
  | .smem => 0
  | _ => 0

abbrev bufTy : (tb : Table) → Fin (tcTables nBuf tb) → BufTy
  | .hbm, ⟨0, _⟩ => ⟨S16x64x1024, .f32⟩
  | .hbm, ⟨1, _⟩ => ⟨S1x1024, .f32⟩
  | .hbm, ⟨2, _⟩ => ⟨S1x1024x3072, .f32⟩
  | .hbm, ⟨3, _⟩ => ⟨S1x16x512x8x64, .f32⟩
  | .hbm, ⟨4, _⟩ => ⟨S1x16x512x8x64, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S1x1024, .f32⟩
  | .hbm, ⟨10, _⟩ => ⟨S1024x3072, .bf16⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S16x512x8x64, .f32⟩
  | .hbm, ⟨16, _⟩ => ⟨S16x448x8x64, .f32⟩
  | .hbm, ⟨17, _⟩ => ⟨S16x64x8x64, .f32⟩
  | .hbm, ⟨18, _⟩ => ⟨S16x512x8x64, .f32⟩
  | .hbm, ⟨19, _⟩ => ⟨S1x16x512x8x64, .f32⟩
  | .hbm, ⟨20, _⟩ => ⟨S16x512x8x64, .f32⟩
  | .hbm, ⟨21, _⟩ => ⟨S16x448x8x64, .f32⟩
  | .hbm, ⟨22, _⟩ => ⟨S16x64x8x64, .f32⟩
  | .hbm, ⟨23, _⟩ => ⟨S16x512x8x64, .f32⟩
  | .hbm, ⟨24, _⟩ => ⟨S1x16x512x8x64, .f32⟩
  | .hbm, ⟨25, _⟩ => ⟨S16x64x8x64, .f32⟩
  | .hbm, ⟨26, _⟩ => ⟨S1x16x64x8x64, .f32⟩
  | .hbm, ⟨27, _⟩ => ⟨S16x64x8x64, .f32⟩
  | .hbm, ⟨28, _⟩ => ⟨S1x16x64x8x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.subi v27 c0_i32_12
  let c0_i32_13 : BitVec 32 := 0#32
  let v29 : BitVec 32 := Scalar.maxsi v28 c0_i32_13
  let v30 : BitVec 32 := Scalar.addi v17 v29
  let c0_i32_14 : BitVec 32 := 0#32
  let c0_i32_15 : BitVec 32 := 0#32
  ![v30.toNat, c0_i32_14.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.subi v27 c0_i32_12
  let c0_i32_13 : BitVec 32 := 0#32
  let v29 : BitVec 32 := Scalar.maxsi v28 c0_i32_13
  let v30 : BitVec 32 := Scalar.addi v17 v29
  let c0_i32_14 : BitVec 32 := 0#32
  let c0_i32_15 : BitVec 32 := 0#32
  ![v30.toNat, c0_i32_14.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QksRefIdeal.lean ====
abbrev S16x64x1024 : Shape := ⟨3, ![16, 64, 1024]⟩
abbrev S1x1024 : Shape := ⟨2, ![1, 1024]⟩
abbrev S1x1024x3072 : Shape := ⟨3, ![1, 1024, 3072]⟩
abbrev S1x16x512x8x64 : Shape := ⟨5, ![1, 16, 512, 8, 64]⟩
abbrev S1024 : Shape := ⟨1, ![1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S1024x3072 : Shape := ⟨2, ![1024, 3072]⟩
abbrev S16x64x3072 : Shape := ⟨3, ![16, 64, 3072]⟩
abbrev S16x64x512 : Shape := ⟨3, ![16, 64, 512]⟩
abbrev S16x512x8x64 : Shape := ⟨4, ![16, 512, 8, 64]⟩
abbrev S16x64x8x64 : Shape := ⟨4, ![16, 64, 8, 64]⟩
abbrev S16x576x8x64 : Shape := ⟨4, ![16, 576, 8, 64]⟩
abbrev S1x16x64x8x64 : Shape := ⟨5, ![1, 16, 64, 8, 64]⟩

abbrev nBuf : Space → Nat
  | .hbm => 53
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1x1024, .f32⟩
  | .hbm, ⟨2, _⟩ => ⟨S1x1024x3072, .f32⟩
  | .hbm, ⟨3, _⟩ => ⟨S1x16x512x8x64, .f32⟩
  | .hbm, ⟨4, _⟩ => ⟨S1x16x512x8x64, .f32⟩
  | .hbm, ⟨5, _⟩ => ⟨S1024, .f32⟩
  | .hbm, ⟨6, _⟩ => ⟨S16x64x1024, .f32⟩
  | .hbm, ⟨7, _⟩ => ⟨S_, .f32⟩
  | .hbm, ⟨8, _⟩ => ⟨S16x64, .f32⟩
  | .hbm, ⟨9, _⟩ => ⟨S16x64x1, .f32⟩
  | .hbm, ⟨10, _⟩ => ⟨S_, .f32⟩
  | .hbm, ⟨11, _⟩ => ⟨S16x64x1, .f32⟩
  | .hbm, ⟨12, _⟩ => ⟨S16x64x1, .f32⟩
  | .hbm, ⟨13, _⟩ => ⟨S_, .f32⟩
  | .hbm, ⟨14, _⟩ => ⟨S16x64x1, .f32⟩
  | .hbm, ⟨15, _⟩ => ⟨S16x64x1, .f32⟩
  | .hbm, ⟨16, _⟩ => ⟨S16x64x1, .f32⟩
  | .hbm, ⟨17, _⟩ => ⟨S16x64x1024, .f32⟩
  | .hbm, ⟨18, _⟩ => ⟨S16x64x1024, .f32⟩
  | .hbm, ⟨19, _⟩ => ⟨S1x1x1024, .f32⟩
  | .hbm, ⟨20, _⟩ => ⟨S16x64x1024, .f32⟩
  | .hbm, ⟨21, _⟩ => ⟨S16x64x1024, .f32⟩
  | .hbm, ⟨22, _⟩ => ⟨S1024x3072, .f32⟩
  | .hbm, ⟨23, _⟩ => ⟨S16x64x3072, .f32⟩
  | .hbm, ⟨24, _⟩ => ⟨S16x64x512, .f32⟩
  | .hbm, ⟨25, _⟩ => ⟨S16x64x512, .f32⟩
  | .hbm, ⟨26, _⟩ => ⟨S16x64x512, .f32⟩
  | .hbm, ⟨27, _⟩ => ⟨S16x64x512, .f32⟩
  | .hbm, ⟨28, _⟩ => ⟨S16x64x512, .f32⟩
  | .hbm, ⟨29, _⟩ => ⟨S16x64x512, .f32⟩
  | .hbm, ⟨30, _⟩ => ⟨S_, .f32⟩
  | .hbm, ⟨31, _⟩ => ⟨S16x64x512, .f32⟩
  | .hbm, ⟨32, _⟩ => ⟨S16x64x512, .f32⟩
  | .hbm, ⟨33, _⟩ => ⟨S_, .f32⟩
  | .hbm, ⟨34, _⟩ => ⟨S16x64x512, .f32⟩
  | .hbm, ⟨35, _⟩ => ⟨S16x64x512, .f32⟩
  | .hbm, ⟨36, _⟩ => ⟨S16x64x3072, .f32⟩
  | .hbm, ⟨37, _⟩ => ⟨S16x64x3072, .bf16⟩
  | .hbm, ⟨38, _⟩ => ⟨S1024x3072, .bf16⟩
  | .hbm, ⟨39, _⟩ => ⟨S16x512x8x64, .f32⟩
  | .hbm, ⟨40, _⟩ => ⟨S16x64x8x64, .f32⟩
  | .hbm, ⟨41, _⟩ => ⟨S16x576x8x64, .f32⟩
  | .hbm, ⟨42, _⟩ => ⟨S16x512x8x64, .f32⟩
  | .hbm, ⟨43, _⟩ => ⟨S1x16x512x8x64, .f32⟩
  | .hbm, ⟨44, _⟩ => ⟨S16x512x8x64, .f32⟩
  | .hbm, ⟨45, _⟩ => ⟨S16x64x8x64, .f32⟩
  | .hbm, ⟨46, _⟩ => ⟨S16x576x8x64, .f32⟩
  | .hbm, ⟨47, _⟩ => ⟨S16x512x8x64, .f32⟩
  | .hbm, ⟨48, _⟩ => ⟨S1x16x512x8x64, .f32⟩
  | .hbm, ⟨49, _⟩ => ⟨S16x64x8x64, .f32⟩
  | .hbm, ⟨50, _⟩ => ⟨S1x16x64x8x64, .f32⟩
  | .hbm, ⟨51, _⟩ => ⟨S16x64x8x64, .f32⟩
  | .hbm, ⟨52, _⟩ => ⟨S1x16x64x8x64, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Ffn.lean ====
abbrev S182 : Shape := ⟨1, ![182]⟩
abbrev S11648 : Shape := ⟨1, ![11648]⟩
abbrev S78336x1024 : Shape := ⟨2, ![78336, 1024]⟩
abbrev S32x1024x1024 : Shape := ⟨3, ![32, 1024, 1024]⟩
abbrev S32x1x1024 : Shape := ⟨3, ![32, 1, 1024]⟩
abbrev S93184x1024 : Shape := ⟨2, ![93184, 1024]⟩
abbrev S1x1024x1024 : Shape := ⟨3, ![1, 1024, 1024]⟩
abbrev S1 : Shape := ⟨1, ![1]⟩
abbrev S1x1x1024 : Shape := ⟨3, ![1, 1, 1024]⟩
abbrev S512x1024 : Shape := ⟨2, ![512, 1024]⟩
abbrev S2x512x1024 : Shape := ⟨3, ![2, 512, 1024]⟩
abbrev S1024x1024 : Shape := ⟨2, ![1024, 1024]⟩
abbrev S2 : Shape := ⟨1, ![2]⟩
abbrev S_ : Shape := ⟨0, ![]⟩
abbrev S1x512x1024 : Shape := ⟨3, ![1, 512, 1024]⟩
abbrev S8x1024 : Shape := ⟨2, ![8, 1024]⟩
abbrev S1x1024 : Shape := ⟨2, ![1, 1024]⟩

abbrev nBuf : Space → Nat
  | .hbm => 8
  | .vmem => 18
  | .smem => 3
  | _ => 0

abbrev bufTy : (tb : Table) → Fin (tcTables nBuf tb) → BufTy
  | .hbm, ⟨0, _⟩ => ⟨S78336x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S93184x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S2x512x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S182, .i32⟩
  | .local _ .smem, ⟨1, _⟩ => ⟨S182, .i32⟩
  | .local _ .smem, ⟨2, _⟩ => ⟨S11648, .i32⟩
  | _, _ => ⟨S78336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![182], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32_4 : BitVec 32 := 1#32
  let v13 : BitVec 32 := Scalar.subi arg0 c1_i32_4
  let c0_i32_5 : BitVec 32 := 0#32
  let v14 : BitVec 32 := Scalar.maxsi v13 c0_i32_5
  let v15 : Index := Scalar.indexCast v14
  ![v15.toNat]
def k0_cond1 (i : grid0.Coords) : BitVec 1 :=
  let arg0 : BitVec 32 := BitVec.ofNat 32 (i 0).val
  let c0_i32_6 : BitVec 32 := 0#32
  let v19 : BitVec 1 := Scalar.cmpi .eq arg0 c0_i32_6
  let v20 : BitVec 32 := Scalar.extui v19
  let c0_i32_7 : BitVec 32 := 0#32
  let v21 : BitVec 1 := Scalar.cmpi .ne v20 c0_i32_7
  v21

@[reducible] def k0_t1_loop : Scf.Loop 32 :=
  let c0_i32_20 : BitVec 32 := 0#32
  let c64_i32 : BitVec 32 := 64#32
  let v50 : BitVec 32 := Scalar.addi c0_i32_20 c64_i32
  let c1_i32_21 : BitVec 32 := 1#32
  ⟨c0_i32_20, v50, c1_i32_21⟩
def k0_off3 (k0_t1 : Fin k0_t1_loop.trips) : Fin 1 → Nat :=
  let c0_i32_23 : BitVec 32 := 0#32
  let c0_i32_20 : BitVec 32 := 0#32
  let c1_i32_21 : BitVec 32 := 1#32
  let arg17 : BitVec 32 := Scf.iv c0_i32_20 c1_i32_21 k0_t1
  let v51 : BitVec 32 := Scalar.addi c0_i32_23 arg17
  let v52 : Index := Scalar.indexCast v51
  ![v52.toNat]
def k0_mult1 (v53 : BitVec 32) : BitVec 32 :=
  v53

def k0_mult2 (k0_t1 : Fin k0_t1_loop.trips) : BitVec 32 :=
  let c0_i32_20 : BitVec 32 := 0#32
  let c1_i32_21 : BitVec 32 := 1#32
  let arg17 : BitVec 32 := Scf.iv c0_i32_20 c1_i32_21 k0_t1
  let c8_i32 : BitVec 32 := 8#32
  let v54 : BitVec 32 := Scalar.muli arg17 c8_i32
  v54
def k0_off4 (k0_t1 : Fin k0_t1_loop.trips) : Fin 2 → Nat :=
  let c0_i32_20 : BitVec 32 := 0#32
  let c1_i32_21 : BitVec 32 := 1#32
  let arg17 : BitVec 32 := Scf.iv c0_i32_20 c1_i32_21 k0_t1
  let c8_i32 : BitVec 32 := 8#32
  let v54 : BitVec 32 := Scalar.muli arg17 c8_i32
  let v56 : BitVec 32 := v54
  let c0_i32_28 : BitVec 32 := 0#32
  ![v56.toNat, 0]
def k0_off5 (v53 : BitVec 32) : Fin 2 → Nat :=
  let v55 : BitVec 32 := v53
  let c0_i32_29 : BitVec 32 := 0#32
  ![v55.toNat, 0]

def k0_chk1 (i : grid0.Coords) (v53 : BitVec 32) : Prop :=
  (∀ (k0_h1 : k0_cond1 i = 1#1), 8 ∣ (k0_mult1 v53).toNat) ∧
  (∀ (k0_h1 : k0_cond1 i = 1#1), ∀ a, (k0_off5 v53) a + S8x1024.size a ≤ S78336x1024.size a)
theorem k0_mult1_dvd : ∀ (i : grid0.Coords) (v53 : BitVec 32) (k0_hw1 : k0_chk1 i v53), ∀ (k0_h1 : k0_cond1 i = 1#1), 8 ∣ (k0_mult1 v53).toNat := fun i v53 k0_hw1 k0_h1 => k0_hw1.1 k0_h1
theorem k0_off5_inb : ∀ (i : grid0.Coords) (v53 : BitVec 32) (k0_hw1 : k0_chk1 i v53), ∀ (k0_h1 : k0_cond1 i = 1#1), ∀ a, (k0_off5 v53) a + S8x1024.size a ≤ S78336x1024.size a := fun i v53 k0_hw1 k0_h1 => k0_hw1.2 k0_h1

def k0_off6 (i : grid0.Coords) : Fin 1 → Nat :=
  let arg0 : BitVec 32 := BitVec.ofNat 32 (i 0).val
  let c1_i32_8 : BitVec 32 := 1#32
  let v22 : BitVec 32 := Scalar.addi arg0 c1_i32_8
  let c181_i32 : BitVec 32 := 181#32
  let v23 : BitVec 32 := Scalar.minsi v22 c181_i32
  let v26 : Index := Scalar.indexCast v23
  ![v26.toNat]
@[reducible] def k0_t2_loop : Scf.Loop 32 :=
  let c0_i32_21 : BitVec 32 := 0#32
  let c64_i32 : BitVec 32 := 64#32
  let v51 : BitVec 32 := Scalar.addi c0_i32_21 c64_i32
  let c1_i32_22 : BitVec 32 := 1#32
  ⟨c0_i32_21, v51, c1_i32_22⟩
def k0_off7 (i : grid0.Coords) (k0_t2 : Fin k0_t2_loop.trips) : Fin 1 → Nat :=
  let arg0 : BitVec 32 := BitVec.ofNat 32 (i 0).val
  let c1_i32_20 : BitVec 32 := 1#32
  let v50 : BitVec 32 := Scalar.addi arg0 c1_i32_20
  let c64_i32_24 : BitVec 32 := 64#32
  let v52 : BitVec 32 := Scalar.muli v50 c64_i32_24
  let c0_i32_21 : BitVec 32 := 0#32
  let c1_i32_22 : BitVec 32 := 1#32
  let arg17 : BitVec 32 := Scf.iv c0_i32_21 c1_i32_22 k0_t2
  let v53 : BitVec 32 := Scalar.addi v52 arg17
  let v54 : Index := Scalar.indexCast v53
  ![v54.toNat]
def k0_cond2 (i : grid0.Coords) (v27 : BitVec 32) : BitVec 1 :=
  let arg0 : BitVec 32 := BitVec.ofNat 32 (i 0).val
  let c1_i32_9 : BitVec 32 := 1#32
  let v24 : BitVec 32 := Scalar.addi arg0 c1_i32_9
  let c182_i32 : BitVec 32 := 182#32
  let v25 : BitVec 1 := Scalar.cmpi .slt v24 c182_i32
  let c0_i32_10 : BitVec 32 := 0#32
  let v28 : BitVec 1 := Scalar.cmpi .ne v27 c0_i32_10
  let v29 : BitVec 1 := Scalar.andi v25 v28
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let v30 : BitVec 1 := Scalar.cmpi .ne v9 c0_i32_11
  let v31 : BitVec 1 := Scalar.andi v29 v30
  let v32 : BitVec 32 := Scalar.extui v31
  let c0_i32_12 : BitVec 32 := 0#32
  let v33 : BitVec 1 := Scalar.cmpi .ne v32 c0_i32_12
  v33

def k0_mult3 (v55 : BitVec 32) : BitVec 32 :=
  v55

def k0_mult4 (k0_t2 : Fin k0_t2_loop.trips) : BitVec 32 :=
  let c0_i32_21 : BitVec 32 := 0#32
  let c1_i32_22 : BitVec 32 := 1#32
  let arg17 : BitVec 32 := Scf.iv c0_i32_21 c1_i32_22 k0_t2
  let c8_i32 : BitVec 32 := 8#32
  let v56 : BitVec 32 := Scalar.muli arg17 c8_i32
  v56
def k0_off8 (k0_t2 : Fin k0_t2_loop.trips) : Fin 2 → Nat :=
  let c0_i32_21 : BitVec 32 := 0#32
  let c1_i32_22 : BitVec 32 := 1#32
  let arg17 : BitVec 32 := Scf.iv c0_i32_21 c1_i32_22 k0_t2
  let c8_i32 : BitVec 32 := 8#32
  let v56 : BitVec 32 := Scalar.muli arg17 c8_i32
  let v58 : BitVec 32 := v56
  let c0_i32_29 : BitVec 32 := 0#32
  ![v58.toNat, 0]
def k0_off9 (v55 : BitVec 32) : Fin 2 → Nat :=
  let v57 : BitVec 32 := v55
  let c0_i32_30 : BitVec 32 := 0#32
  ![v57.toNat, 0]

def k0_chk3 (i : grid0.Coords) (v27 : BitVec 32) (v55 : BitVec 32) : Prop :=
  (∀ (k0_h2 : k0_cond2 i v27 = 1#1), 8 ∣ (k0_mult3 v55).toNat) ∧
  (∀ (k0_h2 : k0_cond2 i v27 = 1#1), ∀ a, (k0_off9 v55) a + S8x1024.size a ≤ S78336x1024.size a)
theorem k0_mult3_dvd : ∀ (i : grid0.Coords) (v27 : BitVec 32) (v55 : BitVec 32) (k0_hw3 : k0_chk3 i v27 v55), ∀ (k0_h2 : k0_cond2 i v27 = 1#1), 8 ∣ (k0_mult3 v55).toNat := fun i v27 v55 k0_hw3 k0_h2 => k0_hw3.1 k0_h2
theorem k0_off9_inb : ∀ (i : grid0.Coords) (v27 : BitVec 32) (v55 : BitVec 32) (k0_hw3 : k0_chk3 i v27 v55), ∀ (k0_h2 : k0_cond2 i v27 = 1#1), ∀ a, (k0_off9 v55) a + S8x1024.size a ≤ S78336x1024.size a := fun i v27 v55 k0_hw3 k0_h2 => k0_hw3.2 k0_h2

@[reducible] def k0_t3_loop : Scf.Loop 32 :=
  let c0_i32_21 : BitVec 32 := 0#32
  let c64_i32 : BitVec 32 := 64#32
  let v51 : BitVec 32 := Scalar.addi c0_i32_21 c64_i32
  let c1_i32_22 : BitVec 32 := 1#32
  ⟨c0_i32_21, v51, c1_i32_22⟩
def k0_off10 (i : grid0.Coords) (k0_t3 : Fin k0_t3_loop.trips) : Fin 1 → Nat :=
  let arg0 : BitVec 32 := BitVec.ofNat 32 (i 0).val
  let c1_i32_20 : BitVec 32 := 1#32
  let v50 : BitVec 32 := Scalar.addi arg0 c1_i32_20
  let c64_i32_24 : BitVec 32 := 64#32
  let v52 : BitVec 32 := Scalar.muli v50 c64_i32_24
  let c0_i32_21 : BitVec 32 := 0#32
  let c1_i32_22 : BitVec 32 := 1#32
  let arg17 : BitVec 32 := Scf.iv c0_i32_21 c1_i32_22 k0_t3
  let v53 : BitVec 32 := Scalar.addi v52 arg17
  let v54 : Index := Scalar.indexCast v53
  ![v54.toNat]
def k0_cond3 (i : grid0.Coords) (v27 : BitVec 32) : BitVec 1 :=
  let arg0 : BitVec 32 := BitVec.ofNat 32 (i 0).val
  let c1_i32_9 : BitVec 32 := 1#32
  let v24 : BitVec 32 := Scalar.addi arg0 c1_i32_9
  let c182_i32 : BitVec 32 := 182#32
  let v25 : BitVec 1 := Scalar.cmpi .slt v24 c182_i32
  let c0_i32_10 : BitVec 32 := 0#32
  let v28 : BitVec 1 := Scalar.cmpi .ne v27 c0_i32_10
  let v29 : BitVec 1 := Scalar.andi v25 v28
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_13 : BitVec 32 := 1#32
  let v34 : BitVec 1 := Scalar.cmpi .ne v9 c1_i32_13
  let v35 : BitVec 1 := Scalar.andi v29 v34
  let v36 : BitVec 32 := Scalar.extui v35
  let c0_i32_14 : BitVec 32 := 0#32
  let v37 : BitVec 1 := Scalar.cmpi .ne v36 c0_i32_14
  v37

def k0_chk2 (i : grid0.Coords) (v27 : BitVec 32) : Prop :=
  (∀ k0_t2 : Fin k0_t2_loop.trips, ∀ (k0_h2 : k0_cond2 i v27 = 1#1), ∀ a, (k0_off7 i k0_t2) a + S1.size a ≤ S11648.size a) ∧
  (∀ k0_t3 : Fin k0_t3_loop.trips, ∀ (k0_h3 : k0_cond3 i v27 = 1#1), ∀ a, (k0_off10 i k0_t3) a + S1.size a ≤ S11648.size a)
theorem k0_off7_inb : ∀ (i : grid0.Coords) (v27 : BitVec 32) (k0_hw2 : k0_chk2 i v27) (k0_t2 : Fin k0_t2_loop.trips), ∀ (k0_h2 : k0_cond2 i v27 = 1#1), ∀ a, (k0_off7 i k0_t2) a + S1.size a ≤ S11648.size a := fun i v27 k0_hw2 k0_t2 k0_h2 => k0_hw2.1 k0_t2 k0_h2
theorem k0_off10_inb : ∀ (i : grid0.Coords) (v27 : BitVec 32) (k0_hw2 : k0_chk2 i v27) (k0_t3 : Fin k0_t3_loop.trips), ∀ (k0_h3 : k0_cond3 i v27 = 1#1), ∀ a, (k0_off10 i k0_t3) a + S1.size a ≤ S11648.size a := fun i v27 k0_hw2 k0_t3 k0_h3 => k0_hw2.2 k0_t3 k0_h3

def k0_mult5 (v55 : BitVec 32) : BitVec 32 :=
  v55

def k0_mult6 (k0_t3 : Fin k0_t3_loop.trips) : BitVec 32 :=
  let c0_i32_21 : BitVec 32 := 0#32
  let c1_i32_22 : BitVec 32 := 1#32
  let arg17 : BitVec 32 := Scf.iv c0_i32_21 c1_i32_22 k0_t3
  let c8_i32 : BitVec 32 := 8#32
  let v56 : BitVec 32 := Scalar.muli arg17 c8_i32
  v56
def k0_off11 (k0_t3 : Fin k0_t3_loop.trips) : Fin 2 → Nat :=
  let c0_i32_21 : BitVec 32 := 0#32
  let c1_i32_22 : BitVec 32 := 1#32
  let arg17 : BitVec 32 := Scf.iv c0_i32_21 c1_i32_22 k0_t3
  let c8_i32 : BitVec 32 := 8#32
  let v56 : BitVec 32 := Scalar.muli arg17 c8_i32
  let v58 : BitVec 32 := v56
  let c0_i32_29 : BitVec 32 := 0#32
  ![v58.toNat, 0]
def k0_off12 (v55 : BitVec 32) : Fin 2 → Nat :=
  let v57 : BitVec 32 := v55
  let c0_i32_30 : BitVec 32 := 0#32
  ![v57.toNat, 0]

def k0_chk4 (i : grid0.Coords) (v27 : BitVec 32) (v55 : BitVec 32) : Prop :=
  (∀ (k0_h3 : k0_cond3 i v27 = 1#1), 8 ∣ (k0_mult5 v55).toNat) ∧
  (∀ (k0_h3 : k0_cond3 i v27 = 1#1), ∀ a, (k0_off12 v55) a + S8x1024.size a ≤ S78336x1024.size a)
theorem k0_mult5_dvd : ∀ (i : grid0.Coords) (v27 : BitVec 32) (v55 : BitVec 32) (k0_hw4 : k0_chk4 i v27 v55), ∀ (k0_h3 : k0_cond3 i v27 = 1#1), 8 ∣ (k0_mult5 v55).toNat := fun i v27 v55 k0_hw4 k0_h3 => k0_hw4.1 k0_h3
theorem k0_off12_inb : ∀ (i : grid0.Coords) (v27 : BitVec 32) (v55 : BitVec 32) (k0_hw4 : k0_chk4 i v27 v55), ∀ (k0_h3 : k0_cond3 i v27 = 1#1), ∀ a, (k0_off12 v55) a + S8x1024.size a ≤ S78336x1024.size a := fun i v27 v55 k0_hw4 k0_h3 => k0_hw4.2 k0_h3

def k0_off13 (i : grid0.Coords) : Fin 1 → Nat :=
  let arg0 : BitVec 32 := BitVec.ofNat 32 (i 0).val
  let v40 : Index := Scalar.indexCast arg0
  ![v40.toNat]
def k0_off14 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_20 : BitVec 32 := 0#32
  let c0_i32_21 : BitVec 32 := 0#32
  ![v9.toNat, 0, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c0 : Index := 0#32
  let c0_24 : Index := 0#32
  ![v55.toNat, 0, 0]
def k0_off17 (i : grid0.Coords) : Fin 1 → Nat :=
  let arg0 : BitVec 32 := BitVec.ofNat 32 (i 0).val
  let v45 : Index := Scalar.indexCast arg0
  ![v45.toNat]
def k0_cond5 (v41 : BitVec 32) : BitVec 1 :=
  let c0_i32_16 : BitVec 32 := 0#32
  let v42 : BitVec 1 := Scalar.cmpi .ne v41 c0_i32_16
  let v43 : BitVec 32 := Scalar.extui v42
  let c0_i32_17 : BitVec 32 := 0#32
  let v44 : BitVec 1 := Scalar.cmpi .ne v43 c0_i32_17
  v44

def k0_cond6 (v46 : BitVec 32) : BitVec 1 :=
  let c0_i32_18 : BitVec 32 := 0#32
  let v47 : BitVec 1 := Scalar.cmpi .eq v46 c0_i32_18
  let v48 : BitVec 32 := Scalar.extui v47
  let c0_i32_19 : BitVec 32 := 0#32
  let v49 : BitVec 1 := Scalar.cmpi .ne v48 c0_i32_19
  v49

def cc0_transform_1 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S182 : Shape := ⟨1, ![182]⟩
abbrev S11648 : Shape := ⟨1, ![11648]⟩
abbrev S78336x1024 : Shape := ⟨2, ![78336, 1024]⟩
abbrev S32x1024x1024 : Shape := ⟨3, ![32, 1024, 1024]⟩
abbrev S32x1x1024 : Shape := ⟨3, ![32, 1, 1024]⟩
abbrev S11648x1 : Shape := ⟨2, ![11648, 1]⟩
abbrev S8 : Shape := ⟨1, ![8]⟩
abbrev S1x8 : Shape := ⟨2, ![1, 8]⟩
abbrev S11648x8 : Shape := ⟨2, ![11648, 8]⟩
abbrev S182x512 : Shape := ⟨2, ![182, 512]⟩
abbrev S_ : Shape := ⟨0, ![]⟩
abbrev S182x512x1 : Shape := ⟨3, ![182, 512, 1]⟩
abbrev S182x512x1024 : Shape := ⟨3, ![182, 512, 1024]⟩
abbrev S182x1 : Shape := ⟨2, ![182, 1]⟩
abbrev S182x1024x1024 : Shape := ⟨3, ![182, 1024, 1024]⟩
abbrev S182x1x1024 : Shape := ⟨3, ![182, 1, 1024]⟩
abbrev S182x1x1 : Shape := ⟨3, ![182, 1, 1]⟩
abbrev S93184x1024 : Shape := ⟨2, ![93184, 1024]⟩

abbrev nBuf : Space → Nat
  | .hbm => 126
  | .vmem => 0
  | .smem => 0
  | _ => 0

abbrev bufTy : (tb : Table) → Fin (tcTables nBuf tb) → BufTy
  | .hbm, ⟨0, _⟩ => ⟨S182, .i32⟩
  | .hbm, ⟨1, _⟩ => ⟨S182, .i32⟩
  | .hbm, ⟨2, _⟩ => ⟨S11648, .i32⟩
  | .hbm, ⟨3, _⟩ => ⟨S78336x1024, .f32⟩
  | .hbm, ⟨4, _⟩ => ⟨S32x1024x1024, .f32⟩
  | .hbm, ⟨5, _⟩ => ⟨S32x1x1024, .f32⟩
  | .hbm, ⟨6, _⟩ => ⟨S32x1024x1024, .f32⟩
  | .hbm, ⟨7, _⟩ => ⟨S32x1x1024, .f32⟩
  | .hbm, ⟨8, _⟩ => ⟨S32x1024x1024, .f32⟩
  | .hbm, ⟨9, _⟩ => ⟨S32x1x1024, .f32⟩
  | .hbm, ⟨10, _⟩ => ⟨S11648x1, .i32⟩
  | .hbm, ⟨11, _⟩ => ⟨S8, .i32⟩
  | .hbm, ⟨12, _⟩ => ⟨S1x8, .i32⟩
  | .hbm, ⟨13, _⟩ => ⟨S11648x8, .i32⟩
  | .hbm, ⟨14, _⟩ => ⟨S11648x8, .i32⟩
  | .hbm, ⟨15, _⟩ => ⟨S11648x8, .i32⟩
  | .hbm, ⟨16, _⟩ => ⟨S182x512, .i32⟩
  | .hbm, ⟨17, _⟩ => ⟨S_, .i32⟩
  | .hbm, ⟨18, _⟩ => ⟨S182x512, .i32⟩
  | .hbm, ⟨19, _⟩ => ⟨S182x512, .i1⟩
  | .hbm, ⟨20, _⟩ => ⟨S_, .i32⟩
  | .hbm, ⟨21, _⟩ => ⟨S182x512, .i32⟩
  | .hbm, ⟨22, _⟩ => ⟨S182x512, .i32⟩
  | .hbm, ⟨23, _⟩ => ⟨S182x512, .i32⟩
  | .hbm, ⟨24, _⟩ => ⟨S182x512x1, .i32⟩
  | .hbm, ⟨25, _⟩ => ⟨S182x512x1024, .f32⟩
  | .hbm, ⟨26, _⟩ => ⟨S_, .i32⟩
  | .hbm, ⟨27, _⟩ => ⟨S182, .i32⟩
  | .hbm, ⟨28, _⟩ => ⟨S182, .i1⟩
  | .hbm, ⟨29, _⟩ => ⟨S_, .i32⟩
  | .hbm, ⟨30, _⟩ => ⟨S182, .i32⟩
  | .hbm, ⟨31, _⟩ => ⟨S182, .i32⟩
  | .hbm, ⟨32, _⟩ => ⟨S182, .i32⟩
  | .hbm, ⟨33, _⟩ => ⟨S182x1, .i32⟩
  | .hbm, ⟨34, _⟩ => ⟨S182x1024x1024, .f32⟩
  | .hbm, ⟨35, _⟩ => ⟨S182x512x1024, .f32⟩
  | .hbm, ⟨36, _⟩ => ⟨S_, .i32⟩
  | .hbm, ⟨37, _⟩ => ⟨S182, .i32⟩
  | .hbm, ⟨38, _⟩ => ⟨S182, .i1⟩
  | .hbm, ⟨39, _⟩ => ⟨S_, .i32⟩
  | .hbm, ⟨40, _⟩ => ⟨S182, .i32⟩
  | .hbm, ⟨41, _⟩ => ⟨S182, .i32⟩
  | .hbm, ⟨42, _⟩ => ⟨S182, .i32⟩
  | .hbm, ⟨43, _⟩ => ⟨S182x1, .i32⟩
  | .hbm, ⟨44, _⟩ => ⟨S182x1x1024, .f32⟩
  | .hbm, ⟨45, _⟩ => ⟨S182x512x1024, .f32⟩
  | .hbm, ⟨46, _⟩ => ⟨S182x512x1024, .f32⟩
  | .hbm, ⟨47, _⟩ => ⟨S_, .f32⟩
  | .hbm, ⟨48, _⟩ => ⟨S182x512x1024, .f32⟩
  | .hbm, ⟨49, _⟩ => ⟨S182x512x1024, .f32⟩
  | .hbm, ⟨50, _⟩ => ⟨S_, .i32⟩
  | .hbm, ⟨51, _⟩ => ⟨S182, .i32⟩
  | .hbm, ⟨52, _⟩ => ⟨S182, .i1⟩
  | .hbm, ⟨53, _⟩ => ⟨S_, .i32⟩
  | .hbm, ⟨54, _⟩ => ⟨S182, .i32⟩
  | .hbm, ⟨55, _⟩ => ⟨S182, .i32⟩
  | .hbm, ⟨56, _⟩ => ⟨S182, .i32⟩
  | .hbm, ⟨57, _⟩ => ⟨S182x1, .i32⟩
  | .hbm, ⟨58, _⟩ => ⟨S182x1024x1024, .f32⟩
  | .hbm, ⟨59, _⟩ => ⟨S182x512x1024, .f32⟩
  | .hbm, ⟨60, _⟩ => ⟨S_, .i32⟩
  | .hbm, ⟨61, _⟩ => ⟨S182, .i32⟩
  | .hbm, ⟨62, _⟩ => ⟨S182, .i1⟩
  | .hbm, ⟨63, _⟩ => ⟨S_, .i32⟩
  | .hbm, ⟨64, _⟩ => ⟨S182, .i32⟩
  | .hbm, ⟨65, _⟩ => ⟨S182, .i32⟩
  | .hbm, ⟨66, _⟩ => ⟨S182, .i32⟩
  | .hbm, ⟨67, _⟩ => ⟨S182x1, .i32⟩
  | .hbm, ⟨68, _⟩ => ⟨S182x1x1024, .f32⟩
  | .hbm, ⟨69, _⟩ => ⟨S182x512x1024, .f32⟩
  | .hbm, ⟨70, _⟩ => ⟨S182x512x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S182x512x1024, .f32⟩
  | .hbm, ⟨75, _⟩ => ⟨S182x512x1024, .f32⟩
  | .hbm, ⟨76, _⟩ => ⟨S_, .f32⟩
  | .hbm, ⟨77, _⟩ => ⟨S182x512x1024, .f32⟩
  | .hbm, ⟨78, _⟩ => ⟨S182x512x1024, .f32⟩
  | .hbm, ⟨79, _⟩ => ⟨S_, .f32⟩
  | .hbm, ⟨80, _⟩ => ⟨S182x512x1024, .f32⟩
  | .hbm, ⟨81, _⟩ => ⟨S182x512x1024, .f32⟩
  | .hbm, ⟨82, _⟩ => ⟨S182x512x1024, .f32⟩
  | .hbm, ⟨83, _⟩ => ⟨S182x512x1024, .f32⟩
  | .hbm, ⟨84, _⟩ => ⟨S_, .f32⟩
  | .hbm, ⟨85, _⟩ => ⟨S182x512x1024, .f32⟩
  | .hbm, ⟨86, _⟩ => ⟨S182x512x1024, .f32⟩
  | .hbm, ⟨87, _⟩ => ⟨S_, .f32⟩
  | .hbm, ⟨88, _⟩ => ⟨S182x512x1024, .f32⟩
  | .hbm, ⟨89, _⟩ => ⟨S182x512x1024, .f32⟩
  | .hbm, ⟨90, _⟩ => ⟨S182x512x1024, .f32⟩
  | .hbm, ⟨91, _⟩ => ⟨S_, .f32⟩
  | .hbm, ⟨92, _⟩ => ⟨S182x512x1024, .f32⟩
  | .hbm, ⟨93, _⟩ => ⟨S182x512x1024, .f32⟩
  | .hbm, ⟨94, _⟩ => ⟨S182x512x1024, .f32⟩
  | .hbm, ⟨95, _⟩ => ⟨S_, .i32⟩
  | .hbm, ⟨96, _⟩ => ⟨S182, .i32⟩
  | .hbm, ⟨97, _⟩ => ⟨S182, .i1⟩
  | .hbm, ⟨98, _⟩ => ⟨S_, .i32⟩
  | .hbm, ⟨99, _⟩ => ⟨S182, .i32⟩
  | .hbm, ⟨100, _⟩ => ⟨S182, .i32⟩
  | .hbm, ⟨101, _⟩ => ⟨S182, .i32⟩
  | .hbm, ⟨102, _⟩ => ⟨S182x1, .i32⟩
  | .hbm, ⟨103, _⟩ => ⟨S182x1024x1024, .f32⟩
  | .hbm, ⟨104, _⟩ => ⟨S182x512x1024, .f32⟩
  | .hbm, ⟨105, _⟩ => ⟨S_, .i32⟩
  | .hbm, ⟨106, _⟩ => ⟨S182, .i32⟩
  | .hbm, ⟨107, _⟩ => ⟨S182, .i1⟩
  | .hbm, ⟨108, _⟩ => ⟨S_, .i32⟩
  | .hbm, ⟨109, _⟩ => ⟨S182, .i32⟩
  | .hbm, ⟨110, _⟩ => ⟨S182, .i32⟩
  | .hbm, ⟨111, _⟩ => ⟨S182, .i32⟩
  | .hbm, ⟨112, _⟩ => ⟨S182x1, .i32⟩
  | .hbm, ⟨113, _⟩ => ⟨S182x1x1024, .f32⟩
  | .hbm, ⟨114, _⟩ => ⟨S182x512x1024, .f32⟩
  | .hbm, ⟨115, _⟩ => ⟨S182x512x1024, .f32⟩
  | .hbm, ⟨116, _⟩ => ⟨S_, .i32⟩
  | .hbm, ⟨117, _⟩ => ⟨S182, .i32⟩
  | .hbm, ⟨118, _⟩ => ⟨S182, .i1⟩
  | .hbm, ⟨119, _⟩ => ⟨S182x1x1, .i1⟩
  | .hbm, ⟨120, _⟩ => ⟨S_, .f32⟩
  | .hbm, ⟨121, _⟩ => ⟨S_, .f32⟩
  | .hbm, ⟨122, _⟩ => ⟨S182x512x1024, .i1⟩
  | .hbm, ⟨123, _⟩ => ⟨S182x512x1024, .f32⟩
  | .hbm, ⟨124, _⟩ => ⟨S182x512x1024, .f32⟩
  | .hbm, ⟨125, _⟩ => ⟨S93184x1024, .f32⟩
  | _, _ => ⟨S182, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_cst_10 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v83 : Ref sig .tc := ⟨.hbm, 124, rfl⟩
abbrev main_v84 : Ref sig .tc := ⟨.hbm, 125, rfl⟩

abbrev nD : Nat := 1
abbrev τ : Topo := Topo.v7x

variable {F : FTy → Type} [FloatOps F]
-- ==== Mrg.lean ====
abbrev S16384x1024 : Shape := ⟨2, ![16384, 1024]⟩
abbrev S1024x1024 : Shape := ⟨2, ![1024, 1024]⟩
abbrev S16384x512 : Shape := ⟨2, ![16384, 512]⟩
abbrev S1024x512 : Shape := ⟨2, ![1024, 512]⟩
abbrev S512 : Shape := ⟨1, ![512]⟩
abbrev S1024 : Shape := ⟨1, ![1024]⟩
abbrev S1024x32 : Shape := ⟨2, ![1024, 32]⟩
abbrev S32 : Shape := ⟨1, ![32]⟩
abbrev S1x512 : Shape := ⟨2, ![1, 512]⟩
abbrev S1x1024 : Shape := ⟨2, ![1, 1024]⟩
abbrev S1x32 : Shape := ⟨2, ![1, 32]⟩
abbrev S17408x1024 : Shape := ⟨2, ![17408, 1024]⟩
abbrev S78336x1024 : Shape := ⟨2, ![78336, 1024]⟩
abbrev S17408x4 : Shape := ⟨2, ![17408, 4]⟩
abbrev S34x1x32 : Shape := ⟨3, ![34, 1, 32]⟩
abbrev S512x1024 : Shape := ⟨2, ![512, 1024]⟩
abbrev S512x512 : Shape := ⟨2, ![512, 512]⟩
abbrev S2304x1024 : Shape := ⟨2, ![2304, 1024]⟩
abbrev S512x4 : Shape := ⟨2, ![512, 4]⟩
abbrev S1x1x32 : Shape := ⟨3, ![1, 1, 32]⟩
abbrev S512x1 : Shape := ⟨2, ![512, 1]⟩
abbrev S512x32 : Shape := ⟨2, ![512, 32]⟩
abbrev S32x32 : Shape := ⟨2, ![32, 32]⟩
abbrev S8x32 : Shape := ⟨2, ![8, 32]⟩
abbrev S512x2304 : Shape := ⟨2, ![512, 2304]⟩

abbrev nBuf : Space → Nat
  | .hbm => 23
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x512, .f32⟩
  | .hbm, ⟨3, _⟩ => ⟨S1024x512, .f32⟩
  | .hbm, ⟨4, _⟩ => ⟨S16384x512, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S1024x1024, .bf16⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S1x32, .f32⟩
  | .hbm, ⟨17, _⟩ => ⟨S17408x1024, .f32⟩
  | .hbm, ⟨18, _⟩ => ⟨S78336x1024, .f32⟩
  | .hbm, ⟨19, _⟩ => ⟨S17408x4, .i32⟩
  | .hbm, ⟨20, _⟩ => ⟨S17408x4, .f32⟩
  | .hbm, ⟨21, _⟩ => ⟨S17408x4, .i32⟩
  | .hbm, ⟨22, _⟩ => ⟨S34x1x32, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x32, .f32⟩
  | .local _ .vmem, ⟨17, _⟩ => ⟨S1x32, .f32⟩
  | .local _ .vmem, ⟨18, _⟩ => ⟨S512x1024, .f32⟩
  | .local _ .vmem, ⟨19, _⟩ => ⟨S512x1024, .f32⟩
  | .local _ .vmem, ⟨20, _⟩ => ⟨S2304x1024, .f32⟩
  | .local _ .vmem, ⟨21, _⟩ => ⟨S2304x1024, .f32⟩
  | .local _ .vmem, ⟨22, _⟩ => ⟨S512x4, .i32⟩
  | .local _ .vmem, ⟨23, _⟩ => ⟨S512x4, .i32⟩
  | .local _ .vmem, ⟨24, _⟩ => ⟨S512x4, .f32⟩
  | .local _ .vmem, ⟨25, _⟩ => ⟨S512x4, .f32⟩
  | .local _ .vmem, ⟨26, _⟩ => ⟨S512x4, .i32⟩
  | .local _ .vmem, ⟨27, _⟩ => ⟨S512x4, .i32⟩
  | .local _ .vmem, ⟨28, _⟩ => ⟨S1x1x32, .i32⟩
  | .local _ .vmem, ⟨29, _⟩ => ⟨S1x1x32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2304x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x4 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x32 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MrgRefIdeal.lean ====
abbrev S16384x1024 : Shape := ⟨2, ![16384, 1024]⟩
abbrev S1024x1024 : Shape := ⟨2, ![1024, 1024]⟩
abbrev S16384x512 : Shape := ⟨2, ![16384, 512]⟩
abbrev S1024x512 : Shape := ⟨2, ![1024, 512]⟩
abbrev S512 : Shape := ⟨1, ![512]⟩
abbrev S1024 : Shape := ⟨1, ![1024]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1024x1 : Shape := ⟨2, ![1024, 1]⟩
abbrev S17408x1024 : Shape := ⟨2, ![17408, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x512, .f32⟩
  | .hbm, ⟨3, _⟩ => ⟨S1024x512, .f32⟩
  | .hbm, ⟨4, _⟩ => ⟨S16384x512, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x512, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1024x512, .f32⟩
  | .hbm, ⟨48, _⟩ => ⟨S_, .f32⟩
  | .hbm, ⟨49, _⟩ => ⟨S1024, .f32⟩
  | .hbm, ⟨50, _⟩ => ⟨S1024x1, .f32⟩
  | .hbm, ⟨51, _⟩ => ⟨S_, .f32⟩
  | .hbm, ⟨52, _⟩ => ⟨S1024x1, .f32⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024x1, .f32⟩
  | .hbm, ⟨58, _⟩ => ⟨S1024x512, .f32⟩
  | .hbm, ⟨59, _⟩ => ⟨S1024x512, .f32⟩
  | .hbm, ⟨60, _⟩ => ⟨S1x512, .f32⟩
  | .hbm, ⟨61, _⟩ => ⟨S1024x512, .f32⟩
  | .hbm, ⟨62, _⟩ => ⟨S1024x512, .f32⟩
  | .hbm, ⟨63, _⟩ => ⟨S1024x512, .f32⟩
  | .hbm, ⟨64, _⟩ => ⟨S_, .f32⟩
  | .hbm, ⟨65, _⟩ => ⟨S1024, .f32⟩
  | .hbm, ⟨66, _⟩ => ⟨S1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S1024x1, .f32⟩
  | .hbm, ⟨74, _⟩ => ⟨S1024x512, .f32⟩
  | .hbm, ⟨75, _⟩ => ⟨S1024x512, .f32⟩
  | .hbm, ⟨76, _⟩ => ⟨S1x512, .f32⟩
  | .hbm, ⟨77, _⟩ => ⟨S1024x512, .f32⟩
  | .hbm, ⟨78, _⟩ => ⟨S1024x512, .f32⟩
  | .hbm, ⟨79, _⟩ => ⟨S1024x1024, .f32⟩
  | .hbm, ⟨80, _⟩ => ⟨S1024x1024, .f32⟩
  | .hbm, ⟨81, _⟩ => ⟨S1024x1024, .f32⟩
  | .hbm, ⟨82, _⟩ => ⟨S17408x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Bia.lean ====
abbrev S8x257 : Shape := ⟨2, ![8, 257]⟩
abbrev S8x64x576 : Shape := ⟨3, ![8, 64, 576]⟩
abbrev S1x64x576 : Shape := ⟨3, ![1, 64, 576]⟩
abbrev S64x576 : Shape := ⟨2, ![64, 576]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S8x257, .f32⟩
  | .hbm, ⟨1, _⟩ => ⟨S8x64x576, .f32⟩
  | .local _ .vmem, ⟨0, _⟩ => ⟨S1x64x576, .f32⟩
  | .local _ .vmem, ⟨1, _⟩ => ⟨S1x64x576, .f32⟩
  | .local _ .smem, ⟨0, _⟩ => ⟨S8x257, .f32⟩
  | _, _ => ⟨S8x257, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v11 : Index := Scalar.indexCast arg0
  let c256 : Index := 256#32
  ![v11.toNat, 256]
@[reducible] def k0_t1_loop : Scf.Loop 32 :=
  let c0_i32 : BitVec 32 := 0#32
  let c256_i32 : BitVec 32 := 256#32
  let v14 : BitVec 32 := Scalar.addi c0_i32 c256_i32
  let c1_i32 : BitVec 32 := 1#32
  ⟨c0_i32, v14, c1_i32⟩
def k0_off2 (i : grid0.Coords) (k0_t1 : Fin k0_t1_loop.trips) : Fin 2 → Nat :=
  let arg0 : BitVec 32 := BitVec.ofNat 32 (i 0).val
  let v21 : Index := Scalar.indexCast arg0
  let c0_i32 : BitVec 32 := 0#32
  let c1_i32 : BitVec 32 := 1#32
  let arg3 : BitVec 32 := Scf.iv c0_i32 c1_i32 k0_t1
  let v22 : Index := Scalar.indexCast arg3
  ![v21.toNat, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiaRefIdeal.lean ====
abbrev S8x257 : Shape := ⟨2, ![8, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩

abbrev nBuf : Space → Nat
  | .hbm => 31
  | .vmem => 0
  | .smem => 0
  | _ => 0

abbrev bufTy : (tb : Table) → Fin (tcTables nBuf tb) → BufTy
  | .hbm, ⟨0, _⟩ => ⟨S8x257, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i1⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S8x64x576, .f32⟩
  | _, _ => ⟨S8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Bnd.lean ====
abbrev S16x64x3072 : Shape := ⟨3, ![16, 64, 3072]⟩
abbrev S16x512x8x64 : Shape := ⟨4, ![16, 512, 8, 64]⟩
abbrev S8x64x576 : Shape := ⟨3, ![8, 64, 576]⟩
abbrev S16x64x512 : Shape := ⟨3, ![16, 64, 512]⟩
abbrev S1x64x512 : Shape := ⟨3, ![1, 64, 512]⟩
abbrev S1x512x8x64 : Shape := ⟨4, ![1, 512, 8, 64]⟩
abbrev S1x64x128 : Shape := ⟨3, ![1, 64, 128]⟩
abbrev S64x128 : Shape := ⟨2, ![64, 128]⟩
abbrev S1x512x1x64 : Shape := ⟨4, ![1, 512, 1, 64]⟩
abbrev S512x64 : Shape := ⟨2, ![512, 64]⟩
abbrev S512x128 : Shape := ⟨2, ![512, 128]⟩
abbrev S576x128 : Shape := ⟨2, ![576, 128]⟩
abbrev S1x128 : Shape := ⟨2, ![1, 128]⟩
abbrev S64x576 : Shape := ⟨2, ![64, 576]⟩
abbrev S1x64x576 : Shape := ⟨3, ![1, 64, 576]⟩
abbrev S64 : Shape := ⟨1, ![64]⟩
abbrev S64x1 : Shape := ⟨2, ![64, 1]⟩

abbrev nBuf : Space → Nat
  | .hbm => 5
  | .vmem => 13
  | .smem => 0
  | _ => 0

abbrev bufTy : (tb : Table) → Fin (tcTables nBuf tb) → BufTy
  | .hbm, ⟨0, _⟩ => ⟨S16x64x3072, .bf16⟩
  | .hbm, ⟨1, _⟩ => ⟨S16x512x8x64, .f32⟩
  | .hbm, ⟨2, _⟩ => ⟨S16x512x8x64, .f32⟩
  | .hbm, ⟨3, _⟩ => ⟨S8x64x576, .f32⟩
  | .hbm, ⟨4, _⟩ => ⟨S16x64x512, .f32⟩
  | .local _ .vmem, ⟨0, _⟩ => ⟨S1x64x512, .bf16⟩
  | .local _ .vmem, ⟨1, _⟩ => ⟨S1x64x512, .bf16⟩
  | .local _ .vmem, ⟨2, _⟩ => ⟨S1x512x8x64, .f32⟩
  | .local _ .vmem, ⟨3, _⟩ => ⟨S1x512x8x64, .f32⟩
  | .local _ .vmem, ⟨4, _⟩ => ⟨S1x64x512, .bf16⟩
  | .local _ .vmem, ⟨5, _⟩ => ⟨S1x64x512, .bf16⟩
  | .local _ .vmem, ⟨6, _⟩ => ⟨S1x512x8x64, .f32⟩
  | .local _ .vmem, ⟨7, _⟩ => ⟨S1x512x8x64, .f32⟩
  | .local _ .vmem, ⟨8, _⟩ => ⟨S1x64x512, .bf16⟩
  | .local _ .vmem, ⟨9, _⟩ => ⟨S1x64x512, .bf16⟩
  | .local _ .vmem, ⟨10, _⟩ => ⟨S8x64x576, .f32⟩
  | .local _ .vmem, ⟨11, _⟩ => ⟨S1x64x512, .f32⟩
  | .local _ .vmem, ⟨12, _⟩ => ⟨S1x64x512, .f32⟩
  | _, _ => ⟨S16x64x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BndRefIdeal.lean ====
abbrev S16x64x3072 : Shape := ⟨3, ![16, 64, 3072]⟩
abbrev S16x512x8x64 : Shape := ⟨4, ![16, 512, 8, 64]⟩
abbrev S8x64x576 : Shape := ⟨3, ![8, 64, 576]⟩
abbrev S16x64x512 : Shape := ⟨3, ![16, 64, 512]⟩
abbrev S16x64x8x64 : Shape := ⟨4, ![16, 64, 8, 64]⟩
abbrev S16x576x8x64 : Shape := ⟨4, ![16, 576, 8, 64]⟩
abbrev S16x8x64x576 : Shape := ⟨4, ![16, 8, 64, 576]⟩
abbrev S1x8x64x576 : Shape := ⟨4, ![1, 8, 64, 576]⟩
abbrev S_ : Shape := ⟨0, ![]⟩
abbrev S16x8x64 : Shape := ⟨3, ![16, 8, 64]⟩
abbrev S16x8x64x1 : Shape := ⟨4, ![16, 8, 64, 1]⟩
abbrev S16x8x64x64 : Shape := ⟨4, ![16, 8, 64, 64]⟩

abbrev nBuf : Space → Nat
  | .hbm => 34
  | .vmem => 0
  | .smem => 0
  | _ => 0

abbrev bufTy : (tb : Table) → Fin (tcTables nBuf tb) → BufTy
  | .hbm, ⟨0, _⟩ => ⟨S16x64x3072, .bf16⟩
  | .hbm, ⟨1, _⟩ => ⟨S16x512x8x64, .f32⟩
  | .hbm, ⟨2, _⟩ => ⟨S16x512x8x64, .f32⟩
  | .hbm, ⟨3, _⟩ => ⟨S8x64x576, .f32⟩
  | .hbm, ⟨4, _⟩ => ⟨S16x64x3072, .f32⟩
  | .hbm, ⟨5, _⟩ => ⟨S16x64x512, .f32⟩
  | .hbm, ⟨6, _⟩ => ⟨S16x64x8x64, .f32⟩
  | .hbm, ⟨7, _⟩ => ⟨S16x64x512, .f32⟩
  | .hbm, ⟨8, _⟩ => ⟨S16x64x8x64, .f32⟩
  | .hbm, ⟨9, _⟩ => ⟨S16x64x512, .f32⟩
  | .hbm, ⟨10, _⟩ => ⟨S16x64x8x64, .f32⟩
  | .hbm, ⟨11, _⟩ => ⟨S16x576x8x64, .f32⟩
  | .hbm, ⟨12, _⟩ => ⟨S16x576x8x64, .f32⟩
  | .hbm, ⟨13, _⟩ => ⟨S16x8x64x576, .f32⟩
  | .hbm, ⟨14, _⟩ => ⟨S1x8x64x576, .f32⟩
  | .hbm, ⟨15, _⟩ => ⟨S16x8x64x576, .f32⟩
  | .hbm, ⟨16, _⟩ => ⟨S16x8x64x576, .f32⟩
  | .hbm, ⟨17, _⟩ => ⟨S_, .f32⟩
  | .hbm, ⟨18, _⟩ => ⟨S16x8x64, .f32⟩
  | .hbm, ⟨19, _⟩ => ⟨S_, .f32⟩
  | .hbm, ⟨20, _⟩ => ⟨S16x8x64, .f32⟩
  | .hbm, ⟨21, _⟩ => ⟨S16x8x64, .f32⟩
  | .hbm, ⟨22, _⟩ => ⟨S16x8x64x1, .f32⟩
  | .hbm, ⟨23, _⟩ => ⟨S16x8x64x576, .f32⟩
  | .hbm, ⟨24, _⟩ => ⟨S16x8x64x576, .f32⟩
  | .hbm, ⟨25, _⟩ => ⟨S16x8x64x576, .f32⟩
  | .hbm, ⟨26, _⟩ => ⟨S_, .f32⟩
  | .hbm, ⟨27, _⟩ => ⟨S16x8x64, .f32⟩
  | .hbm, ⟨28, _⟩ => ⟨S16x8x64x1, .f32⟩
  | .hbm, ⟨29, _⟩ => ⟨S16x8x64x576, .f32⟩
  | .hbm, ⟨30, _⟩ => ⟨S16x8x64x576, .f32⟩
  | .hbm, ⟨31, _⟩ => ⟨S16x8x64x64, .f32⟩
  | .hbm, ⟨32, _⟩ => ⟨S16x64x8x64, .f32⟩
  | .hbm, ⟨33, _⟩ => ⟨S16x64x512, .f32⟩
  | _, _ => ⟨S16x64x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.QkvProd.lean ====
/- The prompt's projection, one row tile at a time: the body's normalised row and its products with a strip of the
   weights are the reference's. -/
module

public import proofs.«01_k».proof.Proof.Gen.QkvIdeal.Value
public import proofs.«01_k».proof.Proof.Gen.QkvRefIdeal.Read
public import Idealize.ShloMosaic.Lib.Pipeline.ValueKit

@[expose] public section

set_option maxRecDepth 16384

noncomputable section

namespace Cert.QkvIdeal.Prod

open Cert.QkvIdeal Cert.QkvIdeal.Gen Idealize.ShloMosaic Idealize.ShloMosaic.TcCoe Idealize.SL.Sem
open Idealize.ShloMosaic.Pipeline (Dat)
open Cert.QkvRefIdeal.Read Idealize.ShloMosaic.Pointwise

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val / 16, 0] ∧ win0_5.index t = ![t.val / 16, 0]
    ∧ win0_6.index t = ![t.val, 0] ∧ win0_7.index t = ![t.val, 0] :=
  (by decide +kernel : ∀ t : Fin grid0.N, _)

/-- The activations, the norm's gain and the weights as launched. -/
abbrev X (c : Dev nD) : FVec Ideal S2x8192x1024 .f32 := m ((c : Thread nD τ).loc main_arg0)
abbrev Gn (c : Dev nD) : FVec Ideal S1x1024 .f32 := m ((c : Thread nD τ).loc main_arg1)
abbrev Wt (c : Dev nD) : FVec Ideal S1x1024x3072 .f32 := m ((c : Thread nD τ).loc main_arg2)

/-- Row `y 0` of tile `t`, normalised by the body, is the reference's normalised row. -/
theorem row (c : Dev nD) (t : Fin cfg0.N) (y : S512x1024.Idx) (j : S2x8192x1024.Idx)
    (h : (j 0 : ℕ) * 8192 + j 1 = 512 * t.val + y 0) (h2 : (j 2 : ℕ) = y 1) :
    k0_pay7 (F := Ideal) (iblk m c 0 t) (iblk m c 1 t) y = val_main_v13 (F := Ideal) (X m c) (Gn m c) j := by
  pointwise [k0_pay7, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  blk_point [iblk, V, idx t]

/-- A strip of 512 weight columns against the normalised tile: the reference's product at the same row and column. -/
theorem prod (c : Dev nD) (t : Fin cfg0.N) (v : FVec Ideal S1024x512 .bf16) (y : S512x512.Idx) (j : Cert.QkvRefIdeal.S2x8192x3072.Idx)
    (h : (j 0 : ℕ) * 8192 + j 1 = 512 * t.val + y 0)
    (hv : ∀ k : Fin 1024, v (ix2 k (y 1)) = Wt m c (ix3 0 k (j 2))) :
    k0_pay3 (F := Ideal) (k0_pay7 (F := Ideal) (iblk m c 0 t) (iblk m c 1 t)) v y
      = val_main_v15 (F := Ideal) (X m c) (Gn m c) (Wt m c) j := by
  rw [val_main_v15_apply]
  have hp : ∀ (a : FVec Ideal S512x1024 .bf16), k0_pay3 (F := Ideal) a v y = ∑ k : Fin 1024, a (ix2 (y 0) k) * v (ix2 k (y 1)) := by
    intro a; pointwise [k0_pay3]
  rw [hp]
  refine Finset.sum_congr rfl fun k _ => ?_
  rw [row m c t (ix2 (y 0) k) (lidx_main_v15 j k) h rfl, val_main_v14_apply]
  refine congrArg (_ * ·) ((hv k).trans (congrArg (Wt m c) ?_))
  blk_ext

/-- The weight strip at column offset `o` of the one weight block is those columns of the weights. -/
theorem strip (c : Dev nD) (t : Fin cfg0.N) (o : ℕ) (ho : ∀ a, (![0, o] : Fin 2 → ℕ) a + S1024x512.size a ≤ S1024x3072.size a)
    (k : Fin 1024) (l : Fin 512) (n : Fin 3072) (hn : (n : ℕ) = o + l) :
    View.ld (Val := Elt Ideal) (iblk m c 2 t) (Rect.unit (s := S1024x3072) ![0, o] S1024x512.size ho) (ix2 k l)
      = Wt m c (ix3 0 k n) := by
  pointwise
  blk_point [iblk, V, idx t]

end Cert.QkvIdeal.Prod

end
-- ==== Proof.QkvRefAt.lean ====
/- The prompt's projection: the reference's results read at an index of its product. -/
module

public import proofs.«01_k».proof.Proof.QkvProd

@[expose] public section

set_option maxRecDepth 16384

noncomputable section

namespace Cert.QkvIdeal.Prod

open Cert.QkvIdeal Cert.QkvIdeal.Gen Idealize.ShloMosaic Idealize.ShloMosaic.TcCoe Idealize.SL.Sem
open Idealize.ShloMosaic.Pipeline (Dat)
open Cert.QkvRefIdeal.Read Idealize.ShloMosaic.Pointwise

variable (x : FVec Ideal S2x8192x1024 .f32) (g : FVec Ideal S1x1024 .f32) (w : FVec Ideal S1x1024x3072 .f32)

/-- The reference's keys of mixer B at an index are the product at that row and column. -/
theorem v33_at (i : Cert.QkvRefIdeal.S16384x512.Idx) (j : Cert.QkvRefIdeal.S2x8192x3072.Idx)
    (h : (j 0 : ℕ) * 8192 + j 1 = i 0) (h2 : (j 2 : ℕ) = 2048 + i 1) :
    val_main_v33 (F := Ideal) x g w i = val_main_v15 (F := Ideal) x g w j := by
  have h0 : (j 0 : ℕ) < 2 := (j 0).isLt
  have h1 : (j 1 : ℕ) < 8192 := (j 1).isLt
  have h3 : (i 1 : ℕ) < 512 := (i 1).isLt
  rw [val_main_v33_apply, val_main_v20_apply]
  refine congrArg _ (funext fun a => Fin.ext ?_)
  match a with
  | ⟨0, _⟩ => show ((i 0).val * 512 + (i 1).val) / 4194304 = (j 0).val; omega
  | ⟨1, _⟩ => show ((i 0).val * 512 + (i 1).val) / 512 % 8192 = (j 1).val; omega
  | ⟨2, _⟩ => show 2048 + ((i 0).val * 512 + (i 1).val) % 512 = (j 2).val; omega

/-- The reference's values of mixer B at an index are the product at that row and column. -/
theorem v34_at (i : Cert.QkvRefIdeal.S16384x512.Idx) (j : Cert.QkvRefIdeal.S2x8192x3072.Idx)
    (h : (j 0 : ℕ) * 8192 + j 1 = i 0) (h2 : (j 2 : ℕ) = 2560 + i 1) :
    val_main_v34 (F := Ideal) x g w i = val_main_v15 (F := Ideal) x g w j := by
  have h0 : (j 0 : ℕ) < 2 := (j 0).isLt
  have h1 : (j 1 : ℕ) < 8192 := (j 1).isLt
  have h3 : (i 1 : ℕ) < 512 := (i 1).isLt
  rw [val_main_v34_apply, val_main_v21_apply]
  refine congrArg _ (funext fun a => Fin.ext ?_)
  match a with
  | ⟨0, _⟩ => show ((i 0).val * 512 + (i 1).val) / 4194304 = (j 0).val; omega
  | ⟨1, _⟩ => show ((i 0).val * 512 + (i 1).val) / 512 % 8192 = (j 1).val; omega
  | ⟨2, _⟩ => show 2560 + ((i 0).val * 512 + (i 1).val) % 512 = (j 2).val; omega

/-- The reference's last keys of mixer A at an index are the product at that row and column. -/
theorem v30_at (i : Cert.QkvRefIdeal.S1024x512.Idx) (j : Cert.QkvRefIdeal.S2x8192x3072.Idx)
    (h : (j 0 : ℕ) * 512 + j 1 = i 0 + 7680) (hlo : 7680 ≤ (j 1 : ℕ)) (h2 : (j 2 : ℕ) = 512 + i 1) :
    val_main_v30 (F := Ideal) x g w i = val_main_v15 (F := Ideal) x g w j := by
  have h0 : (j 0 : ℕ) < 2 := (j 0).isLt
  have h1 : (j 1 : ℕ) < 8192 := (j 1).isLt
  have h3 : (i 1 : ℕ) < 512 := (i 1).isLt
  rw [val_main_v30_apply, val_main_v29_apply, val_main_v17_apply]
  refine congrArg _ (funext fun a => Fin.ext ?_)
  match a with
  | ⟨0, _⟩ => show ((i 0).val * 512 + (i 1).val) / 262144 = (j 0).val; omega
  | ⟨1, _⟩ => show 7680 + ((i 0).val * 512 + (i 1).val) / 512 % 512 = (j 1).val; omega
  | ⟨2, _⟩ => show 512 + ((i 0).val * 512 + (i 1).val) % 512 = (j 2).val; omega

/-- The reference's last values of mixer A at an index are the product at that row and column. -/
theorem v32_at (i : Cert.QkvRefIdeal.S1024x512.Idx) (j : Cert.QkvRefIdeal.S2x8192x3072.Idx)
    (h : (j 0 : ℕ) * 512 + j 1 = i 0 + 7680) (hlo : 7680 ≤ (j 1 : ℕ)) (h2 : (j 2 : ℕ) = 1024 + i 1) :
    val_main_v32 (F := Ideal) x g w i = val_main_v15 (F := Ideal) x g w j := by
  have h0 : (j 0 : ℕ) < 2 := (j 0).isLt
  have h1 : (j 1 : ℕ) < 8192 := (j 1).isLt
  have h3 : (i 1 : ℕ) < 512 := (i 1).isLt
  rw [val_main_v32_apply, val_main_v31_apply, val_main_v18_apply]
  refine congrArg _ (funext fun a => Fin.ext ?_)
  match a with
  | ⟨0, _⟩ => show ((i 0).val * 512 + (i 1).val) / 262144 = (j 0).val; omega
  | ⟨1, _⟩ => show 7680 + ((i 0).val * 512 + (i 1).val) / 512 % 512 = (j 1).val; omega
  | ⟨2, _⟩ => show 1024 + ((i 0).val * 512 + (i 1).val) % 512 = (j 2).val; omega

/-- The reference's queries of mixer A, scaled, at an index. -/
theorem v23_at (a : Fin 2) (b : Fin 8192) (e : Fin 512) (d : Fin 3072) (h : (d : ℕ) = 0 + e) :
    val_main_v23 (F := Ideal) x g w (ix3 a b e) = val_main_v15 (F := Ideal) x g w (ix3 a b d) * Ideal.ofBits FTy.f32 0x3E000000#32 := by
  rw [val_main_v23_apply, val_main_v16_apply, val_main_v22_apply]
  have hi : idx_main_v16 (ix3 a b e) = ix3 a b d := by blk_ext
  rw [hi]; rfl

/-- The reference's keys of mixer A at an index. -/
theorem v17_at (a : Fin 2) (b : Fin 8192) (e : Fin 512) (d : Fin 3072) (h : (d : ℕ) = 512 + e) :
    val_main_v17 (F := Ideal) x g w (ix3 a b e) = val_main_v15 (F := Ideal) x g w (ix3 a b d) := by
  rw [val_main_v17_apply]
  have hi : idx_main_v17 (ix3 a b e) = ix3 a b d := by blk_ext
  rw [hi]

/-- The reference's values of mixer A at an index. -/
theorem v18_at (a : Fin 2) (b : Fin 8192) (e : Fin 512) (d : Fin 3072) (h : (d : ℕ) = 1024 + e) :
    val_main_v18 (F := Ideal) x g w (ix3 a b e) = val_main_v15 (F := Ideal) x g w (ix3 a b d) := by
  rw [val_main_v18_apply]
  have hi : idx_main_v18 (ix3 a b e) = ix3 a b d := by blk_ext
  rw [hi]

/-- The reference's queries of mixer B, scaled, at an index. -/
theorem v25_at (a : Fin 2) (b : Fin 8192) (e : Fin 512) (d : Fin 3072) (h : (d : ℕ) = 1536 + e) :
    val_main_v25 (F := Ideal) x g w (ix3 a b e) = val_main_v15 (F := Ideal) x g w (ix3 a b d) * Ideal.ofBits FTy.f32 0x3E000000#32 := by
  rw [val_main_v25_apply, val_main_v19_apply, val_main_v24_apply]
  have hi : idx_main_v19 (ix3 a b e) = ix3 a b d := by blk_ext
  rw [hi]; rfl

/-- The reference's keys of mixer B at an index. -/
theorem v20_at (a : Fin 2) (b : Fin 8192) (e : Fin 512) (d : Fin 3072) (h : (d : ℕ) = 2048 + e) :
    val_main_v20 (F := Ideal) x g w (ix3 a b e) = val_main_v15 (F := Ideal) x g w (ix3 a b d) := by
  rw [val_main_v20_apply]
  have hi : idx_main_v20 (ix3 a b e) = ix3 a b d := by blk_ext
  rw [hi]

/-- The reference's values of mixer B at an index. -/
theorem v21_at (a : Fin 2) (b : Fin 8192) (e : Fin 512) (d : Fin 3072) (h : (d : ℕ) = 2560 + e) :
    val_main_v21 (F := Ideal) x g w (ix3 a b e) = val_main_v15 (F := Ideal) x g w (ix3 a b d) := by
  rw [val_main_v21_apply]
  have hi : idx_main_v21 (ix3 a b e) = ix3 a b d := by blk_ext
  rw [hi]

/-- The reference's six projections side by side at an index: the product, scaled where the column is a query's. -/
theorem v27_at (a : Fin 2) (b : Fin 8192) (d : Fin 3072) :
    val_main_v27 (F := Ideal) x g w (ix3 a b d)
      = if (d : ℕ) / 512 = 0 ∨ (d : ℕ) / 512 = 3 then val_main_v15 (F := Ideal) x g w (ix3 a b d) * Ideal.ofBits FTy.f32 0x3E000000#32
        else val_main_v15 (F := Ideal) x g w (ix3 a b d) := by
  pointwise [val_main_v27, val_main_v26]
  have hb := d.isLt
  by_cases h0 : (d : ℕ) < 512
  · exact (dif_pos h0).trans ((v23_at x g w a b _ d (by show (d : ℕ) = 0 + ((d : ℕ)); omega)).trans (if_pos (by omega)).symm)
  refine (dif_neg h0).trans ?_
  by_cases h1 : (d : ℕ) - 512 < 512
  · exact (dif_pos h1).trans ((v17_at x g w a b _ d (by show (d : ℕ) = 512 + ((d : ℕ) - 512); omega)).trans (if_neg (by omega)).symm)
  refine (dif_neg h1).trans ?_
  by_cases h2 : (d : ℕ) - 512 - 512 < 512
  · exact (dif_pos h2).trans ((v18_at x g w a b _ d (by show (d : ℕ) = 1024 + ((d : ℕ) - 512 - 512); omega)).trans (if_neg (by omega)).symm)
  refine (dif_neg h2).trans ?_
  by_cases h3 : (d : ℕ) - 512 - 512 - 512 < 512
  · exact (dif_pos h3).trans ((v25_at x g w a b _ d (by show (d : ℕ) = 1536 + ((d : ℕ) - 512 - 512 - 512); omega)).trans (if_pos (by omega)).symm)
  refine (dif_neg h3).trans ?_
  by_cases h4 : (d : ℕ) - 512 - 512 - 512 - 512 < 512
  · exact (dif_pos h4).trans ((v20_at x g w a b _ d (by show (d : ℕ) = 2048 + ((d : ℕ) - 512 - 512 - 512 - 512); omega)).trans (if_neg (by omega)).symm)
  refine (dif_neg h4).trans ?_
  exact (v21_at x g w a b _ d (by show (d : ℕ) = 2560 + ((d : ℕ) - 512 - 512 - 512 - 512 - 512); omega)).trans (if_neg (by omega)).symm

/-- The flattened rows of that array. -/
theorem v28_at (i : Cert.QkvRefIdeal.S16384x3072.Idx) (j : Cert.QkvRefIdeal.S2x8192x3072.Idx)
    (h : (j 0 : ℕ) * 8192 + j 1 = i 0) (h2 : (j 2 : ℕ) = i 1) :
    val_main_v28 (F := Ideal) x g w i = val_main_v27 (F := Ideal) x g w j := by
  have h0 : (j 0 : ℕ) < 2 := (j 0).isLt
  have h1 : (j 1 : ℕ) < 8192 := (j 1).isLt
  have h3 : (i 1 : ℕ) < 3072 := (i 1).isLt
  rw [val_main_v28_apply]
  refine congrArg _ (funext fun a => Fin.ext ?_)
  match a with
  | ⟨0, _⟩ => show ((i 0).val * 3072 + (i 1).val) / 25165824 = (j 0).val; omega
  | ⟨1, _⟩ => show ((i 0).val * 3072 + (i 1).val) / 3072 % 8192 = (j 1).val; omega
  | ⟨2, _⟩ => show ((i 0).val * 3072 + (i 1).val) % 3072 = (j 2).val; omega

end Cert.QkvIdeal.Prod

end
-- ==== Proof.QkvArrays.lean ====
/- The prompt's projection: every result array after the run is the reference's. -/
module

public import proofs.«01_k».proof.Proof.QkvProd
public import proofs.«01_k».proof.Proof.QkvRefAt

@[expose] public section

set_option maxRecDepth 16384

noncomputable section

namespace Cert.QkvIdeal.Prod

open Cert.QkvIdeal Cert.QkvIdeal.Gen Idealize.ShloMosaic Idealize.ShloMosaic.TcCoe Idealize.SL.Sem
open Idealize.ShloMosaic.Pipeline (Dat)
open Cert.QkvRefIdeal.Read Idealize.ShloMosaic.Pointwise

variable (m : (ℓ : Loc nD τ sig) → Buf (Elt Ideal) ℓ)

/-- The strip at offset `o` of tile `t`: the reference's product, at any index of the product with that row and column. -/
theorem tile (c : Dev nD) (t : Fin cfg0.N) (o : ℕ) (ho : ∀ a, (![0, o] : Fin 2 → ℕ) a + S1024x512.size a ≤ S1024x3072.size a)
    (y : S512x512.Idx) (j : Cert.QkvRefIdeal.S2x8192x3072.Idx)
    (h : (j 0 : ℕ) * 8192 + j 1 = 512 * t.val + y 0) (h2 : (j 2 : ℕ) = o + y 1) :
    k0_pay3 (F := Ideal) (k0_pay7 (F := Ideal) (iblk m c 0 t) (iblk m c 1 t))
        (View.ld (Val := Elt Ideal) (iblk m c 2 t) (Rect.unit (s := S1024x3072) ![0, o] S1024x512.size ho)) y
      = val_main_v15 (F := Ideal) (X m c) (Gn m c) (Wt m c) j :=
  prod m c t _ y j h fun k => strip m c t o ho k (y 1) (j 2) h2

/-- The body's normalised tile, off its two whole-block loads. -/
theorem normalised (x0 : FVec Ideal S512x1024 .f32) (x1 : FVec Ideal S1x1024 .f32) (x2 : FVec Ideal S1024x3072 .bf16) :
    k0_pay12 (F := Ideal) x0 x1 x2 = k0_pay7 (F := Ideal) x0 x1 := by
  unfold k0_pay12
  rw [View.ld_unit_lit, View.ld_unit_lit] <;> decide

/-- The body's strip of mixer A's values, off its loads. -/
theorem valuesA (x0 : FVec Ideal S512x1024 .f32) (x1 : FVec Ideal S1x1024 .f32) (x2 : FVec Ideal S1024x3072 .bf16) :
    k0_pay13 (F := Ideal) x0 x1 x2 = k0_pay3 (F := Ideal) (k0_pay7 (F := Ideal) x0 x1) (View.ld x2 r0_7) := by
  unfold k0_pay13
  rw [View.ld_unit_lit, View.ld_unit_lit]
  · rfl
  all_goals decide

/-- The keys of mixer B: every row. -/
theorem final6 (c : Dev nD) : (dats m 0 c).arrAt 6 (cfgs 0).N = val_main_v33 (F := Ideal) (X m c) (Gn m c) (Wt m c) := by
  refine (dats m 0 c).arrAt_eq_of_covers 6 _ (by decide +kernel) fun t hf y => ?_
  have ht : t.val < 32 := lt_of_lt_of_eq t.isLt N_0
  have hy0 : (y 0 : ℕ) < 512 := (y 0).isLt
  have hy1 : (y 1 : ℕ) < 512 := (y 1).isLt
  obtain_idx j : Cert.QkvRefIdeal.S2x8192x3072 := [t.val / 16, 512 * (t.val % 16) + (y 0 : ℕ), 2048 + (y 1 : ℕ)] with hj
  blk_simp
  rw [after0_6]; frame_out
  rw [normalised]
  refine Eq.trans (tile m c t 2048 _ y j (by omega) hj2) (v33_at _ _ _ _ j ?_ ?_).symm
  · blk_simp [idx t] <;> omega
  · blk_simp [idx t] <;> omega

/-- The values of mixer B: every row. -/
theorem final7 (c : Dev nD) : (dats m 0 c).arrAt 7 (cfgs 0).N = val_main_v34 (F := Ideal) (X m c) (Gn m c) (Wt m c) := by
  refine (dats m 0 c).arrAt_eq_of_covers 7 _ (by decide +kernel) fun t hf y => ?_
  have ht : t.val < 32 := lt_of_lt_of_eq t.isLt N_0
  have hy0 : (y 0 : ℕ) < 512 := (y 0).isLt
  have hy1 : (y 1 : ℕ) < 512 := (y 1).isLt
  obtain_idx j : Cert.QkvRefIdeal.S2x8192x3072 := [t.val / 16, 512 * (t.val % 16) + (y 0 : ℕ), 2560 + (y 1 : ℕ)] with hj
  blk_simp
  rw [after0_7]; frame_out
  rw [normalised]
  refine Eq.trans (tile m c t 2560 _ y j (by omega) hj2) (v34_at _ _ _ _ j ?_ ?_).symm
  · blk_simp [idx t] <;> omega
  · blk_simp [idx t] <;> omega

/-- A point that writes back mixer A's window is the last of its sequence. -/
theorem flush4 : ∀ t : Fin cfg0.N, (cfg0.win 4).flush t = true → t.val % 16 = 15 :=
  (by decide +kernel : ∀ t : Fin grid0.N, (cfg0.win 4).flush t = true → t.val % 16 = 15)

/-- The keys of mixer A: the last 512 rows of each sequence. -/
theorem final4 (c : Dev nD) : (dats m 0 c).arrAt 4 (cfgs 0).N = val_main_v30 (F := Ideal) (X m c) (Gn m c) (Wt m c) := by
  refine (dats m 0 c).arrAt_eq_of_covers 4 _ (by decide +kernel) fun t hf y => ?_
  have h15 := flush4 t hf
  have ht : t.val < 32 := lt_of_lt_of_eq t.isLt N_0
  have hy0 : (y 0 : ℕ) < 512 := (y 0).isLt
  have hy1 : (y 1 : ℕ) < 512 := (y 1).isLt
  obtain_idx j : Cert.QkvRefIdeal.S2x8192x3072 := [t.val / 16, 512 * (t.val % 16) + (y 0 : ℕ), 512 + (y 1 : ℕ)] with hj
  blk_simp
  rw [after0_4]; frame_out
  refine Eq.trans (tile m c t 512 _ y j (by omega) hj2) (v30_at _ _ _ _ j ?_ (by omega) ?_).symm
  · blk_simp [idx t] <;> omega
  · blk_simp [idx t] <;> omega

/-- A point that writes back mixer A's window is the last of its sequence. -/
theorem flush5 : ∀ t : Fin cfg0.N, (cfg0.win 5).flush t = true → t.val % 16 = 15 :=
  (by decide +kernel : ∀ t : Fin grid0.N, (cfg0.win 5).flush t = true → t.val % 16 = 15)

/-- The values of mixer A: the last 512 rows of each sequence. -/
theorem final5 (c : Dev nD) : (dats m 0 c).arrAt 5 (cfgs 0).N = val_main_v32 (F := Ideal) (X m c) (Gn m c) (Wt m c) := by
  refine (dats m 0 c).arrAt_eq_of_covers 5 _ (by decide +kernel) fun t hf y => ?_
  have h15 := flush5 t hf
  have ht : t.val < 32 := lt_of_lt_of_eq t.isLt N_0
  have hy0 : (y 0 : ℕ) < 512 := (y 0).isLt
  have hy1 : (y 1 : ℕ) < 512 := (y 1).isLt
  obtain_idx j : Cert.QkvRefIdeal.S2x8192x3072 := [t.val / 16, 512 * (t.val % 16) + (y 0 : ℕ), 1024 + (y 1 : ℕ)] with hj
  blk_simp
  rw [after0_5]; frame_out
  rw [valuesA]
  refine Eq.trans (tile m c t 1024 _ y j (by omega) hj2) (v32_at _ _ _ _ j ?_ (by omega) ?_).symm
  · blk_simp [idx t] <;> omega
  · blk_simp [idx t] <;> omega

end Cert.QkvIdeal.Prod

end
-- ==== Proof.QkvMixed.lean ====
/- The prompt's projection: the array of the six projections side by side. -/
module

public import proofs.«01_k».proof.Proof.QkvArrays

@[expose] public section

set_option maxRecDepth 16384

noncomputable section

namespace Cert.QkvIdeal.Prod

open Cert.QkvIdeal Cert.QkvIdeal.Gen Idealize.ShloMosaic Idealize.ShloMosaic.TcCoe Idealize.SL.Sem
open Idealize.ShloMosaic.Pipeline (Dat)
open Cert.QkvRefIdeal.Read Idealize.ShloMosaic.Pointwise

variable (m : (ℓ : Loc nD τ sig) → Buf (Elt Ideal) ℓ)

/-- What a point must leave at an index of its block of the wide array. -/
theorem target (c : Dev nD) (t : Fin cfg0.N) (y : S512x3072.Idx) (a : Fin 2) (b : Fin 8192) (d : Fin 3072)
    (h : (a : ℕ) * 8192 + b = 512 * t.val + y 0) (h2 : (d : ℕ) = y 1) :
    val_main_v28 (F := Ideal) (X m c) (Gn m c) (Wt m c) (((cfg0.win 3).blk t).view.emb y)
      = if (d : ℕ) / 512 = 0 ∨ (d : ℕ) / 512 = 3
        then val_main_v15 (F := Ideal) (X m c) (Gn m c) (Wt m c) (ix3 a b d) * Ideal.ofBits FTy.f32 0x3E000000#32
        else val_main_v15 (F := Ideal) (X m c) (Gn m c) (Wt m c) (ix3 a b d) := by
  refine (v28_at _ _ _ _ (ix3 a b d) ?_ ?_).trans (v27_at _ _ _ a b d)
  · show (a : ℕ) * 8192 + (b : ℕ) = _
    blk_simp [idx t] <;> omega
  · show (d : ℕ) = _
    blk_simp [idx t] <;> omega

section Stores
variable (a : FVec Ideal S512x1024 .bf16) (v : FVec Ideal S1024x512 .bf16) (x0 : FVec Ideal S512x1024 .f32) (x1 : FVec Ideal S1x1024 .f32)
  (y : S512x512.Idx)
/-- Over the extended reals each strip stored is the strip's product, scaled for a strip of queries. -/
theorem plain6 : k0_pay6 (F := Ideal) a v y = k0_pay3 (F := Ideal) a v y := rfl
theorem plain4 : k0_pay4 (F := Ideal) a v y = k0_pay3 (F := Ideal) a v y := rfl
theorem plain1 (b : FVec Ideal S512x512 .f32) : k0_pay1 (F := Ideal) b y = b y := rfl
theorem plain10 : k0_pay10 (F := Ideal) (View.ld x0 r0_0) (View.ld x1 r0_1) v y = k0_pay3 (F := Ideal) (k0_pay7 (F := Ideal) x0 x1) v y := by
  rw [View.ld_unit_lit, View.ld_unit_lit]
  · rfl
  all_goals decide
theorem scaled2 : k0_pay2 (F := Ideal) a v y = k0_pay3 (F := Ideal) a v y * Ideal.ofBits FTy.f32 0x3E000000#32 := rfl
theorem scaled8 : k0_pay8 (F := Ideal) (View.ld x0 r0_0) (View.ld x1 r0_1) v y
    = k0_pay3 (F := Ideal) (k0_pay7 (F := Ideal) x0 x1) v y * Ideal.ofBits FTy.f32 0x3E000000#32 := by
  rw [View.ld_unit_lit, View.ld_unit_lit]
  · rfl
  all_goals decide
end Stores

/-- The six projections side by side, the queries scaled, every row. -/
theorem final3 (c : Dev nD) : (dats m 0 c).arrAt 3 (cfgs 0).N = val_main_v28 (F := Ideal) (X m c) (Gn m c) (Wt m c) := by
  refine (dats m 0 c).arrAt_eq_of_covers 3 _ (by decide +kernel) fun t hf y => ?_
  have ht : t.val < 32 := lt_of_lt_of_eq t.isLt N_0
  have hy0 : (y 0 : ℕ) < 512 := (y 0).isLt
  have hy1 : (y 1 : ℕ) < 3072 := (y 1).isLt
  blk_simp
  rw [after0_3]
  obtain ⟨a, ha⟩ : ∃ a : Fin 2, (a : ℕ) = t.val / 16 := ⟨⟨t.val / 16, by omega⟩, rfl⟩
  obtain ⟨b, hb⟩ : ∃ b : Fin 8192, (b : ℕ) = 512 * (t.val % 16) + (y 0 : ℕ) := ⟨⟨512 * (t.val % 16) + (y 0 : ℕ), by omega⟩, rfl⟩
  obtain ⟨d, hd⟩ : ∃ d : Fin 3072, (d : ℕ) = y 1 := ⟨⟨y 1, hy1⟩, rfl⟩
  refine Eq.trans ?_ (target m c t y a b d (by omega) hd).symm
  show out0_3 (F := Ideal) (iblk m c 0 t) (iblk m c 1 t) (iblk m c 2 t) y = _
  unfold out0_3
  rw [normalised, valuesA]
  have hrow : ∀ x : S512x512.Idx, (y 0 : ℕ) = x 0 → (a : ℕ) * 8192 + b = 512 * t.val + x 0 :=
    fun x e => by omega
  canon_tiles x h
  · exact ((plain6 _ _ x).trans (tile m c t 2560 _ x (ix3 a b d) (hrow x h0) (hd.trans h1))).trans (if_neg (by omega)).symm
  · exact ((plain4 _ _ x).trans (tile m c t 2048 _ x (ix3 a b d) (hrow x h0) (hd.trans h1))).trans (if_neg (by omega)).symm
  · exact ((scaled2 _ _ x).trans (congrArg (· * _) (tile m c t 1536 _ x (ix3 a b d) (hrow x h0) (hd.trans h1)))).trans (if_pos (by omega)).symm
  · exact ((plain1 x _).trans (tile m c t 1024 _ x (ix3 a b d) (hrow x h0) (hd.trans h1))).trans (if_neg (by omega)).symm
  · exact ((plain10 _ _ _ x).trans (tile m c t 512 _ x (ix3 a b d) (hrow x h0) (hd.trans h1))).trans (if_neg (by omega)).symm
  · exact ((scaled8 _ _ _ x).trans (congrArg (· * _) (tile m c t 0 _ x (ix3 a b d) (hrow x h0) (by rw [Nat.zero_add]; exact hd.trans h1)))).trans (if_pos (by omega)).symm

end Cert.QkvIdeal.Prod

end
-- ==== Proof.QkvClaims.lean ====
/-
  The claims about the prompt's projection: the frames of the program and of its idealization are the generated ones, the frame of the
  reference is read off its generated run, and the equality puts the five output arrays beside the reference's results.
-/
module

public import proofs.«01_k».proof.Defs
public import proofs.«01_k».proof.Proof.QkvMixed
public import proofs.«01_k».proof.Proof.Gen.Qkv.Frame
public import proofs.«01_k».proof.Proof.Gen.QkvRefIdeal.Run
public import Idealize.ShloMosaic.Adequacy
public import Idealize.ShloMosaic.Init

@[expose] public section

set_option maxRecDepth 16384

noncomputable section

namespace Cert.QkvIdeal.Prod

open Idealize.ShloMosaic Idealize.SL.Sem Cert.QkvIdeal Cert.QkvIdeal.Gen Cert.QkvRefIdeal.Read

attribute [local instance] Cert.Qkv.Gen.facts Cert.QkvIdeal.Gen.facts Cert.QkvRefIdeal.Gen.facts

/-- The prompt's projection runs, keeps its arguments and leaves every counter at zero. -/
theorem frameK : Cert.quiescent_Qkv := fun m ρ _ => Cert.Qkv.Gen.frame m ρ

/-- The same of its idealization. -/
theorem frameI : Cert.quiescent_QkvIdeal := fun m ρ _ => Cert.QkvIdeal.Gen.frame m ρ

/-- The reference runs and keeps its arguments; it declares no semaphore. -/
theorem frameR : Cert.quiescent_QkvRefIdeal := fun m ρ _ =>
  (θ_run Cert.QkvRefIdeal.defs _ _).mono (fun r h => ⟨fun c => (h c).2.2.2.2.2, sem_eq_zero_of_no_sems (by decide) r.2⟩)
    (Cert.QkvRefIdeal.Value.run (F := Ideal) m ρ)

/-- The idealization rewrote nothing. -/
theorem kept : Cert.preserves_Qkv_QkvIdeal := trivial

/-- On the same arguments the five output arrays are the reference's five results. -/
theorem equal : Cert.algebraic_QkvIdeal_QkvRefIdeal := by
  intro m g m' g' _ hag
  refine ⟨fun c => val_main_v28 (F := Ideal) (X m c) (Gn m c) (Wt m c), fun c => val_main_v30 (F := Ideal) (X m c) (Gn m c) (Wt m c),
    fun c => val_main_v32 (F := Ideal) (X m c) (Gn m c) (Wt m c), fun c => val_main_v33 (F := Ideal) (X m c) (Gn m c) (Wt m c),
    fun c => val_main_v34 (F := Ideal) (X m c) (Gn m c) (Wt m c), ?_, ?_⟩
  · refine (θ_run _ _ _).mono (fun r h c => ?_) (Cert.QkvIdeal.Value.run_blocks (F := Ideal) m g)
    obtain ⟨h3, h4, h5, h6, h7, ha⟩ := h c
    exact ⟨h3.trans (final3 m c), h4.trans (final4 m c), h5.trans (final5 m c), h6.trans (final6 m c), h7.trans (final7 m c), ha⟩
  · refine (θ_run _ _ _).mono (fun r h c => ?_) (Cert.QkvRefIdeal.Value.run (F := Ideal) m' g')
    obtain ⟨h3, h4, h5, h6, h7, ha⟩ := h c
    obtain ⟨e0, e1, e2⟩ := hag c
    refine ⟨(h3.trans (val_main_v28_eq m' c)).trans ?_, (h4.trans (val_main_v30_eq _ _ _)).trans ?_, (h5.trans (val_main_v32_eq _ _ _)).trans ?_,
      (h6.trans (val_main_v33_eq _ _ _)).trans ?_, (h7.trans (val_main_v34_eq _ _ _)).trans ?_, ha⟩ <;> rw [e0, e1, e2]

end Cert.QkvIdeal.Prod

end
-- ==== Proof.QksProd.lean ====
/- The sample's projection, one row tile at a time: the body's normalised row and its products with a strip of the
   weights are the reference's. -/
module

public import proofs.«01_k».proof.Proof.Gen.QksIdeal.Frame
public import proofs.«01_k».proof.Proof.Gen.QksRefIdeal.Read
public import Idealize.ShloMosaic.Lib.Pipeline.ValueKit

@[expose] public section

set_option maxRecDepth 16384

noncomputable section

namespace Cert.QksIdeal.Prod

open Cert.QksIdeal Cert.QksIdeal.Gen Idealize.ShloMosaic Idealize.ShloMosaic.TcCoe Idealize.SL.Sem
open Idealize.ShloMosaic.Pipeline (Dat)
open Cert.QksRefIdeal.Read Idealize.ShloMosaic.Pointwise

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The activations, the norm's gain and the weights as launched. -/
abbrev X (c : Dev nD) : FVec Ideal S16x64x1024 .f32 := m ((c : Thread nD τ).loc main_arg0)
abbrev Gn (c : Dev nD) : FVec Ideal S1x1024 .f32 := m ((c : Thread nD τ).loc main_arg1)
abbrev Wt (c : Dev nD) : FVec Ideal S1x1024x3072 .f32 := m ((c : Thread nD τ).loc main_arg2)

/-- What the region finds in the three buffers it reads: the activations' rows one below the other, the gain, the weights. -/
theorem rows_in (c : Dev nD) : V m c main_v0 = shapeCast S1024x1024 (X m c) shapeCasts_S16x64x1024_S1024x1024 := by
  show StableHlo.after hostOps0 _ _ = _
  after_results
  rfl
theorem gain_in (c : Dev nD) : V m c main_v4 = shapeCast S1x1024 (shapeCast S1024 (Gn m c) shapeCasts_S1x1024_S1024) shapeCasts_S1024_S1x1024 := by
  show StableHlo.after hostOps0 _ _ = _
  after_results
  rfl
theorem weights_in (c : Dev nD) : V m c main_v3
    = truncf .bf16 (shapeCast S1024x3072 (Wt m c) shapeCasts_S1x1024x3072_S1024x3072) bitsLt_bf16_f32 := by
  show StableHlo.after hostOps0 _ _ = _
  after_results
  rfl

/-- Row `y 0` of tile `t`, normalised by the body, is the reference's normalised row. -/
theorem row (c : Dev nD) (t : Fin cfg0.N) (y : S512x1024.Idx) (j : S16x64x1024.Idx)
    (h : (j 0 : ℕ) * 64 + j 1 = 512 * t.val + y 0) (h2 : (j 2 : ℕ) = y 1) :
    k0_pay7 (F := Ideal) (iblk m c 0 t) (iblk m c 1 t) y = val_main_v13 (F := Ideal) (X m c) (Gn m c) j := by
  pointwise [k0_pay7, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  blk_point [iblk, idx t]
  all_goals first | rw [rows_in] | rw [gain_in]
  all_goals pointwise
  all_goals blk_ext [idx t]

/-- A strip of 512 weight columns against the normalised tile: the reference's product at the same row and column. -/
theorem prod (c : Dev nD) (t : Fin cfg0.N) (v : FVec Ideal S1024x512 .bf16) (y : S512x512.Idx) (j : Cert.QksRefIdeal.S16x64x3072.Idx)
    (h : (j 0 : ℕ) * 64 + j 1 = 512 * t.val + y 0)
    (hv : ∀ k : Fin 1024, v (ix2 k (y 1)) = Wt m c (ix3 0 k (j 2))) :
    k0_pay3 (F := Ideal) (k0_pay7 (F := Ideal) (iblk m c 0 t) (iblk m c 1 t)) v y
      = val_main_v15 (F := Ideal) (X m c) (Gn m c) (Wt m c) j := by
  rw [val_main_v15_apply]
  have hp : ∀ (a : FVec Ideal S512x1024 .bf16), k0_pay3 (F := Ideal) a v y = ∑ k : Fin 1024, a (ix2 (y 0) k) * v (ix2 k (y 1)) := by
    intro a; pointwise [k0_pay3]
  rw [hp]
  refine Finset.sum_congr rfl fun k _ => ?_
  rw [row m c t (ix2 (y 0) k) (lidx_main_v15 j k) h rfl, val_main_v14_apply]
  refine congrArg (_ * ·) ((hv k).trans (congrArg (Wt m c) ?_))
  blk_ext

/-- The weight strip at column offset `o` of the one weight block is those columns of the weights. -/
theorem strip (c : Dev nD) (t : Fin cfg0.N) (o : ℕ) (ho : ∀ a, (![0, o] : Fin 2 → ℕ) a + S1024x512.size a ≤ S1024x3072.size a)
    (k : Fin 1024) (l : Fin 512) (n : Fin 3072) (hn : (n : ℕ) = o + l) :
    View.ld (Val := Elt Ideal) (iblk m c 2 t) (Rect.unit (s := S1024x3072) ![0, o] S1024x512.size ho) (ix2 k l)
      = Wt m c (ix3 0 k n) := by
  pointwise
  show V m c main_v3 _ = _
  rw [weights_in]
  pointwise
  blk_ext [idx t]

end Cert.QksIdeal.Prod

end
-- ==== Proof.QksRefAt.lean ====
/- The sample's projection: the reference's results read at an index of its product. -/
module

public import proofs.«01_k».proof.Proof.QksProd

@[expose] public section

set_option maxRecDepth 16384

noncomputable section

namespace Cert.QksIdeal.Prod

open Cert.QksIdeal Cert.QksIdeal.Gen Idealize.ShloMosaic Idealize.ShloMosaic.TcCoe Idealize.SL.Sem
open Idealize.ShloMosaic.Pipeline (Dat)
open Cert.QksRefIdeal.Read Idealize.ShloMosaic.Pointwise

variable (x : FVec Ideal S16x64x1024 .f32) (g : FVec Ideal S1x1024 .f32) (w : FVec Ideal S1x1024x3072 .f32)

/-- An array of the sample's strips with its 16 sequences laid one below the other. -/
def flat (v : FVec Ideal Cert.QksRefIdeal.S16x64x512 .f32) : FVec Ideal S1024x512 .f32 := fun i =>
  v (ix3 ⟨(i 0 : ℕ) / 64, by have h : (i 0 : ℕ) < 1024 := (i 0).isLt; omega⟩ ⟨(i 0 : ℕ) % 64, by omega⟩ ⟨i 1, (i 1).isLt⟩)

/-- A strip of the product at columns from `o`, flattened, at an index: the product at that row and column. -/
theorem flat_at (v : FVec Ideal Cert.QksRefIdeal.S16x64x512 .f32) (o : ℕ)
    (hv : ∀ (a : Fin 16) (b : Fin 64) (e : Fin 512) (d : Fin 3072), (d : ℕ) = o + e →
      v (ix3 a b e) = val_main_v15 (F := Ideal) x g w (ix3 a b d))
    (i : S1024x512.Idx) (j : Cert.QksRefIdeal.S16x64x3072.Idx) (h : (j 0 : ℕ) * 64 + j 1 = i 0) (h2 : (j 2 : ℕ) = o + i 1) :
    flat v i = val_main_v15 (F := Ideal) x g w j := by
  have h1 : (j 1 : ℕ) < 64 := (j 1).isLt
  refine (hv _ _ _ (j 2) h2).trans (congrArg _ (funext fun a => Fin.ext ?_))
  match a with
  | ⟨0, _⟩ => show (i 0).val / 64 = (j 0).val; omega
  | ⟨1, _⟩ => show (i 0).val % 64 = (j 1).val; omega
  | ⟨2, _⟩ => rfl

/-- The reference's queries of mixer A, scaled, at an index. -/
theorem v23_at (a : Fin 16) (b : Fin 64) (e : Fin 512) (d : Fin 3072) (h : (d : ℕ) = 0 + e) :
    val_main_v23 (F := Ideal) x g w (ix3 a b e) = val_main_v15 (F := Ideal) x g w (ix3 a b d) * Ideal.ofBits FTy.f32 0x3E000000#32 := by
  rw [val_main_v23_apply, val_main_v16_apply, val_main_v22_apply]
  have hi : idx_main_v16 (ix3 a b e) = ix3 a b d := by blk_ext
  rw [hi]; rfl

/-- The reference's keys of mixer A at an index. -/
theorem v17_at (a : Fin 16) (b : Fin 64) (e : Fin 512) (d : Fin 3072) (h : (d : ℕ) = 512 + e) :
    val_main_v17 (F := Ideal) x g w (ix3 a b e) = val_main_v15 (F := Ideal) x g w (ix3 a b d) := by
  rw [val_main_v17_apply]
  have hi : idx_main_v17 (ix3 a b e) = ix3 a b d := by blk_ext
  rw [hi]

/-- The reference's values of mixer A at an index. -/
theorem v18_at (a : Fin 16) (b : Fin 64) (e : Fin 512) (d : Fin 3072) (h : (d : ℕ) = 1024 + e) :
    val_main_v18 (F := Ideal) x g w (ix3 a b e) = val_main_v15 (F := Ideal) x g w (ix3 a b d) := by
  rw [val_main_v18_apply]
  have hi : idx_main_v18 (ix3 a b e) = ix3 a b d := by blk_ext
  rw [hi]

/-- The reference's queries of mixer B, scaled, at an index. -/
theorem v25_at (a : Fin 16) (b : Fin 64) (e : Fin 512) (d : Fin 3072) (h : (d : ℕ) = 1536 + e) :
    val_main_v25 (F := Ideal) x g w (ix3 a b e) = val_main_v15 (F := Ideal) x g w (ix3 a b d) * Ideal.ofBits FTy.f32 0x3E000000#32 := by
  rw [val_main_v25_apply, val_main_v19_apply, val_main_v24_apply]
  have hi : idx_main_v19 (ix3 a b e) = ix3 a b d := by blk_ext
  rw [hi]; rfl

/-- The reference's keys of mixer B at an index. -/
theorem v20_at (a : Fin 16) (b : Fin 64) (e : Fin 512) (d : Fin 3072) (h : (d : ℕ) = 2048 + e) :
    val_main_v20 (F := Ideal) x g w (ix3 a b e) = val_main_v15 (F := Ideal) x g w (ix3 a b d) := by
  rw [val_main_v20_apply]
  have hi : idx_main_v20 (ix3 a b e) = ix3 a b d := by blk_ext
  rw [hi]

/-- The reference's values of mixer B at an index. -/
theorem v21_at (a : Fin 16) (b : Fin 64) (e : Fin 512) (d : Fin 3072) (h : (d : ℕ) = 2560 + e) :
    val_main_v21 (F := Ideal) x g w (ix3 a b e) = val_main_v15 (F := Ideal) x g w (ix3 a b d) := by
  rw [val_main_v21_apply]
  have hi : idx_main_v21 (ix3 a b e) = ix3 a b d := by blk_ext
  rw [hi]

/-- The reference's six projections side by side at an index: the product, scaled where the column is a query's. -/
theorem v27_at (a : Fin 16) (b : Fin 64) (d : Fin 3072) :
    val_main_v27 (F := Ideal) x g w (ix3 a b d)
      = if (d : ℕ) / 512 = 0 ∨ (d : ℕ) / 512 = 3 then val_main_v15 (F := Ideal) x g w (ix3 a b d) * Ideal.ofBits FTy.f32 0x3E000000#32
        else val_main_v15 (F := Ideal) x g w (ix3 a b d) := by
  pointwise [val_main_v27, val_main_v26]
  have hb := d.isLt
  by_cases h0 : (d : ℕ) < 512
  · exact (dif_pos h0).trans ((v23_at x g w a b _ d (by show (d : ℕ) = 0 + ((d : ℕ)); omega)).trans (if_pos (by omega)).symm)
  refine (dif_neg h0).trans ?_
  by_cases h1 : (d : ℕ) - 512 < 512
  · exact (dif_pos h1).trans ((v17_at x g w a b _ d (by show (d : ℕ) = 512 + ((d : ℕ) - 512); omega)).trans (if_neg (by omega)).symm)
  refine (dif_neg h1).trans ?_
  by_cases h2 : (d : ℕ) - 512 - 512 < 512
  · exact (dif_pos h2).trans ((v18_at x g w a b _ d (by show (d : ℕ) = 1024 + ((d : ℕ) - 512 - 512); omega)).trans (if_neg (by omega)).symm)
  refine (dif_neg h2).trans ?_
  by_cases h3 : (d : ℕ) - 512 - 512 - 512 < 512
  · exact (dif_pos h3).trans ((v25_at x g w a b _ d (by show (d : ℕ) = 1536 + ((d : ℕ) - 512 - 512 - 512); omega)).trans (if_pos (by omega)).symm)
  refine (dif_neg h3).trans ?_
  by_cases h4 : (d : ℕ) - 512 - 512 - 512 - 512 < 512
  · exact (dif_pos h4).trans ((v20_at x g w a b _ d (by show (d : ℕ) = 2048 + ((d : ℕ) - 512 - 512 - 512 - 512); omega)).trans (if_neg (by omega)).symm)
  refine (dif_neg h4).trans ?_
  exact (v21_at x g w a b _ d (by show (d : ℕ) = 2560 + ((d : ℕ) - 512 - 512 - 512 - 512 - 512); omega)).trans (if_neg (by omega)).symm

/-- The flattened rows of that array. -/
theorem v28_at (i : Cert.QksRefIdeal.S1024x3072.Idx) (j : Cert.QksRefIdeal.S16x64x3072.Idx)
    (h : (j 0 : ℕ) * 64 + j 1 = i 0) (h2 : (j 2 : ℕ) = i 1) :
    val_main_v28 (F := Ideal) x g w i = val_main_v27 (F := Ideal) x g w j := by
  have h0 : (j 0 : ℕ) < 16 := (j 0).isLt
  have h1 : (j 1 : ℕ) < 64 := (j 1).isLt
  have h3 : (i 1 : ℕ) < 3072 := (i 1).isLt
  rw [val_main_v28_apply]
  refine congrArg _ (funext fun a => Fin.ext ?_)
  match a with
  | ⟨0, _⟩ => show ((i 0).val * 3072 + (i 1).val) / 196608 = (j 0).val; omega
  | ⟨1, _⟩ => show ((i 0).val * 3072 + (i 1).val) / 3072 % 64 = (j 1).val; omega
  | ⟨2, _⟩ => show ((i 0).val * 3072 + (i 1).val) % 3072 = (j 2).val; omega

end Cert.QksIdeal.Prod

end
-- ==== Proof.QksArrays.lean ====
/- The sample's projection: every result array after the run is the reference's. -/
module

public import proofs.«01_k».proof.Proof.QksProd
public import proofs.«01_k».proof.Proof.QksRefAt

@[expose] public section

set_option maxRecDepth 16384

noncomputable section

namespace Cert.QksIdeal.Prod

open Cert.QksIdeal Cert.QksIdeal.Gen Idealize.ShloMosaic Idealize.ShloMosaic.TcCoe Idealize.SL.Sem
open Idealize.ShloMosaic.Pipeline (Dat)
open Cert.QksRefIdeal.Read Idealize.ShloMosaic.Pointwise

variable (m : (ℓ : Loc nD τ sig) → Buf (Elt Ideal) ℓ)

/-- The strip at offset `o` of tile `t`: the reference's product, at any index of the product with that row and column. -/
theorem tile (c : Dev nD) (t : Fin cfg0.N) (o : ℕ) (ho : ∀ a, (![0, o] : Fin 2 → ℕ) a + S1024x512.size a ≤ S1024x3072.size a)
    (y : S512x512.Idx) (j : Cert.QksRefIdeal.S16x64x3072.Idx)
    (h : (j 0 : ℕ) * 64 + j 1 = 512 * t.val + y 0) (h2 : (j 2 : ℕ) = o + y 1) :
    k0_pay3 (F := Ideal) (k0_pay7 (F := Ideal) (iblk m c 0 t) (iblk m c 1 t))
        (View.ld (Val := Elt Ideal) (iblk m c 2 t) (Rect.unit (s := S1024x3072) ![0, o] S1024x512.size ho)) y
      = val_main_v15 (F := Ideal) (X m c) (Gn m c) (Wt m c) j :=
  prod m c t _ y j h fun k => strip m c t o ho k (y 1) (j 2) h2

/-- The body's normalised tile, off its two whole-block loads. -/
theorem normalised (x0 : FVec Ideal S512x1024 .f32) (x1 : FVec Ideal S1x1024 .f32) (x2 : FVec Ideal S1024x3072 .bf16) :
    k0_pay12 (F := Ideal) x0 x1 x2 = k0_pay7 (F := Ideal) x0 x1 := by
  unfold k0_pay12
  rw [View.ld_unit_lit, View.ld_unit_lit] <;> decide

/-- The body's strip of mixer A's values, off its loads. -/
theorem valuesA (x0 : FVec Ideal S512x1024 .f32) (x1 : FVec Ideal S1x1024 .f32) (x2 : FVec Ideal S1024x3072 .bf16) :
    k0_pay13 (F := Ideal) x0 x1 x2 = k0_pay3 (F := Ideal) (k0_pay7 (F := Ideal) x0 x1) (View.ld x2 r0_7) := by
  unfold k0_pay13
  rw [View.ld_unit_lit, View.ld_unit_lit]
  · rfl
  all_goals decide

/-- The keys of mixer A: every row. -/
theorem final4 (c : Dev nD) : (dats m 0 c).arrAt 4 (cfgs 0).N = flat (val_main_v17 (F := Ideal) (X m c) (Gn m c) (Wt m c)) := by
  refine (dats m 0 c).arrAt_eq_of_covers 4 _ (by decide +kernel) fun t hf y => ?_
  have ht : t.val < 2 := lt_of_lt_of_eq t.isLt N_0
  have hy0 : (y 0 : ℕ) < 512 := (y 0).isLt
  have hy1 : (y 1 : ℕ) < 512 := (y 1).isLt
  obtain_idx j : Cert.QksRefIdeal.S16x64x3072 := [(512 * t.val + (y 0 : ℕ)) / 64, (y 0 : ℕ) % 64, 512 + (y 1 : ℕ)] with hj
  blk_simp
  rw [after0_4]; frame_out
  refine Eq.trans (tile m c t 512 _ y j (by omega) hj2) (flat_at _ _ _ _ _ (v17_at _ _ _) _ j ?_ ?_).symm
  · blk_simp [idx t] <;> omega
  · blk_simp [idx t] <;> omega

/-- The values of mixer A: every row. -/
theorem final5 (c : Dev nD) : (dats m 0 c).arrAt 5 (cfgs 0).N = flat (val_main_v18 (F := Ideal) (X m c) (Gn m c) (Wt m c)) := by
  refine (dats m 0 c).arrAt_eq_of_covers 5 _ (by decide +kernel) fun t hf y => ?_
  have ht : t.val < 2 := lt_of_lt_of_eq t.isLt N_0
  have hy0 : (y 0 : ℕ) < 512 := (y 0).isLt
  have hy1 : (y 1 : ℕ) < 512 := (y 1).isLt
  obtain_idx j : Cert.QksRefIdeal.S16x64x3072 := [(512 * t.val + (y 0 : ℕ)) / 64, (y 0 : ℕ) % 64, 1024 + (y 1 : ℕ)] with hj
  blk_simp
  rw [after0_5]; frame_out
  rw [valuesA]
  refine Eq.trans (tile m c t 1024 _ y j (by omega) hj2) (flat_at _ _ _ _ _ (v18_at _ _ _) _ j ?_ ?_).symm
  · blk_simp [idx t] <;> omega
  · blk_simp [idx t] <;> omega

/-- The keys of mixer B: every row. -/
theorem final6 (c : Dev nD) : (dats m 0 c).arrAt 6 (cfgs 0).N = flat (val_main_v20 (F := Ideal) (X m c) (Gn m c) (Wt m c)) := by
  refine (dats m 0 c).arrAt_eq_of_covers 6 _ (by decide +kernel) fun t hf y => ?_
  have ht : t.val < 2 := lt_of_lt_of_eq t.isLt N_0
  have hy0 : (y 0 : ℕ) < 512 := (y 0).isLt
  have hy1 : (y 1 : ℕ) < 512 := (y 1).isLt
  obtain_idx j : Cert.QksRefIdeal.S16x64x3072 := [(512 * t.val + (y 0 : ℕ)) / 64, (y 0 : ℕ) % 64, 2048 + (y 1 : ℕ)] with hj
  blk_simp
  rw [after0_6]; frame_out
  rw [normalised]
  refine Eq.trans (tile m c t 2048 _ y j (by omega) hj2) (flat_at _ _ _ _ _ (v20_at _ _ _) _ j ?_ ?_).symm
  · blk_simp [idx t] <;> omega
  · blk_simp [idx t] <;> omega

/-- The values of mixer B: every row. -/
theorem final7 (c : Dev nD) : (dats m 0 c).arrAt 7 (cfgs 0).N = flat (val_main_v21 (F := Ideal) (X m c) (Gn m c) (Wt m c)) := by
  refine (dats m 0 c).arrAt_eq_of_covers 7 _ (by decide +kernel) fun t hf y => ?_
  have ht : t.val < 2 := lt_of_lt_of_eq t.isLt N_0
  have hy0 : (y 0 : ℕ) < 512 := (y 0).isLt
  have hy1 : (y 1 : ℕ) < 512 := (y 1).isLt
  obtain_idx j : Cert.QksRefIdeal.S16x64x3072 := [(512 * t.val + (y 0 : ℕ)) / 64, (y 0 : ℕ) % 64, 2560 + (y 1 : ℕ)] with hj
  blk_simp
  rw [after0_7]; frame_out
  rw [normalised]
  refine Eq.trans (tile m c t 2560 _ y j (by omega) hj2) (flat_at _ _ _ _ _ (v21_at _ _ _) _ j ?_ ?_).symm
  · blk_simp [idx t] <;> omega
  · blk_simp [idx t] <;> omega

end Cert.QksIdeal.Prod

end
-- ==== Proof.QksMixed.lean ====
/- The sample's projection: the array of the six projections side by side. -/
module

public import proofs.«01_k».proof.Proof.QksArrays

@[expose] public section

set_option maxRecDepth 16384

noncomputable section

namespace Cert.QksIdeal.Prod

open Cert.QksIdeal Cert.QksIdeal.Gen Idealize.ShloMosaic Idealize.ShloMosaic.TcCoe Idealize.SL.Sem
open Idealize.ShloMosaic.Pipeline (Dat)
open Cert.QksRefIdeal.Read Idealize.ShloMosaic.Pointwise

variable (m : (ℓ : Loc nD τ sig) → Buf (Elt Ideal) ℓ)

/-- What a point must leave at an index of its block of the wide array. -/
theorem target (c : Dev nD) (t : Fin cfg0.N) (y : S512x3072.Idx) (a : Fin 16) (b : Fin 64) (d : Fin 3072)
    (h : (a : ℕ) * 64 + b = 512 * t.val + y 0) (h2 : (d : ℕ) = y 1) :
    val_main_v28 (F := Ideal) (X m c) (Gn m c) (Wt m c) (((cfg0.win 3).blk t).view.emb y)
      = if (d : ℕ) / 512 = 0 ∨ (d : ℕ) / 512 = 3
        then val_main_v15 (F := Ideal) (X m c) (Gn m c) (Wt m c) (ix3 a b d) * Ideal.ofBits FTy.f32 0x3E000000#32
        else val_main_v15 (F := Ideal) (X m c) (Gn m c) (Wt m c) (ix3 a b d) := by
  refine (v28_at _ _ _ _ (ix3 a b d) ?_ ?_).trans (v27_at _ _ _ a b d)
  · show (a : ℕ) * 64 + (b : ℕ) = _
    blk_simp [idx t] <;> omega
  · show (d : ℕ) = _
    blk_simp [idx t] <;> omega

section Stores
variable (a : FVec Ideal S512x1024 .bf16) (v : FVec Ideal S1024x512 .bf16) (x0 : FVec Ideal S512x1024 .f32) (x1 : FVec Ideal S1x1024 .f32)
  (y : S512x512.Idx)
/-- Over the extended reals each strip stored is the strip's product, scaled for a strip of queries. -/
theorem plain6 : k0_pay6 (F := Ideal) a v y = k0_pay3 (F := Ideal) a v y := rfl
theorem plain4 : k0_pay4 (F := Ideal) a v y = k0_pay3 (F := Ideal) a v y := rfl
theorem plain1 (b : FVec Ideal S512x512 .f32) : k0_pay1 (F := Ideal) b y = b y := rfl
theorem plain10 : k0_pay10 (F := Ideal) (View.ld x0 r0_0) (View.ld x1 r0_1) v y = k0_pay3 (F := Ideal) (k0_pay7 (F := Ideal) x0 x1) v y := by
  rw [View.ld_unit_lit, View.ld_unit_lit]
  · rfl
  all_goals decide
theorem scaled2 : k0_pay2 (F := Ideal) a v y = k0_pay3 (F := Ideal) a v y * Ideal.ofBits FTy.f32 0x3E000000#32 := rfl
theorem scaled8 : k0_pay8 (F := Ideal) (View.ld x0 r0_0) (View.ld x1 r0_1) v y
    = k0_pay3 (F := Ideal) (k0_pay7 (F := Ideal) x0 x1) v y * Ideal.ofBits FTy.f32 0x3E000000#32 := by
  rw [View.ld_unit_lit, View.ld_unit_lit]
  · rfl
  all_goals decide
end Stores

/-- The six projections side by side, the queries scaled, every row. -/
theorem final3 (c : Dev nD) : (dats m 0 c).arrAt 3 (cfgs 0).N = val_main_v28 (F := Ideal) (X m c) (Gn m c) (Wt m c) := by
  refine (dats m 0 c).arrAt_eq_of_covers 3 _ (by decide +kernel) fun t hf y => ?_
  have ht : t.val < 2 := lt_of_lt_of_eq t.isLt N_0
  have hy0 : (y 0 : ℕ) < 512 := (y 0).isLt
  have hy1 : (y 1 : ℕ) < 3072 := (y 1).isLt
  blk_simp
  rw [after0_3]
  obtain ⟨a, ha⟩ : ∃ a : Fin 16, (a : ℕ) = (512 * t.val + (y 0 : ℕ)) / 64 := ⟨⟨(512 * t.val + (y 0 : ℕ)) / 64, by omega⟩, rfl⟩
  obtain ⟨b, hb⟩ : ∃ b : Fin 64, (b : ℕ) = (y 0 : ℕ) % 64 := ⟨⟨(y 0 : ℕ) % 64, by omega⟩, rfl⟩
  obtain ⟨d, hd⟩ : ∃ d : Fin 3072, (d : ℕ) = y 1 := ⟨⟨y 1, hy1⟩, rfl⟩
  refine Eq.trans ?_ (target m c t y a b d (by omega) hd).symm
  show out0_3 (F := Ideal) (iblk m c 0 t) (iblk m c 1 t) (iblk m c 2 t) y = _
  unfold out0_3
  rw [normalised, valuesA]
  have hrow : ∀ x : S512x512.Idx, (y 0 : ℕ) = x 0 → (a : ℕ) * 64 + b = 512 * t.val + x 0 :=
    fun x e => by omega
  canon_tiles x h
  · exact ((plain6 _ _ x).trans (tile m c t 2560 _ x (ix3 a b d) (hrow x h0) (hd.trans h1))).trans (if_neg (by omega)).symm
  · exact ((plain4 _ _ x).trans (tile m c t 2048 _ x (ix3 a b d) (hrow x h0) (hd.trans h1))).trans (if_neg (by omega)).symm
  · exact ((scaled2 _ _ x).trans (congrArg (· * _) (tile m c t 1536 _ x (ix3 a b d) (hrow x h0) (hd.trans h1)))).trans (if_pos (by omega)).symm
  · exact ((plain1 x _).trans (tile m c t 1024 _ x (ix3 a b d) (hrow x h0) (hd.trans h1))).trans (if_neg (by omega)).symm
  · exact ((plain10 _ _ _ x).trans (tile m c t 512 _ x (ix3 a b d) (hrow x h0) (hd.trans h1))).trans (if_neg (by omega)).symm
  · exact ((scaled8 _ _ _ x).trans (congrArg (· * _) (tile m c t 0 _ x (ix3 a b d) (hrow x h0) (by rw [Nat.zero_add]; exact hd.trans h1)))).trans (if_pos (by omega)).symm

end Cert.QksIdeal.Prod

end
-- ==== Proof.QksTail.lean ====
/- The sample's projection after the call: the new rows cut into heads, and rolled into the caches. -/
module

public import proofs.«01_k».proof.Proof.QksMixed

@[expose] public section

set_option maxRecDepth 16384

noncomputable section

namespace Cert.QksIdeal.Prod

open Cert.QksIdeal Cert.QksIdeal.Gen Idealize.ShloMosaic Idealize.ShloMosaic.TcCoe Idealize.SL.Sem
open Idealize.ShloMosaic.Pipeline (Dat)
open Cert.QksRefIdeal.Read Idealize.ShloMosaic.Pointwise

variable (m : (ℓ : Loc nD τ sig) → Buf (Elt Ideal) ℓ)

/-- The caches of mixer A as launched. -/
abbrev Ck (c : Dev nD) : FVec Ideal S1x16x512x8x64 .f32 := m ((c : Thread nD τ).loc main_arg3)
abbrev Cv (c : Dev nD) : FVec Ideal S1x16x512x8x64 .f32 := m ((c : Thread nD τ).loc main_arg4)

/-- Cutting the flattened rows into heads is cutting the rows of each sequence. -/
theorem heads_flat (v : FVec Ideal Cert.QksRefIdeal.S16x64x512 .f32) :
    shapeCast S16x64x8x64 (flat v) shapeCasts_S1024x512_S16x64x8x64
      = shapeCast Cert.QksRefIdeal.S16x64x8x64 v Cert.QksRefIdeal.Gen.shapeCasts_S16x64x512_S16x64x8x64 := by
  funext i
  have h0 : (i 0 : ℕ) < 16 := (i 0).isLt
  have h1 : (i 1 : ℕ) < 64 := (i 1).isLt
  have h2 : (i 2 : ℕ) < 8 := (i 2).isLt
  have h3 : (i 3 : ℕ) < 64 := (i 3).isLt
  pointwise
  unfold flat
  refine congrArg v (funext fun a => Fin.ext ?_)
  match a with
  | ⟨0, _⟩ => show ((i 0 : ℕ) * 64 + (i 1 : ℕ)) / 64 = (i 0 : ℕ); omega
  | ⟨1, _⟩ => show ((i 0 : ℕ) * 64 + (i 1 : ℕ)) % 64 = (i 1 : ℕ); omega
  | ⟨2, _⟩ => rfl

/-- A cache without its oldest rows and the new rows behind it is the cache and the new rows without the oldest rows. -/
theorem roll (x : FVec Ideal S1x16x512x8x64 .f32) (n : FVec Ideal S16x64x8x64 .f32) :
    concatenate S16x512x8x64 1 [⟨S16x448x8x64, extractStridedSlice S16x448x8x64 ![0, 64, 0, 0]
        (shapeCast S16x512x8x64 x shapeCasts_S1x16x512x8x64_S16x512x8x64) slices_S16x512x8x64_S16x448x8x64_0_64_0_0⟩,
        ⟨S16x64x8x64, n⟩] concatenates_S16x448x8x64_S16x64x8x64_S16x512x8x64_d1
      = extractStridedSlice Cert.QksRefIdeal.S16x512x8x64 ![0, 64, 0, 0]
        (concatenate Cert.QksRefIdeal.S16x576x8x64 1 [⟨Cert.QksRefIdeal.S16x512x8x64,
          shapeCast Cert.QksRefIdeal.S16x512x8x64 x Cert.QksRefIdeal.Gen.shapeCasts_S1x16x512x8x64_S16x512x8x64⟩,
          ⟨Cert.QksRefIdeal.S16x64x8x64, n⟩] Cert.QksRefIdeal.Gen.concatenates_S16x512x8x64_S16x64x8x64_S16x576x8x64_d1)
        Cert.QksRefIdeal.Gen.slices_S16x576x8x64_S16x512x8x64_0_64_0_0 := by
  funext i
  have h1 : (i 1 : ℕ) < 512 := (i 1).isLt
  pointwise
  by_cases h : (i 1 : ℕ) < 448
  · rw [dif_pos h, dif_pos (show 64 + (i 1 : ℕ) < 512 by omega)]
  · rw [dif_neg h, dif_neg (show ¬ 64 + (i 1 : ℕ) < 512 by omega)]
    exact congrArg n (by blk_ext)

section Lines
variable (U : Valuation τ sig (Elt Ideal)) (x : FVec Ideal S1x16x512x8x64 .f32) (v : FVec Ideal Cert.QksRefIdeal.S16x64x512 .f32)

/-- A cache rolled by the rows `v`, as the reference writes it. -/
abbrev rolled : FVec Ideal S1x16x512x8x64 .f32 :=
  broadcastInDim S1x16x512x8x64 ![1, 2, 3, 4] bcast_S16x512x8x64_S1x16x512x8x64_1_2_3_4
    (extractStridedSlice Cert.QksRefIdeal.S16x512x8x64 ![0, 64, 0, 0]
      (concatenate Cert.QksRefIdeal.S16x576x8x64 1 [⟨Cert.QksRefIdeal.S16x512x8x64,
        shapeCast Cert.QksRefIdeal.S16x512x8x64 x Cert.QksRefIdeal.Gen.shapeCasts_S1x16x512x8x64_S16x512x8x64⟩,
        ⟨Cert.QksRefIdeal.S16x64x8x64, shapeCast Cert.QksRefIdeal.S16x64x8x64 v Cert.QksRefIdeal.Gen.shapeCasts_S16x64x512_S16x64x8x64⟩]
        Cert.QksRefIdeal.Gen.concatenates_S16x512x8x64_S16x64x8x64_S16x576x8x64_d1)
      Cert.QksRefIdeal.Gen.slices_S16x576x8x64_S16x512x8x64_0_64_0_0)

/-- The rows `v` cut into heads, as the reference writes it. -/
abbrev headed : FVec Ideal S1x16x64x8x64 .f32 :=
  broadcastInDim S1x16x64x8x64 ![1, 2, 3, 4] bcast_S16x64x8x64_S1x16x64x8x64_1_2_3_4
    (shapeCast Cert.QksRefIdeal.S16x64x8x64 v Cert.QksRefIdeal.Gen.shapeCasts_S16x64x512_S16x64x8x64)

/-- The operations after the call leave the rolled keys of mixer A. -/
theorem line10 (hx : U (Proc.devRef .tc main_arg3) = x) (hv : U (Proc.devRef .tc main_v5_1) = flat v) :
    StableHlo.after hostOps1 U (Proc.devRef .tc main_v10) = rolled x v := by
  after_results
  refine congrArg (broadcastInDim _ _ _) (Eq.trans ?_ (roll x _))
  rw [← heads_flat, ← hx, ← hv]; rfl

/-- The operations after the call leave the rolled values of mixer A. -/
theorem line15 (hx : U (Proc.devRef .tc main_arg4) = x) (hv : U (Proc.devRef .tc main_v5_2) = flat v) :
    StableHlo.after hostOps1 U (Proc.devRef .tc main_v15) = rolled x v := by
  after_results
  refine congrArg (broadcastInDim _ _ _) (Eq.trans ?_ (roll x _))
  rw [← heads_flat, ← hx, ← hv]; rfl

/-- The operations after the call leave the keys of mixer B cut into heads. -/
theorem line17 (hv : U (Proc.devRef .tc main_v5_3) = flat v) :
    StableHlo.after hostOps1 U (Proc.devRef .tc main_v17) = headed v := by
  after_results
  refine congrArg (broadcastInDim _ _ _) ?_
  rw [← heads_flat, ← hv]; rfl

/-- The operations after the call leave the values of mixer B cut into heads. -/
theorem line19 (hv : U (Proc.devRef .tc main_v5_4) = flat v) :
    StableHlo.after hostOps1 U (Proc.devRef .tc main_v19) = headed v := by
  after_results
  refine congrArg (broadcastInDim _ _ _) ?_
  rw [← heads_flat, ← hv]; rfl

end Lines

/-- The contents of every buffer once the region is over, before the host operations that follow it. -/
abbrev exits (c : Dev nD) : Valuation τ sig (Elt Ideal) :=
  Pipeline.withArrays spec0 c (V0 m c) fun w => (dats m 0 c).arrAt w cfg0.N

/-- There a window's array is what the run computes, and a cache is as launched. -/
theorem exits_arr (c : Dev nD) (w : Fin cfg0.W) :
    exits m c (Proc.devRef .tc (Pipeline.arrRef spec0 w)) = (dats m 0 c).arrAt w cfg0.N :=
  Pipeline.withArrays_arr spec0 launch0.win.arr_inj c (V0 m c) _ w
theorem exits_keys (c : Dev nD) : exits m c (Proc.devRef .tc main_arg3) = Ck m c :=
  (Pipeline.withArrays_of_ne _ c (V0 m c) _ main_arg3 (by exact (by decide : ∀ w, Pipeline.arrRef spec0 w ≠ main_arg3))).trans (V_main_arg3 m c)
theorem exits_values (c : Dev nD) : exits m c (Proc.devRef .tc main_arg4) = Cv m c :=
  (Pipeline.withArrays_of_ne _ c (V0 m c) _ main_arg4 (by exact (by decide : ∀ w, Pipeline.arrRef spec0 w ≠ main_arg4))).trans (V_main_arg4 m c)

/-- What the program leaves of the rolled keys and values of mixer A and of the new keys and values of mixer B. -/
theorem tail10 (c : Dev nD) : Pipeline.afterTail₀ cfgs (dats m) 0 (V0 m) [hostOps1] c main_v10
    = val_main_v33 (F := Ideal) (X m c) (Gn m c) (Wt m c) (Ck m c) :=
  line10 (exits m c) _ _ (exits_keys m c) ((exits_arr m c 4).trans (final4 m c))
theorem tail15 (c : Dev nD) : Pipeline.afterTail₀ cfgs (dats m) 0 (V0 m) [hostOps1] c main_v15
    = val_main_v38 (F := Ideal) (X m c) (Gn m c) (Wt m c) (Cv m c) :=
  line15 (exits m c) _ _ (exits_values m c) ((exits_arr m c 5).trans (final5 m c))
theorem tail17 (c : Dev nD) : Pipeline.afterTail₀ cfgs (dats m) 0 (V0 m) [hostOps1] c main_v17
    = val_main_v40 (F := Ideal) (X m c) (Gn m c) (Wt m c) :=
  line17 (exits m c) _ ((exits_arr m c 6).trans (final6 m c))
theorem tail19 (c : Dev nD) : Pipeline.afterTail₀ cfgs (dats m) 0 (V0 m) [hostOps1] c main_v19
    = val_main_v42 (F := Ideal) (X m c) (Gn m c) (Wt m c) :=
  line19 (exits m c) _ ((exits_arr m c 7).trans (final7 m c))

end Cert.QksIdeal.Prod

end
-- ==== Proof.QksClaims.lean ====
/-
  The claims about the sample's projection: the frames of the program and of its idealization are the generated ones, the frame of the
  reference is read off its generated run, and the equality puts the five output arrays beside the reference's results.
-/
module

public import proofs.«01_k».proof.Defs
public import proofs.«01_k».proof.Proof.QksTail
public import proofs.«01_k».proof.Proof.Gen.Qks.Frame
public import proofs.«01_k».proof.Proof.Gen.QksRefIdeal.Run
public import Idealize.ShloMosaic.Adequacy
public import Idealize.ShloMosaic.Init

@[expose] public section

set_option maxRecDepth 16384

noncomputable section

namespace Cert.QksIdeal.Prod

open Idealize.ShloMosaic Idealize.SL.Sem Cert.QksIdeal Cert.QksIdeal.Gen Cert.QksRefIdeal.Read

attribute [local instance] Cert.Qks.Gen.facts Cert.QksIdeal.Gen.facts Cert.QksRefIdeal.Gen.facts

/-- The sample's projection runs, keeps its arguments and leaves every counter at zero. -/
theorem frameK : Cert.quiescent_Qks := fun m ρ _ => Cert.Qks.Gen.frame m ρ

/-- The same of its idealization. -/
theorem frameI : Cert.quiescent_QksIdeal := fun m ρ _ => Cert.QksIdeal.Gen.frame m ρ

/-- The reference runs and keeps its arguments; it declares no semaphore. -/
theorem frameR : Cert.quiescent_QksRefIdeal := fun m ρ _ =>
  (θ_run Cert.QksRefIdeal.defs _ _).mono (fun r h => ⟨fun c => (h c).2.2.2.2.2, sem_eq_zero_of_no_sems (by decide) r.2⟩)
    (Cert.QksRefIdeal.Value.run (F := Ideal) m ρ)

/-- The idealization rewrote nothing. -/
theorem kept : Cert.preserves_Qks_QksIdeal := trivial

/-- A result of the operations after the call is no array of the region. -/
theorem rest {b : Ref sig .tc} (h : b.isScoped = false) (h' : ∀ w, Pipeline.arrRef spec0 w ≠ b) :
    b ∈ Pipeline.restRefs sig spec0 := Pipeline.mem_restRefs_of b h h'

/-- On the same arguments the five results are the reference's: the projections side by side, the caches of mixer A
    rolled by the new rows, and the new keys and values of mixer B. -/
theorem equal : Cert.algebraic_QksIdeal_QksRefIdeal := by
  intro m g m' g' _ hag
  refine ⟨fun c => val_main_v28 (F := Ideal) (X m c) (Gn m c) (Wt m c), fun c => val_main_v33 (F := Ideal) (X m c) (Gn m c) (Wt m c) (Ck m c),
    fun c => val_main_v38 (F := Ideal) (X m c) (Gn m c) (Wt m c) (Cv m c), fun c => val_main_v40 (F := Ideal) (X m c) (Gn m c) (Wt m c),
    fun c => val_main_v42 (F := Ideal) (X m c) (Gn m c) (Wt m c), ?_, ?_⟩
  · refine (θ_run _ _ _).mono (fun r h c => ?_) (θ_run_and (Cert.QksIdeal.Gen.run_main (F := Ideal) m g) (Cert.QksIdeal.Gen.unchanged (F := Ideal) m g))
    obtain ⟨h, ha⟩ := h
    exact ⟨(h.out_eq c 3).trans (final3 m c),
      (h.rest_eq c main_v10 (rest (by decide) (by decide))).trans (tail10 m c),
      (h.rest_eq c main_v15 (rest (by decide) (by decide))).trans (tail15 m c),
      (h.rest_eq c main_v17 (rest (by decide) (by decide))).trans (tail17 m c),
      (h.rest_eq c main_v19 (rest (by decide) (by decide))).trans (tail19 m c), ha c⟩
  · refine (θ_run _ _ _).mono (fun r h c => ?_) (Cert.QksRefIdeal.Value.run (F := Ideal) m' g')
    obtain ⟨h3, h4, h5, h6, h7, ha⟩ := h c
    obtain ⟨e0, e1, e2, e3, e4⟩ := hag c
    refine ⟨(h3.trans (val_main_v28_eq m' c)).trans ?_, (h4.trans (val_main_v33_eq _ _ _ _)).trans ?_, (h5.trans (val_main_v38_eq _ _ _ _)).trans ?_,
      (h6.trans (val_main_v40_eq _ _ _)).trans ?_, (h7.trans (val_main_v42_eq _ _ _)).trans ?_, ha⟩ <;> simp only [e0, e1, e2, e3, e4]

end Cert.QksIdeal.Prod

end
-- ==== Proof.BiaProd.lean ====
/- The bias of the sample's band: the kernel's block and the reference's array at an entry. -/
module

public import proofs.«01_k».proof.Proof.Gen.BiaIdeal.Value
public import proofs.«01_k».proof.Proof.Gen.BiaRefIdeal.Read
public import Idealize.ShloMosaic.Lib.Pipeline.ValueKit
public import Idealize.ShloMosaic.Lib.StableHlo.Predicate

@[expose] public section

set_option maxRecDepth 16384

noncomputable section

namespace Cert.BiaIdeal.Prod

open Idealize.ShloMosaic Idealize.ShloMosaic.TcCoe Idealize.SL.Sem Cert.BiaIdeal Cert.BiaIdeal.Gen Cert.BiaRefIdeal.Read
open Idealize.ShloMosaic.Pointwise

/-! ## The place in the table -/

/-- A word held between -128 and 128 and raised by 128 is a number up to 256. -/
theorem clip_le (v : BitVec 32) : (IntOp.addi (IntOp.minsi 128#32 (IntOp.maxsi 4294967168#32 v)) 128#32).toNat ≤ 256 := by
  have h1 : (128#32 : BitVec 32).toInt = 128 := by decide
  have h2 : (4294967168#32 : BitVec 32).toInt = -128 := by decide
  have hv := BitVec.toInt_eq_toNat_cond v
  have := v.isLt
  show (IntOp.minsi 128#32 (IntOp.maxsi 4294967168#32 v) + 128#32).toNat ≤ 256
  rw [BitVec.toNat_add]
  unfold IntOp.minsi IntOp.maxsi
  simp only [BitVec.slt, h1, h2, decide_eq_true_eq]
  split_ifs <;> simp_all <;> omega

/-- The place in the table of a query and a key: their distance, clipped. -/
def place (r : Fin 64) (q : Fin 576) : BitVec 32 :=
  IntOp.addi (IntOp.minsi 128#32 (IntOp.maxsi 4294967168#32 (IntOp.subi (IntOp.addi 512#32 (BitVec.ofNat 32 r)) (BitVec.ofNat 32 q)))) 128#32

theorem place_le (r : Fin 64) (q : Fin 576) : (place r q).toNat ≤ 256 := clip_le _

/-! ## The kernel -/

section
variable (c : Dev nD) (i : grid0.Coords) (arg1 : Memref sig .tc .smem S8x257 .f32) (harg1 : arg1.IsWhole)
  (arg2 : Memref sig .tc .vmem S1x64x576 .f32) (harg2 : arg2.IsWhole) (x0 : Vec Ideal S8x257 .f32) (h : Fin 8) (hi : (i 0 : ℕ) = h)

include hi in
/-- The word that a trip reads. -/
theorem load_trip (k : Fin k0_t1_loop.trips) (hk : (k : ℕ) < 257) :
    trip_k0_t1.sl.r (F := Ideal) i arg1 (harg1.unread x0) k = x0 (ix2 h ⟨k, hk⟩) := by
  refine Eq.trans ?_ (congrFun (harg1.read_unread x0) (ix2 h ⟨k, hk⟩))
  refine congrArg (arg1.view.read (Elt Ideal) (harg1.unread x0)) (funext (Fin.forall_fin_two.2 ⟨Fin.ext ?_, Fin.ext ?_⟩))
  · show (BitVec.ofNat 32 (i 0).val).toNat + 1 * 0 = h
    rw [BitVec.toNat_ofNat]; omega
  · show (0#32 + BitVec.ofNat 32 k * 1#32).toNat + 1 * 0 = k
    rw [BitVec.zero_add, BitVec.mul_one, BitVec.toNat_ofNat]; omega

include hi in
/-- The word read before the loop. -/
theorem load_init : kernelRun0_A.sl.r (F := Ideal) c i arg1 harg1 x0 = x0 (ix2 h 256) := by
  refine Eq.trans ?_ (congrFun (harg1.read_unread x0) (ix2 h 256))
  refine congrArg (arg1.view.read (Elt Ideal) (harg1.unread x0)) (funext (Fin.forall_fin_two.2 ⟨Fin.ext ?_, Fin.ext ?_⟩))
  · show (BitVec.ofNat 32 (i 0).val).toNat + 1 * 0 = h
    rw [BitVec.toNat_ofNat]; omega
  · show 256 + 1 * 0 = 256
    rfl

/-- A trip replaces the entries whose place is the trip's number. -/
theorem pay2_at (k : Fin k0_t1_loop.trips) (acc : FVec Ideal S64x576 .f32) (v : EReal) (r : Fin 64) (q : Fin 576) :
    k0_pay2 (F := Ideal) k acc v (ix2 r q) = if (place r q).toNat = k then v else acc (ix2 r q) := by
  have hk : (k : ℕ) < 256 := Nat.lt_of_lt_of_le k.isLt k0_t1_abs.2.1
  have e : k0_pay2 (F := Ideal) k acc v (ix2 r q)
      = Scalar.select (IntOp.cmpi .eq (place r q) (0#32 + BitVec.ofNat 32 k * 1#32)) v (acc (ix2 r q)) := by
    unfold place
    pointwise [k0_pay2]
    rfl
  rw [e, BitVec.zero_add, BitVec.mul_one]
  have hiff : place r q = BitVec.ofNat 32 k ↔ (place r q).toNat = k := by
    rw [← BitVec.toNat_inj, BitVec.toNat_ofNat, Nat.mod_eq_of_lt (by omega)]
  by_cases hp : (place r q).toNat = k
  · rw [if_pos hp, show IntOp.cmpi .eq (place r q) (BitVec.ofNat 32 k) = 1#1 from by
      rw [hiff.2 hp]; show BitVec.ofBool (_ == _) = _; simp]
    rfl
  · rw [if_neg hp, show IntOp.cmpi .eq (place r q) (BitVec.ofNat 32 k) = 0#1 from by
      show BitVec.ofBool (place r q == BitVec.ofNat 32 k) = _
      rw [beq_eq_false_iff_ne.2 fun hc => hp (hiff.1 hc)]; rfl]
    rfl

theorem trip_eq (X) (k) (acc) : tripR_k0_t1 (F := Ideal) Variants.none c none i arg1 harg1 arg2 harg2 X k acc
    = k0_pay2 (F := Ideal) k acc (trip_k0_t1.sl.r (F := Ideal) i arg1 X k) := by
  unfold tripR_k0_t1 trip_k0_t1
  dsimp only

include hi in
/-- Before trip `k` the entries with a place below `k` are the table's; the others are still the last of the row. -/
theorem state_at (k : ℕ) (hk : k ≤ 256) (r : Fin 64) (q : Fin 576) :
    st_k0_t1 (F := Ideal) Variants.none c none i arg1 harg1 arg2 harg2 (harg1.unread x0) (k0_pay1 (kernelRun0_A.sl.r c i arg1 harg1 x0)) k (ix2 r q)
      = if (place r q).toNat < k then x0 (ix2 h ⟨(place r q).toNat, by have := place_le r q; omega⟩) else x0 (ix2 h 256) := by
  induction k with
  | zero =>
    rw [st_k0_t1_zero, if_neg (Nat.not_lt_zero _), load_init c i arg1 harg1 x0 h hi]
    rfl
  | succ k ih =>
    have hl : k < k0_t1_loop.trips := lt_of_lt_of_eq (show k < 256 by omega) (by decide)
    have e := st_k0_t1_succ (F := Ideal) Variants.none c none i arg1 harg1 arg2 harg2 (harg1.unread x0) (k0_pay1 (kernelRun0_A.sl.r c i arg1 harg1 x0)) ⟨k, hl⟩
    rw [show st_k0_t1 (F := Ideal) Variants.none c none i arg1 harg1 arg2 harg2 (harg1.unread x0) (k0_pay1 (kernelRun0_A.sl.r c i arg1 harg1 x0)) (k + 1) = _ from e,
      trip_eq, pay2_at, ih (by omega), load_trip i arg1 harg1 x0 h hi _ (by show k < 257; omega)]
    by_cases h1 : (place r q).toNat = k
    · rw [if_pos h1, if_pos (by omega)]
      exact congrArg x0 (congrArg (ix2 h) (Fin.ext h1.symm))
    · rw [if_neg h1]
      by_cases h2 : (place r q).toNat < k
      · rw [if_pos h2, if_pos (by omega)]
      · rw [if_neg h2, if_neg (by omega)]

include hi in
/-- The body's block: every entry is the table's at its place. -/
theorem out_at (r : Fin 64) (q : Fin 576) : out0_A_1 (F := Ideal) c i arg1 harg1 arg2 harg2 x0 (ix3 0 r q)
    = x0 (ix2 h ⟨(place r q).toNat, Nat.lt_succ_of_le (place_le r q)⟩) := by
  have e : (kernelRun0_A (F := Ideal) c i arg1 harg1 arg2 harg2 x0).1
      = [⟨Rect.unit ![0, 0, 0] S1x64x576.size inb_S1x64x576_S1x64x576_0_0_0, k0_pay3 (st_k0_t1 (F := Ideal) Variants.none c none i arg1 harg1 arg2 harg2
          (harg1.unread x0) (k0_pay1 (kernelRun0_A.sl.r c i arg1 harg1 x0)) (Scf.trips k0_t1_loop.lb k0_t1_loop.ub k0_t1_loop.st))⟩] := by
    unfold kernelRun0_A
    dsimp only
  have ht : Scf.trips k0_t1_loop.lb k0_t1_loop.ub k0_t1_loop.st = 256 := by decide
  unfold out0_A_1
  rw [e, ht]
  have hs := state_at c i arg1 harg1 arg2 harg2 x0 h hi 256 le_rfl r q
  generalize st_k0_t1 (F := Ideal) Variants.none c none i arg1 harg1 arg2 harg2 (harg1.unread x0) (k0_pay1 (kernelRun0_A.sl.r c i arg1 harg1 x0)) 256 = w at hs
  have hw : VO0_1.read (Elt Ideal) (VO0_1.writes (Elt Ideal) VO0_1.junk
      [⟨Rect.unit ![0, 0, 0] S1x64x576.size inb_S1x64x576_S1x64x576_0_0_0, k0_pay3 w⟩]) (ix3 0 r q) = w (ix2 r q) := by
    frame_out
    pointwise [k0_pay3]
  rw [hw, hs]
  by_cases hp : (place r q).toNat < 256
  · rw [if_pos hp]
  · rw [if_neg hp]
    exact congrArg x0 (congrArg (ix2 h) (Fin.ext (by show 256 = (place r q).toNat; have := place_le r q; omega)))

end

/-! ## The reference -/

/-- A start index that is in range is read as it is. -/
theorem start_at {N : ℕ} (v : BitVec 32) (hN : N < 2 ^ 31) (hv : v.toNat ≤ N) : min v.toInt.toNat N = v.toNat := by
  rw [StableHlo.Predicate.toInt_eq_toNat_of_lt (by omega), Int.toNat_natCast, Nat.min_eq_left hv]

theorem two (a : Fin 2) : a = 0 ∨ a = 1 := by revert a; decide

/-- The gather of columns: entry `(h, r, q)` is row `h` at the column its start index names. -/
theorem columns_at (x : FVec Ideal Cert.BiaRefIdeal.S8x257 .f32) (ix : IVec Cert.BiaRefIdeal.S64x576x1 32) (h : Fin 8) (r : Fin 64) (q : Fin 576) (p : Fin 257)
    (hp : (ix (ix3 r q 0)).toNat = p.val) :
    Host.gather Cert.BiaRefIdeal.gather_S8x257_S64x576x1_S8x64x576_0_1_n_n_1_2_81 x ix (ix3 h r q) = x (ix2 h p) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  rcases two a with rfl | rfl
  · unfold GatherDims.start
    rw [dif_neg (show ¬(0 : Fin 2) ∈ GatherDims.startIndexMap Cert.BiaRefIdeal.gather_S8x257_S64x576x1_S8x64x576_0_1_n_n_1_2_81 by decide), Nat.zero_add]
    unfold GatherDims.offCoord
    rw [dif_pos (show (0 : Fin 2) ∈ GatherDims.sKept Cert.BiaRefIdeal.gather_S8x257_S64x576x1_S8x64x576_0_1_n_n_1_2_81 by decide)]
    rfl
  · rw [GatherDims.offCoord_eq_zero _ _ _ (show (1 : Fin 2) ∉ GatherDims.sKept Cert.BiaRefIdeal.gather_S8x257_S64x576x1_S8x64x576_0_1_n_n_1_2_81 by decide), Nat.add_zero]
    unfold GatherDims.start
    rw [dif_pos (show (1 : Fin 2) ∈ GatherDims.startIndexMap Cert.BiaRefIdeal.gather_S8x257_S64x576x1_S8x64x576_0_1_n_n_1_2_81 by decide)]
    have hs : GatherDims.siIdx Cert.BiaRefIdeal.gather_S8x257_S64x576x1_S8x64x576_0_1_n_n_1_2_81 (ix3 h r q) ⟨0, by decide⟩ = ix3 r q 0 := by
      funext b
      match b with
      | ⟨0, _⟩ => rfl
      | ⟨1, _⟩ => rfl
      | ⟨2, _⟩ => rfl
    have := p.isLt
    refine Eq.trans (congrArg (fun z => min (ix z).toInt.toNat _) hs) ?_
    exact (start_at (N := 256) _ (by decide) (by omega)).trans hp

/-- A word that is not negative is not wrapped. -/
theorem unwrapped {v : BitVec 32} (hv : v.toNat ≤ 256) : Scalar.select (IntOp.cmpi .slt v 0#32) (IntOp.addi v 257#32) v = v := by
  rw [show IntOp.cmpi .slt v 0#32 = 0#1 from by
    show BitVec.ofBool (v.slt 0#32) = _
    rw [BitVec.slt, StableHlo.Predicate.toInt_eq_toNat_of_lt (by omega), show (0#32 : BitVec 32).toInt = 0 by decide, decide_eq_false (by omega)]
    rfl]
  rfl

/-- The reference's array: every entry is the table's at its place. -/
theorem v18_at (x : FVec Ideal Cert.BiaRefIdeal.S8x257 .f32) (h : Fin 8) (r : Fin 64) (q : Fin 576) :
    val_main_v18 (F := Ideal) x (ix3 h r q) = x (ix2 h ⟨(place r q).toNat, Nat.lt_succ_of_le (place_le r q)⟩) := by
  have e11 : val_main_v11 (F := Ideal) (ix2 r q) = place r q := by
    unfold place
    pointwise [val_main_v11, val_main_v10, val_main_c_2, val_main_v9, val_main_call0_v4, val_main_call0_v3, val_main_c_1, val_main_call0_v2,
      val_main_call0_v1, val_main_call0_v0, val_main_c_0, val_main_v8, val_main_v7, val_main_v6, val_main_v5, val_main_v4, val_main_v3, val_main_v2,
      val_main_c, val_main_v1, val_main_v0]
    rfl
  refine columns_at _ _ _ _ _ _ ?_
  have e17 : val_main_v17 (F := Ideal) (ix3 r q 0) = Scalar.select (IntOp.cmpi .slt (val_main_v11 (F := Ideal) (ix2 r q)) 0#32)
      (IntOp.addi (val_main_v11 (F := Ideal) (ix2 r q)) 257#32) (val_main_v11 (F := Ideal) (ix2 r q)) := by
    pointwise [val_main_v17, val_main_v16, val_main_v15, val_main_v14, val_main_c_4, val_main_v13, val_main_v12, val_main_c_3]
  rw [e17, e11, unwrapped (place_le r q)]

end Cert.BiaIdeal.Prod

end
-- ==== Proof.BiaClaims.lean ====
/-
  The claims about the call that spreads the bias table over the sample's band: the frames of the program and of its
  idealization are the generated ones, the frame of the reference is read off its generated run, and the equality puts the
  output array beside the reference's result.
-/
module

public import proofs.«01_k».proof.Defs
public import proofs.«01_k».proof.Proof.BiaProd
public import proofs.«01_k».proof.Proof.Gen.Bia.Frame
public import proofs.«01_k».proof.Proof.Gen.BiaRefIdeal.Run
public import Idealize.ShloMosaic.Adequacy
public import Idealize.ShloMosaic.Init

@[expose] public section

set_option maxRecDepth 16384

noncomputable section

namespace Cert.BiaIdeal.Prod

open Idealize.ShloMosaic Idealize.ShloMosaic.TcCoe Idealize.SL.Sem Cert.BiaIdeal Cert.BiaIdeal.Gen Cert.BiaRefIdeal.Read
open Idealize.ShloMosaic.Pipeline (Dat)
open Idealize.ShloMosaic.Pointwise

attribute [local instance] Cert.Bia.Gen.facts Cert.BiaIdeal.Gen.facts Cert.BiaRefIdeal.Gen.facts

/-- The call runs, keeps its argument and leaves every counter at zero. -/
theorem frameK : Cert.quiescent_Bia := fun m ρ _ => Cert.Bia.Gen.frame m ρ

/-- The same of its idealization. -/
theorem frameI : Cert.quiescent_BiaIdeal := fun m ρ _ => Cert.BiaIdeal.Gen.frame m ρ

/-- The reference runs and keeps its argument; it declares no semaphore. -/
theorem frameR : Cert.quiescent_BiaRefIdeal := fun m ρ _ =>
  (θ_run Cert.BiaRefIdeal.defs _ _).mono (fun r h => ⟨fun c => (h c).2, sem_eq_zero_of_no_sems (by decide) r.2⟩)
    (Cert.BiaRefIdeal.Value.run (F := Ideal) m ρ)

/-- The idealization rewrote nothing. -/
theorem kept : Cert.preserves_Bia_BiaIdeal := trivial

variable (m : (ℓ : Loc nD τ sig) → Buf (Elt Ideal) ℓ)

/-- The block index of both windows, at every grid point, and the point's coordinate. -/
theorem idx : ∀ t : Fin cfg0.N, win0_0.index t = ![0, 0] ∧ win0_1.index t = ![t.val, 0, 0] ∧ (grid0.coords t 0 : ℕ) = t.val :=
  (by decide +kernel : ∀ t : Fin grid0.N, _)

/-- The table, as launched. -/
abbrev A0 (c : Dev nD) : FVec Ideal S8x257 .f32 := m ((c : Thread nD τ).loc main_arg0)

/-- The reference's array of the launched table. -/
abbrev R (c : Dev nD) : FVec Ideal S8x64x576 .f32 := val_main_v18 (F := Ideal) (A0 m c)

/-- The output array after the run is the reference's. -/
theorem final1 (c : Dev nD) : (dats m 0 c).arrAt 1 (cfgs 0).N = R m c := by
  refine (dats m 0 c).arrAt_eq_of_covers 1 _ (by decide +kernel) fun t hf y => ?_
  have ht : t.val < 8 := lt_of_lt_of_eq t.isLt N_0
  have hy0 : (y 0 : ℕ) < 1 := (y 0).isLt
  have hy1 : (y 1 : ℕ) < 64 := (y 1).isLt
  have hy2 : (y 2 : ℕ) < 576 := (y 2).isLt
  blk_simp
  rw [after0_1]
  unfold outsAt0
  obtain ⟨h, hh⟩ : ∃ h : Fin 8, (h : ℕ) = t.val := ⟨⟨t.val, ht⟩, rfl⟩
  obtain ⟨r, hr⟩ : ∃ r : Fin 64, (r : ℕ) = y 1 := ⟨⟨y 1, hy1⟩, rfl⟩
  obtain ⟨k, hk⟩ : ∃ k : Fin 576, (k : ℕ) = y 2 := ⟨⟨y 2, hy2⟩, rfl⟩
  have hy : y = ix3 0 r k :=
    funext ((Fin.forall_fin_succ (n := 2)).2 ⟨Fin.ext (by show (y 0 : ℕ) = 0; omega), Fin.forall_fin_two.2 ⟨Fin.ext hr.symm, Fin.ext hk.symm⟩⟩)
  have he : ((View.whole main_v0).slice (win0_1.rect t)).emb y = ix3 h r k := by
    refine funext ((Fin.forall_fin_succ (n := 2)).2 ⟨Fin.ext ?_, Fin.forall_fin_two.2 ⟨Fin.ext ?_, Fin.ext ?_⟩⟩)
    · show _ = (h : ℕ); rw [hh]; blk_simp [idx t]
    · show _ = (r : ℕ); rw [hr]; blk_simp [idx t]; exact (congrArg (· + (y 1 : ℕ)) (Nat.zero_mul _)).trans (Nat.zero_add _)
    · show _ = (k : ℕ); rw [hk]; blk_simp [idx t]; exact (congrArg (· + (y 2 : ℕ)) (Nat.zero_mul _)).trans (Nat.zero_add _)
  rw [he]
  refine (congrArg (out0_A_1 (F := Ideal) c (grid0.coords t) (ms0_0 t) (hs0_0 t) (ms0_1 t) (hs0_1 t) (iblk m c 0 t)) hy).trans
    ((out_at c _ _ _ _ _ _ h ((idx t).2.2.trans hh.symm) r k).trans (Eq.trans ?_ (v18_at _ h r k).symm))
  blk_point [iblk, V, idx t]

/-- On the same table the output array is the reference's result. -/
theorem equal : Cert.algebraic_BiaIdeal_BiaRefIdeal := by
  intro m g m' g' _ hag
  refine ⟨fun c => R m c, ?_, ?_⟩
  · refine (θ_run _ _ _).mono (fun r h c => ?_) (Cert.BiaIdeal.Value.run_blocks (F := Ideal) m g)
    obtain ⟨h1, ha⟩ := h c
    exact ⟨h1.trans (final1 m c), ha⟩
  · refine (θ_run _ _ _).mono (fun r h c => ?_) (Cert.BiaRefIdeal.Value.run (F := Ideal) m' g')
    obtain ⟨h1, ha⟩ := h c
    have e0 := hag c
    refine ⟨(h1.trans (val_main_v18_eq _)).trans ?_, ha⟩
    rw [e0]

end Cert.BiaIdeal.Prod

end
-- ==== Proof.BndSoft.lean ====
/- A softmax-weighted sum, its quotient taken after the sum and before it. -/
module

public import Idealize.ShloMosaic.PureOps.Ideal

@[expose] public section

noncomputable section

namespace Cert.BndIdeal.Soft

open Idealize.ShloMosaic

/-- An extended real that is a real number. -/
def Finite (x : EReal) : Prop := ∃ r : ℝ, x = (r : EReal)

theorem finite_of_ne {x : EReal} (hb : x ≠ ⊥) (ht : x ≠ ⊤) : Finite x := ⟨x.toReal, (EReal.coe_toReal ht hb).symm⟩

theorem Finite.mul {x y : EReal} (hx : Finite x) (hy : Finite y) : Finite (x * y) := by
  obtain ⟨a, rfl⟩ := hx; obtain ⟨b, rfl⟩ := hy; exact ⟨a * b, (EReal.coe_mul a b).symm⟩

theorem Finite.add {x y : EReal} (hx : Finite x) (hy : Finite y) : Finite (x + y) := by
  obtain ⟨a, rfl⟩ := hx; obtain ⟨b, rfl⟩ := hy; exact ⟨a + b, (EReal.coe_add a b).symm⟩

/-- A sum of real numbers is their sum as real numbers. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Finite.sum {ι : Type} (s : Finset ι) {f : ι → EReal} (h : ∀ i, Finite (f i)) : Finite (∑ i ∈ s, f i) := by
  choose g hg using h
  exact ⟨∑ i ∈ s, g i, by rw [← sum_coe]; exact Finset.sum_congr rfl fun i _ => hg i⟩

/-- A factor that is a real number and not negative goes into a sum, whatever the terms are. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The pattern of minus infinity. -/
theorem lowest : Ideal.ofBits FTy.f32 4286578688#32 = ⊥ := by simp [Ideal.ofBits, Ideal.ieee]

/-- The greatest of a row. -/
def top {n : ℕ} (s : Fin n → EReal) : EReal := Finset.fold max (Ideal.ofBits FTy.f32 4286578688#32) s Finset.univ

/-- The greatest of a row of real numbers is one of them. -/
theorem top_mem {n : ℕ} [NeZero n] (s : Fin n → EReal) : ∃ k, top s = s k := by
  obtain ⟨k, -, hk⟩ := Finset.exists_mem_eq_sup (Finset.univ : Finset (Fin n)) ⟨0, Finset.mem_univ 0⟩ s
  refine ⟨k, ?_⟩
  rw [← hk, top, lowest]
  rfl

/-- The weights' sum of the values, then divided by the sum of the weights. -/
def after {n : ℕ} (s v : Fin n → EReal) : EReal :=
  Ideal.div (∑ k, Ideal.exp (s k - top s) * v k) (∑ k, Ideal.exp (s k - top s))

/-- The sum of the values times the weights divided by their sum. -/
def before {n : ℕ} (s v : Fin n → EReal) : EReal :=
  ∑ k, v k * Ideal.div (Ideal.exp (s k - max (Ideal.ofBits FTy.f32 4286578688#32) (top s)))
    (∑ j, Ideal.exp (s j - max (Ideal.ofBits FTy.f32 4286578688#32) (top s)))

/-- Where the scores are real numbers the two agree, whatever the values are. -/
theorem after_eq_before {n : ℕ} [NeZero n] (s v : Fin n → EReal) (hs : ∀ k, Finite (s k)) : after s v = before s v := by
  have hm : max (Ideal.ofBits FTy.f32 4286578688#32) (top s) = top s := by rw [lowest]; exact max_eq_right bot_le
  obtain ⟨j, hj⟩ := top_mem s
  choose g hg using hs
  have he : ∀ k, Ideal.exp (s k - top s) = ((Real.exp (g k - g j) : ℝ) : EReal) := by
    intro k; rw [hj, hg k, hg j, ← EReal.coe_sub]; rfl
  have hl : (∑ k, Ideal.exp (s k - top s)) = ((∑ k, Real.exp (g k - g j) : ℝ) : EReal) := by
    rw [← sum_coe]; exact Finset.sum_congr rfl fun k _ => he k
  have hp : 0 < ∑ k, Real.exp (g k - g j) := Finset.sum_pos (fun k _ => Real.exp_pos _) ⟨j, Finset.mem_univ j⟩
  have hd : ∀ x : EReal, Ideal.div x ((∑ k, Real.exp (g k - g j) : ℝ) : EReal) = x * (((∑ k, Real.exp (g k - g j))⁻¹ : ℝ) : EReal) := by
    intro x
    rw [Ideal.div, if_neg (by exact_mod_cast hp.ne'), EReal.coe_inv]
  unfold after before
  rw [hm, hl, hd, sum_mul_coe _ _ (inv_nonneg.2 hp.le)]
  refine Finset.sum_congr rfl fun k _ => ?_
  rw [hd, mul_comm (Ideal.exp _) (v k), mul_assoc]

end Cert.BndIdeal.Soft

end
-- ==== Proof.BndBody.lean ====
/- The sample's band attention: what the body stores at an entry of its block. -/
module

public import proofs.«01_k».proof.Proof.BndSoft
public import proofs.«01_k».proof.Proof.Gen.BndIdeal.Value
public import Idealize.ShloMosaic.Lib.Pipeline.ValueKit

@[expose] public section

set_option maxRecDepth 16384

noncomputable section

namespace Cert.BndIdeal.Prod

open Cert.BndIdeal Cert.BndIdeal.Gen Cert.BndIdeal.Soft Idealize.ShloMosaic Idealize.ShloMosaic.TcCoe Idealize.SL.Sem
open Idealize.ShloMosaic.Pipeline (Dat)
open Idealize.ShloMosaic.Pointwise

/-- The score of each key: the query's product with it and the bias. -/
def score (q : Fin 64 → EReal) (K : Fin 576 → Fin 64 → EReal) (b : Fin 576 → EReal) (k : Fin 576) : EReal := ∑ e, q e * K k e + b k

/-- A band's rows: the cached ones, then the new ones. -/
def band {α : Type} (old : Fin 512 → α) (new : Fin 64 → α) (k : Fin 576) : α :=
  if h : (k : ℕ) < 512 then old ⟨k, h⟩ else new ⟨k - 512, by have := k.isLt; omega⟩

/-- The first and the second head's lane of a pair. -/
def lo (e : Fin 64) : Fin 128 := ⟨e, by omega⟩
def hi (e : Fin 64) : Fin 128 := ⟨64 + e, by omega⟩

/-- A sum over a pair's lanes is the sum over the first head's and the sum over the second's. -/
theorem sum_pair (f : Fin 128 → EReal) : ∑ l, f l = ∑ e, f (lo e) + ∑ e, f (hi e) :=
  Fin.sum_univ_add (a := 64) (b := 64) f

/-- The mask of the first head's lanes, and of the second's. -/
def lanes (a z : BitVec 32) (l : Fin 128) : BitVec 1 :=
  IntOp.andi (IntOp.cmpi CmpIPredicate.sge (BitVec.ofNat 32 l) a) (IntOp.cmpi CmpIPredicate.slt (BitVec.ofNat 32 l) z)
theorem lanes_lo : ∀ e, lanes 0#32 64#32 (lo e) = 1#1 ∧ lanes 0#32 64#32 (hi e) = 0#1 := by decide
theorem lanes_hi : ∀ e, lanes 64#32 128#32 (lo e) = 0#1 ∧ lanes 64#32 128#32 (hi e) = 1#1 := by decide

/-- One head over the pair's 128 lanes: the scores' softmax with the values, divided last. -/
theorem head_at (kk vv : FVec Ideal S576x128 .bf16) (q : FVec Ideal S64x128 .bf16) (b : Vec Ideal S1x64x576 .f32) (r : Fin 64) (l : Fin 128) :
    k0_pay5 (F := Ideal) kk vv q (constant S64x576 .f32 0x00000000#32) b (ix2 r l)
      = after (fun k => ∑ x, q (ix2 r x) * kk (ix2 k x) + b (ix3 0 r k)) fun k => vv (ix2 k l) := by
  pointwise [k0_pay5, after, top]

/-- The masked queries. -/
theorem first_at (d : Vec Ideal S1x64x128 .bf16) (r : Fin 64) (l : Fin 128) :
    k0_pay4 (F := Ideal) d (ix2 r l) = Scalar.select (lanes 0#32 64#32 l) (d (ix3 0 r l)) (0 : EReal) := by
  pointwise [k0_pay4, k0_pay1, lanes]

/-- The queries of the second head, masked as the body masks them. -/
def second (v1 : FVec Ideal S64x128 .bf16) : FVec Ideal S64x128 .bf16 :=
  select (broadcastTo S64x128 (shapeCast S1x128 (andi (cmpi .sge (iota .tc S1x128 32 [1] iota_S1x128_d1_w32) (broadcast S1x128 64#32))
    (cmpi .slt (iota .tc S1x128 32 [1] iota_S1x128_d1_w32) (broadcast S1x128 128#32))) shapeCasts_S1x128_S1x128) broadcasts_S1x128_S64x128)
    v1 (broadcast S64x128 (Scalar.ofBits .bf16 0x0000#16))

theorem second_at (d : Vec Ideal S1x64x128 .bf16) (r : Fin 64) (l : Fin 128) :
    second (k0_pay1 (F := Ideal) d) (ix2 r l) = Scalar.select (lanes 64#32 128#32 l) (d (ix3 0 r l)) (0 : EReal) := by
  pointwise [second, k0_pay1, lanes]

/-- The keys, or the values, of a pair: the heads' cached rows side by side, then the new rows. -/
theorem rows_at (a c : Vec Ideal S1x512x1x64 .f32) (d : Vec Ideal S1x64x128 .bf16) (k : Fin 576) (e : Fin 64) :
    k0_pay2 (F := Ideal) a c d (ix2 k (lo e)) = band (fun i => a (ix4 0 i 0 e)) (fun i => d (ix3 0 i (lo e))) k
    ∧ k0_pay2 (F := Ideal) a c d (ix2 k (hi e)) = band (fun i => c (ix4 0 i 0 e)) (fun i => d (ix3 0 i (hi e))) k := by
  have hl : ((lo e : Fin 128) : ℕ) < 64 := e.isLt
  have hh : ¬ ((hi e : Fin 128) : ℕ) < 64 := by show ¬ (64 + (e : ℕ) < 64); omega
  constructor <;> pointwise [k0_pay2, band] <;> by_cases hk : (k : ℕ) < 512
  · rw [dif_pos hk, dif_pos hk, dif_pos hl]; rfl
  · rw [dif_neg hk, dif_neg hk]
  · rw [dif_pos hk, dif_pos hk, dif_neg hh]
    exact congrArg (fun z => c (ix4 0 _ 0 z)) (Fin.ext (by show 64 + (e : ℕ) - 64 = e; omega))
  · rw [dif_neg hk, dif_neg hk]

/-- What the body stores for a pair of heads. -/
def pair (q : Vec Ideal S1x64x128 .bf16) (k1 k2 : Vec Ideal S1x512x1x64 .f32) (kn : Vec Ideal S1x64x128 .bf16)
    (v1 v2 : Vec Ideal S1x512x1x64 .f32) (vn : Vec Ideal S1x64x128 .bf16) (b1 b2 : Vec Ideal S1x64x576 .f32) : FVec Ideal S1x64x128 .f32 :=
  k0_pay8 (F := Ideal)
    (k0_pay5 (k0_pay2 k1 k2 kn) (k0_pay2 v1 v2 vn) (k0_pay4 q) (constant S64x576 .f32 0x00000000#32) b1)
    (k0_pay5 (k0_pay2 k1 k2 kn) (k0_pay2 v1 v2 vn) (second (k0_pay1 q)) (constant S64x576 .f32 0x00000000#32) b2)
    (iota .tc S1x128 32 [1] iota_S1x128_d1_w32) k0_pay7

/-- Of the two heads' results each lane keeps its own head's. -/
theorem keep_at (a c : FVec Ideal S64x128 .f32) (r : Fin 64) (l : Fin 128) :
    k0_pay8 (F := Ideal) a c (iota .tc S1x128 32 [1] iota_S1x128_d1_w32) k0_pay7 (ix3 0 r l)
      = Scalar.select (lanes 0#32 64#32 l) (a (ix2 r l)) (c (ix2 r l)) := by
  pointwise [k0_pay8, k0_pay7, lanes]

/-- A pair's first head. -/
theorem pair_lo (q k1 k2 kn v1 v2 vn b1 b2) (r e : Fin 64) :
    pair q k1 k2 kn v1 v2 vn b1 b2 (ix3 0 r (lo e))
      = after (score (fun x => q (ix3 0 r (lo x))) (band (fun i x => k1 (ix4 0 i 0 x)) fun i x => kn (ix3 0 i (lo x))) fun k => b1 (ix3 0 r k))
          (band (fun i => v1 (ix4 0 i 0 e)) fun i => vn (ix3 0 i (lo e))) := by
  have hb : ∀ k x, band (fun i => k1 (ix4 0 i 0 x)) (fun i => kn (ix3 0 i (lo x))) k
      = band (fun i x => k1 (ix4 0 i 0 x)) (fun i x => kn (ix3 0 i (lo x))) k x := by
    intro k x; unfold band; split <;> rfl
  unfold pair
  rw [keep_at, (lanes_lo e).1]
  show k0_pay5 (F := Ideal) _ _ _ _ _ _ = _
  rw [head_at]
  congr 1
  · funext k
    rw [sum_pair]
    unfold score
    refine congrArg (· + _) ?_
    rw [Finset.sum_congr rfl fun x _ => (show _ = q (ix3 0 r (lo x)) * _ by
        rw [first_at, (lanes_lo x).1, (rows_at k1 k2 kn k x).1, hb]; rfl),
      Finset.sum_eq_zero (f := fun x => _ * k0_pay2 (F := Ideal) k1 k2 kn (ix2 k (hi x))) fun x _ => (by
        rw [first_at, (lanes_lo x).2]; exact zero_mul _), add_zero]
  · funext k; exact (rows_at v1 v2 vn k e).1

/-- A pair's second head. -/
theorem pair_hi (q k1 k2 kn v1 v2 vn b1 b2) (r e : Fin 64) :
    pair q k1 k2 kn v1 v2 vn b1 b2 (ix3 0 r (hi e))
      = after (score (fun x => q (ix3 0 r (hi x))) (band (fun i x => k2 (ix4 0 i 0 x)) fun i x => kn (ix3 0 i (hi x))) fun k => b2 (ix3 0 r k))
          (band (fun i => v2 (ix4 0 i 0 e)) fun i => vn (ix3 0 i (hi e))) := by
  have hb : ∀ k x, band (fun i => k2 (ix4 0 i 0 x)) (fun i => kn (ix3 0 i (hi x))) k
      = band (fun i x => k2 (ix4 0 i 0 x)) (fun i x => kn (ix3 0 i (hi x))) k x := by
    intro k x; unfold band; split <;> rfl
  unfold pair
  rw [keep_at, (lanes_lo e).2]
  show k0_pay5 (F := Ideal) _ _ _ _ _ _ = _
  rw [head_at]
  congr 1
  · funext k
    rw [sum_pair]
    unfold score
    refine congrArg (· + _) ?_
    rw [Finset.sum_eq_zero (f := fun x => _ * k0_pay2 (F := Ideal) k1 k2 kn (ix2 k (lo x))) fun x _ => (by
        rw [second_at, (lanes_hi x).1]; exact zero_mul _),
      Finset.sum_congr rfl fun x _ => (show _ = q (ix3 0 r (hi x)) * _ by
        rw [second_at, (lanes_hi x).2, (rows_at k1 k2 kn k x).2, hb]; rfl), zero_add]
  · funext k; exact (rows_at v1 v2 vn k e).2

/-- Where pair `p` lies in the blocks. -/
theorem colp {p : ℕ} (h : p < 4) : ∀ a, (![0, 0, 128 * p] : Fin 3 → ℕ) a + S1x64x128.size a ≤ S1x64x512.size a := by
  interval_cases p <;> decide
theorem headp {p : ℕ} (h : p < 8) : ∀ a, (![0, 0, p, 0] : Fin 4 → ℕ) a + S1x512x1x64.size a ≤ S1x512x8x64.size a := by
  interval_cases p <;> decide
theorem biasp {p : ℕ} (h : p < 8) : ∀ a, (![p, 0, 0] : Fin 3 → ℕ) a + S1x64x576.size a ≤ S8x64x576.size a := by
  interval_cases p <;> decide

def lanesOf (x : Vec Ideal S1x64x512 .bf16) {p : ℕ} (h : p < 4) : Vec Ideal S1x64x128 .bf16 :=
  View.ld (Val := Elt Ideal) x (Rect.unit (s := S1x64x512) ![0, 0, 128 * p] S1x64x128.size (colp h))
def cacheOf (x : Vec Ideal S1x512x8x64 .f32) {p : ℕ} (h : p < 8) : Vec Ideal S1x512x1x64 .f32 :=
  View.ld (Val := Elt Ideal) x (Rect.unit (s := S1x512x8x64) ![0, 0, p, 0] S1x512x1x64.size (headp h))
def biasOf (x : Vec Ideal S8x64x576 .f32) {p : ℕ} (h : p < 8) : Vec Ideal S1x64x576 .f32 :=
  View.ld (Val := Elt Ideal) x (Rect.unit (s := S8x64x576) ![p, 0, 0] S1x64x576.size (biasp h))

/-- What the body stores for pair `p`, from the blocks. -/
def piece (x0 : Vec Ideal S1x64x512 .bf16) (x1 : Vec Ideal S1x512x8x64 .f32) (x2 : Vec Ideal S1x64x512 .bf16) (x3 : Vec Ideal S1x512x8x64 .f32)
    (x4 : Vec Ideal S1x64x512 .bf16) (x5 : Vec Ideal S8x64x576 .f32) (p : ℕ) (h : p < 4) : FVec Ideal S1x64x128 .f32 :=
  pair (lanesOf x0 h) (cacheOf x1 (p := 2 * p) (by omega)) (cacheOf x1 (p := 2 * p + 1) (by omega)) (lanesOf x2 h)
    (cacheOf x3 (p := 2 * p) (by omega)) (cacheOf x3 (p := 2 * p + 1) (by omega)) (lanesOf x4 h)
    (biasOf x5 (p := 2 * p) (by omega)) (biasOf x5 (p := 2 * p + 1) (by omega))

/-- The body's block is the four pairs' lanes. -/
theorem out_pieces (x0 : Vec Ideal S1x64x512 .bf16) (x1 : Vec Ideal S1x512x8x64 .f32) (x2 : Vec Ideal S1x64x512 .bf16) (x3 : Vec Ideal S1x512x8x64 .f32)
    (x4 : Vec Ideal S1x64x512 .bf16) (x5 : Vec Ideal S8x64x576 .f32) :
    out0_6 (F := Ideal) x0 x1 x2 x3 x4 x5
      = View.canon (Val := Elt Ideal) (s := S1x64x512) (e := .f32) [⟨r0_15, piece x0 x1 x2 x3 x4 x5 3 (by decide)⟩, ⟨r0_10, piece x0 x1 x2 x3 x4 x5 2 (by decide)⟩,
          ⟨r0_5, piece x0 x1 x2 x3 x4 x5 1 (by decide)⟩, ⟨r0_0, piece x0 x1 x2 x3 x4 x5 0 (by decide)⟩] := rfl

/-- One head's lane of the block, from the blocks read: the softmax of the head's scores with the head's values. -/
def entry (x0 : Vec Ideal S1x64x512 .bf16) (x1 : Vec Ideal S1x512x8x64 .f32) (x2 : Vec Ideal S1x64x512 .bf16) (x3 : Vec Ideal S1x512x8x64 .f32)
    (x4 : Vec Ideal S1x64x512 .bf16) (x5 : Vec Ideal S8x64x576 .f32) (r : Fin 64) (h : Fin 8) (d : Fin 64) : EReal :=
  after (score (fun x => x0 (ix3 0 r ⟨64 * h + x, by omega⟩)) (band (fun i x => x1 (ix4 0 i h x)) fun i x => x2 (ix3 0 i ⟨64 * h + x, by omega⟩))
      fun k => x5 (ix3 h r k))
    (band (fun i => x3 (ix4 0 i h d)) fun i => x4 (ix3 0 i ⟨64 * h + d, by omega⟩))

/-- A stored pair at one of its lanes. -/
theorem piece_at (x0 : Vec Ideal S1x64x512 .bf16) (x1 : Vec Ideal S1x512x8x64 .f32) (x2 : Vec Ideal S1x64x512 .bf16) (x3 : Vec Ideal S1x512x8x64 .f32)
    (x4 : Vec Ideal S1x64x512 .bf16) (x5 : Vec Ideal S8x64x576 .f32) (p : ℕ) (hp : p < 4) (r : Fin 64) (l : Fin 128) (h : Fin 8) (d : Fin 64)
    (hl : 128 * p + (l : ℕ) = 64 * h + d) : piece x0 x1 x2 x3 x4 x5 p hp (ix3 0 r l) = entry x0 x1 x2 x3 x4 x5 r h d := by
  have c0 : ∀ (x : Vec Ideal S1x64x512 .bf16) (i : Fin 64) (l : Fin 128) (c : Fin 512) (hc : (c : ℕ) = 128 * p + l),
      lanesOf x hp (ix3 0 i l) = x (ix3 0 i c) := by
    intro x i l c hc
    exact View.ld_unit_apply_of _ _ _ _ _ _ fun a => by fin_cases a <;> simp [hc]
  have c1 : ∀ (x : Vec Ideal S1x512x8x64 .f32) (n : ℕ) (hn : n < 8) (i : Fin 512) (e : Fin 64) (h : Fin 8) (hc : (h : ℕ) = n),
      cacheOf x hn (ix4 0 i 0 e) = x (ix4 0 i h e) := by
    intro x n hn i e h hc
    exact View.ld_unit_apply_of _ _ _ _ _ _ fun a => by fin_cases a <;> simp [hc]
  have c2 : ∀ (x : Vec Ideal S8x64x576 .f32) (n : ℕ) (hn : n < 8) (i : Fin 64) (e : Fin 576) (h : Fin 8) (hc : (h : ℕ) = n),
      biasOf x hn (ix3 0 i e) = x (ix3 h i e) := by
    intro x n hn i e h hc
    exact View.ld_unit_apply_of _ _ _ _ _ _ fun a => by fin_cases a <;> simp [hc]
  unfold piece entry
  by_cases hs : (l : ℕ) < 64
  · obtain rfl : l = lo d := Fin.ext (by show (l : ℕ) = d; omega)
    have hh : (h : ℕ) = 2 * p := by change 128 * p + (d : ℕ) = _ at hl; omega
    rw [pair_lo]
    have e0 : ∀ (x : Vec Ideal S1x64x512 .bf16) (i e : Fin 64), lanesOf x hp (ix3 0 i (lo e)) = x (ix3 0 i ⟨64 * h + e, by omega⟩) :=
      fun x i e => c0 x i _ _ (by show 64 * (h : ℕ) + e = 128 * p + e; omega)
    simp only [e0, fun x i e => c1 x (2 * p) (by omega) i e h hh, fun x i e => c2 x (2 * p) (by omega) i e h hh]
  · obtain rfl : l = hi d := Fin.ext (by show (l : ℕ) = 64 + d; omega)
    have hh : (h : ℕ) = 2 * p + 1 := by change 128 * p + (64 + (d : ℕ)) = _ at hl; omega
    rw [pair_hi]
    have e0 : ∀ (x : Vec Ideal S1x64x512 .bf16) (i e : Fin 64), lanesOf x hp (ix3 0 i (hi e)) = x (ix3 0 i ⟨64 * h + e, by omega⟩) :=
      fun x i e => c0 x i _ _ (by show 64 * (h : ℕ) + e = 128 * p + (64 + e); omega)
    simp only [e0, fun x i e => c1 x (2 * p + 1) (by omega) i e h hh, fun x i e => c2 x (2 * p + 1) (by omega) i e h hh]

/-- The body's block at an entry. -/
theorem out_at (x0 : Vec Ideal S1x64x512 .bf16) (x1 : Vec Ideal S1x512x8x64 .f32) (x2 : Vec Ideal S1x64x512 .bf16) (x3 : Vec Ideal S1x512x8x64 .f32)
    (x4 : Vec Ideal S1x64x512 .bf16) (x5 : Vec Ideal S8x64x576 .f32) (y : S1x64x512.Idx) (r : Fin 64) (h : Fin 8) (d : Fin 64)
    (hr : (y 1 : ℕ) = r) (hy : (y 2 : ℕ) = 64 * h + d) : out0_6 (F := Ideal) x0 x1 x2 x3 x4 x5 y = entry x0 x1 x2 x3 x4 x5 r h d := by
  have go : ∀ (p : ℕ) (hp : p < 4) (x : S1x64x128.Idx), (y 1 : ℕ) = x 1 → (y 2 : ℕ) = 128 * p + x 2 →
      piece x0 x1 x2 x3 x4 x5 p hp x = entry x0 x1 x2 x3 x4 x5 r h d := by
    intro p hp x h1 h2
    have hx : x = ix3 0 r (x 2) := by
      funext a
      fin_cases a
      · exact Fin.ext (by have := (x 0).isLt; show (x 0 : ℕ) = 0; change (x 0 : ℕ) < 1 at this; omega)
      · exact Fin.ext (by show (x 1 : ℕ) = r; omega)
      · rfl
    rw [hx]
    exact piece_at _ _ _ _ _ _ p hp r _ h d (by omega)
  rw [out_pieces]
  canon_tiles x hx
  · exact go 3 _ x (by omega) (by omega)
  · exact go 2 _ x (by omega) (by omega)
  · exact go 1 _ x (by omega) (by omega)
  · exact go 0 _ x (by omega) (by omega)

end Cert.BndIdeal.Prod

end
-- ==== Proof.BndProd.lean ====
/- The sample's band attention: the reference's result at an entry. -/
module

public import proofs.«01_k».proof.Proof.BndBody
public import proofs.«01_k».proof.Proof.Gen.BndRefIdeal.Read

@[expose] public section

set_option maxRecDepth 16384

noncomputable section

namespace Cert.BndIdeal.Prod

open Cert.BndIdeal.Soft Idealize.ShloMosaic Cert.BndRefIdeal.Read Idealize.ShloMosaic.Pointwise
open Cert.BndRefIdeal (S16x64x3072 S16x512x8x64 S8x64x576)

/-- The scores of a head's query, from the arguments. -/
def scores (x : FVec Ideal S16x64x3072 .bf16) (ck : FVec Ideal S16x512x8x64 .f32) (b : FVec Ideal S8x64x576 .f32)
    (n : Fin 16) (h : Fin 8) (q : Fin 64) : Fin 576 → EReal :=
  score (fun e => x (ix3 n q ⟨64 * h + e, by omega⟩))
    (band (fun i e => ck (ix4 n i h e)) fun i e => x (ix3 n i ⟨512 + (64 * h + e), by omega⟩)) fun k => b (ix3 h q k)

/-- A value's column along the band, from the arguments. -/
def values (x : FVec Ideal S16x64x3072 .bf16) (cv : FVec Ideal S16x512x8x64 .f32) (n : Fin 16) (h : Fin 8) (d : Fin 64) : Fin 576 → EReal :=
  band (fun i => cv (ix4 n i h d)) fun i => x (ix3 n i ⟨1024 + (64 * h + d), by omega⟩)

theorem v12_at (x : FVec Ideal S16x64x3072 .bf16) (ck : FVec Ideal S16x512x8x64 .f32) (b : FVec Ideal S8x64x576 .f32)
    (n : Fin 16) (h : Fin 8) (q : Fin 64) (k : Fin 576) : val_main_v12 (F := Ideal) x ck b (ix4 n h q k) = scores x ck b n h q k := by
  pointwise [val_main_v12, val_main_v11, val_main_v10, val_main_v9, val_main_v8, val_main_v7, val_main_v6, val_main_v5, val_main_v4,
    val_main_v3, val_main_v2, val_main_v1, val_main_v0, scores, score]
  refine congrArg (· + _) (Finset.sum_congr rfl fun e _ => ?_)
  have hc : (h : ℕ) * 64 + e = 64 * h + e := by omega
  refine congrArg₂ (· * ·) (congrArg (fun z => x (ix3 n q z)) (Fin.ext hc)) ?_
  unfold band
  by_cases hk : (k : ℕ) < 512
  · rw [dif_pos hk, dif_pos hk]
  · rw [dif_neg hk, dif_neg hk]
    exact congrArg (fun z => x (ix3 n _ z)) (Fin.ext (by show 512 + ((h : ℕ) * 64 + e) = 512 + (64 * h + e); omega))

theorem v8_at (x : FVec Ideal S16x64x3072 .bf16) (cv : FVec Ideal S16x512x8x64 .f32)
    (n : Fin 16) (h : Fin 8) (d : Fin 64) (k : Fin 576) : val_main_v8 (F := Ideal) x cv (ix4 n k h d) = values x cv n h d k := by
  pointwise [val_main_v8, val_main_v6, val_main_v5, val_main_v0, values, band]
  by_cases hk : (k : ℕ) < 512
  · rw [dif_pos hk, dif_pos hk]
  · rw [dif_neg hk, dif_neg hk]
    exact congrArg (fun z => x (ix3 n _ z)) (Fin.ext (by show 1024 + ((h : ℕ) * 64 + d) = 1024 + (64 * h + d); omega))

/-- A host maximum along the last of four axes is the greatest of the row. -/
theorem greatest {n0 n1 n2 n3 : ℕ} {u : Shape} (v : FVec Ideal ⟨4, ![n0, n1, n2, n3]⟩ .f32)
    (h : (⟨4, ![n0, n1, n2, n3]⟩ : Shape).ReducesTo [3] ⟨3, ![n0, n1, n2]⟩) (hu : 0 < u.numel) (i : Fin n0) (j : Fin n1) (k : Fin n2) :
    Host.reduce (FloatOps.maximumf (F := Ideal)) v (constant u .f32 0xFF800000#32) h hu (ix3 i j k) = top fun l => v (ix4 i j k l) := by
  unfold top
  pointwise

theorem v13_at (x : FVec Ideal S16x64x3072 .bf16) (ck : FVec Ideal S16x512x8x64 .f32) (b : FVec Ideal S8x64x576 .f32)
    (n : Fin 16) (h : Fin 8) (q : Fin 64) :
    val_main_v13 (F := Ideal) x ck b (ix3 n h q) = top fun k => val_main_v12 (F := Ideal) x ck b (ix4 n h q k) := by
  unfold val_main_v13 val_main_cst
  generalize val_main_v12 (F := Ideal) x ck b = w
  exact greatest w _ _ n h q

/-- The greatest score, as the reference takes it. -/
theorem v15_at (x : FVec Ideal S16x64x3072 .bf16) (ck : FVec Ideal S16x512x8x64 .f32) (b : FVec Ideal S8x64x576 .f32)
    (n : Fin 16) (h : Fin 8) (q : Fin 64) :
    val_main_v15 (F := Ideal) x ck b (ix3 n h q) = max (Ideal.ofBits FTy.f32 4286578688#32) (top (scores x ck b n h q)) := by
  have hf := v13_at x ck b n h q
  rw [show (fun k => val_main_v12 (F := Ideal) x ck b (ix4 n h q k)) = scores x ck b n h q from funext fun k => v12_at x ck b n h q k] at hf
  rw [val_main_v15_apply, hf]
  generalize top (scores x ck b n h q) = t
  pointwise [val_main_v14, val_main_cst_0]

theorem v19_at (x : FVec Ideal S16x64x3072 .bf16) (ck : FVec Ideal S16x512x8x64 .f32) (b : FVec Ideal S8x64x576 .f32)
    (n : Fin 16) (h : Fin 8) (q : Fin 64) (k : Fin 576) : val_main_v19 (F := Ideal) x ck b (ix4 n h q k)
      = Ideal.exp (scores x ck b n h q k - max (Ideal.ofBits FTy.f32 4286578688#32) (top (scores x ck b n h q))) := by
  rw [← v12_at, ← v15_at]
  pointwise [val_main_v19, val_main_v18, val_main_v17, val_main_v16]

theorem v20_at (x : FVec Ideal S16x64x3072 .bf16) (ck : FVec Ideal S16x512x8x64 .f32) (b : FVec Ideal S8x64x576 .f32)
    (n : Fin 16) (h : Fin 8) (q : Fin 64) : val_main_v20 (F := Ideal) x ck b (ix3 n h q)
      = ∑ k, Ideal.exp (scores x ck b n h q k - max (Ideal.ofBits FTy.f32 4286578688#32) (top (scores x ck b n h q))) := by
  have hf : val_main_v20 (F := Ideal) x ck b (ix3 n h q) = ∑ k, val_main_v19 (F := Ideal) x ck b (ix4 n h q k) := by
    unfold val_main_v20 val_main_cst_1
    generalize val_main_v19 (F := Ideal) x ck b = w
    pointwise
  rw [hf]
  exact Finset.sum_congr rfl fun k _ => v19_at x ck b n h q k

/-- The reference's result: each value times its share of the weights, summed. -/
theorem v26_at (x : FVec Ideal S16x64x3072 .bf16) (ck cv : FVec Ideal S16x512x8x64 .f32) (b : FVec Ideal S8x64x576 .f32)
    (n : Fin 16) (q : Fin 64) (c : Fin 512) (h : Fin 8) (d : Fin 64) (hc : (c : ℕ) = 64 * h + d) :
    val_main_v26 (F := Ideal) x ck cv b (ix3 n q c) = before (scores x ck b n h q) (values x cv n h d) := by
  have hp : ∀ k, val_main_v23 (F := Ideal) x ck b (ix4 n h q k) = Ideal.div (val_main_v19 (F := Ideal) x ck b (ix4 n h q k))
      (val_main_v20 (F := Ideal) x ck b (ix3 n h q)) := by
    intro k; pointwise [val_main_v23, val_main_v22, val_main_v21]
  pointwise [val_main_v26, val_main_v25, val_main_v24]
  unfold before
  refine Finset.sum_congr rfl fun k _ => ?_
  have e1 : (⟨(c : ℕ) / 64, by omega⟩ : Fin 8) = h := Fin.ext (by show (c : ℕ) / 64 = h; omega)
  have e2 : (⟨(c : ℕ) % 64, by omega⟩ : Fin 64) = d := Fin.ext (by show (c : ℕ) % 64 = d; omega)
  rw [e1, e2, v8_at, hp, v19_at, v20_at]

/-- The scores are real numbers where the queries, the keys and the bias are. -/
theorem scores_finite (x : FVec Ideal S16x64x3072 .bf16) (ck : FVec Ideal S16x512x8x64 .f32) (b : FVec Ideal S8x64x576 .f32)
    (hx : ∀ (n : Fin 16) (q : Fin 64) (c : Fin 3072), (c : ℕ) < 1024 → Finite (x (ix3 n q c))) (hk : ∀ i, Finite (ck i)) (hb : ∀ i, Finite (b i))
    (n : Fin 16) (h : Fin 8) (q : Fin 64) (k : Fin 576) : Finite (scores x ck b n h q k) := by
  unfold scores score
  refine (Finite.sum _ fun e => (hx _ _ _ (by show 64 * (h : ℕ) + e < 1024; omega)).mul ?_).add (hb _)
  unfold band
  split
  · exact hk _
  · exact hx _ _ _ (by show 512 + (64 * (h : ℕ) + e) < 1024; omega)

end Cert.BndIdeal.Prod

end
-- ==== Proof.BndClaims.lean ====
/-
  The claims about the sample's band attention: the frames of the program and of its idealization are the generated ones,
  the frame of the reference is read off its generated run, and the equality puts the output array beside the reference's
  result where no query, key or bias is infinite.
-/
module

public import proofs.«01_k».proof.Defs
public import proofs.«01_k».proof.Proof.BndProd
public import proofs.«01_k».proof.Proof.Gen.Bnd.Frame
public import proofs.«01_k».proof.Proof.Gen.BndRefIdeal.Run
public import proofs.«01_k».proof.Proof.Gen.Pre_band_finite
public import Idealize.ShloMosaic.Lib.StableHlo.Predicate
public import Idealize.ShloMosaic.Adequacy
public import Idealize.ShloMosaic.Init

@[expose] public section

set_option maxRecDepth 16384

noncomputable section

namespace Cert.BndIdeal.Prod

open Idealize.ShloMosaic Idealize.ShloMosaic.TcCoe Idealize.SL.Sem Cert.BndIdeal Cert.BndIdeal.Gen Cert.BndIdeal.Soft Cert.BndRefIdeal.Read
open Idealize.ShloMosaic.Pipeline (Dat)
open Idealize.ShloMosaic.Pointwise

attribute [local instance] Cert.Bnd.Gen.facts Cert.BndIdeal.Gen.facts Cert.BndRefIdeal.Gen.facts Cert.Pre_band_finite.Gen.facts

/-- The call runs, keeps its arguments and leaves every counter at zero. -/
theorem frameK : Cert.quiescent_Bnd := fun m ρ _ => Cert.Bnd.Gen.frame m ρ

/-- The same of its idealization. -/
theorem frameI : Cert.quiescent_BndIdeal := fun m ρ _ => Cert.BndIdeal.Gen.frame m ρ

/-- The same where the equality's precondition holds. -/
theorem framePI : Cert.quiescent_BndIdeal_pre_band_finite := fun m ρ _ => Cert.BndIdeal.Gen.frame m ρ

/-- The reference runs and keeps its arguments; it declares no semaphore. -/
theorem frameR : Cert.quiescent_BndRefIdeal := fun m ρ _ =>
  (θ_run Cert.BndRefIdeal.defs _ _).mono (fun r h => ⟨fun c => (h c).2, sem_eq_zero_of_no_sems (by decide) r.2⟩)
    (Cert.BndRefIdeal.Value.run (F := Ideal) m ρ)

/-- The same where the equality's precondition holds. -/
theorem framePR : Cert.quiescent_BndRefIdeal_pre_band_finite := fun m ρ _ => frameR m ρ trivial

/-- The idealization rewrote nothing. -/
theorem kept : Cert.preserves_Bnd_BndIdeal := trivial

/-- A number whose absolute value is less than the greatest is real. -/
theorem finite_of_test {x : EReal} (h : FloatOps.cmpf (F := Ideal) (φ := .f32) .olt (FloatOps.absf (F := Ideal) (φ := .f32) x) (Ideal.ofBits .f32 0x7F800000#32) = 1#1) :
    Finite x := by
  have h' : Ideal.cmp .olt (max x (-x)) (Ideal.ofBits .f32 0x7F800000#32) = 1#1 := h
  rw [show Ideal.ofBits .f32 0x7F800000#32 = (⊤ : EReal) by simp [Ideal.ofBits, Ideal.ieee]] at h'
  have hl : max x (-x) < ⊤ := by
    by_contra hn
    simp [Ideal.cmp, hn] at h'
  refine finite_of_ne ?_ ?_
  · rintro rfl
    simp at hl
  · rintro rfl
    simp at hl

variable (m : (ℓ : Loc nD τ sig) → Buf (Elt Ideal) ℓ)

/-- The block index of every window, at every grid point. -/
theorem idx : ∀ t : Fin cfg0.N, win0_0.index t = ![t.val, 0, 0] ∧ win0_1.index t = ![t.val, 0, 0, 0]
    ∧ win0_2.index t = ![t.val, 0, 1] ∧ win0_3.index t = ![t.val, 0, 0, 0]
    ∧ win0_4.index t = ![t.val, 0, 2] ∧ win0_5.index t = ![0, 0, 0] ∧ win0_6.index t = ![t.val, 0, 0] :=
  (by decide +kernel : ∀ t : Fin grid0.N, _)

/-- The arguments, as launched. -/
abbrev A0 (c : Dev nD) : FVec Ideal S16x64x3072 .bf16 := m ((c : Thread nD τ).loc main_arg0)
abbrev A1 (c : Dev nD) : FVec Ideal S16x512x8x64 .f32 := m ((c : Thread nD τ).loc main_arg1)
abbrev A2 (c : Dev nD) : FVec Ideal S16x512x8x64 .f32 := m ((c : Thread nD τ).loc main_arg2)
abbrev A3 (c : Dev nD) : FVec Ideal S8x64x576 .f32 := m ((c : Thread nD τ).loc main_arg3)

/-- The reference's array of the launched arguments. -/
abbrev R (c : Dev nD) : FVec Ideal S16x64x512 .f32 := val_main_v26 (F := Ideal) (A0 m c) (A1 m c) (A2 m c) (A3 m c)

/-- The precondition says that the queries, the keys and the bias are real. -/
theorem real_of (hp : Cert.Pre_BndIdeal_band_finite m) (c : Dev nD) :
    (∀ (n : Fin 16) (q : Fin 64) (k : Fin 3072), (k : ℕ) < 1024 → Finite (A0 m c (ix3 n q k))) ∧ (∀ i, Finite (A1 m c i)) ∧ ∀ i, Finite (A3 m c i) := by
  obtain ⟨h0, h1, h3⟩ := hp c
  refine ⟨fun n q k hk => ?_, fun i => finite_of_test (congrFun h1 i), fun i => finite_of_test (congrFun h3 i)⟩
  have e : extractStridedSlice Cert.Pre_band_finite.S16x64x1024 ![0, 0, 0] (A0 m c) Cert.Pre_band_finite.Facts.slices_S16x64x3072_S16x64x1024_0_0_0
      (ix3 n q ⟨k, hk⟩) = A0 m c (ix3 n q k) := by pointwise
  rw [← e]
  exact finite_of_test (congrFun h0 (ix3 n q ⟨k, hk⟩))

/-- The output array after the run is the reference's. -/
theorem final6 (hp : Cert.Pre_BndIdeal_band_finite m) (c : Dev nD) : (dats m 0 c).arrAt 6 (cfgs 0).N = R m c := by
  refine (dats m 0 c).arrAt_eq_of_covers 6 _ (by decide +kernel) fun t hf y => ?_
  have ht : t.val < 16 := lt_of_lt_of_eq t.isLt N_0
  have hy0 : (y 0 : ℕ) < 1 := (y 0).isLt
  have hy1 : (y 1 : ℕ) < 64 := (y 1).isLt
  have hy2 : (y 2 : ℕ) < 512 := (y 2).isLt
  blk_simp
  rw [after0_6]; frame_out
  obtain ⟨n, hn⟩ : ∃ n : Fin 16, (n : ℕ) = t.val := ⟨⟨t.val, ht⟩, rfl⟩
  obtain ⟨r, hr⟩ : ∃ r : Fin 64, (y 1 : ℕ) = r := ⟨⟨y 1, hy1⟩, rfl⟩
  obtain ⟨k, hk⟩ : ∃ k : Fin 512, (k : ℕ) = y 2 := ⟨⟨y 2, hy2⟩, rfl⟩
  obtain ⟨h, d, hd⟩ : ∃ (h : Fin 8) (d : Fin 64), (k : ℕ) = 64 * h + d :=
    ⟨⟨k / 64, by omega⟩, ⟨k % 64, by omega⟩, by show (k : ℕ) = 64 * (k / 64) + k % 64; omega⟩
  have he : ((View.whole main_v0).slice (win0_6.rect t)).emb y = ix3 n r k := by
    refine funext ((Fin.forall_fin_succ (n := 2)).2 ⟨Fin.ext ?_, Fin.forall_fin_two.2 ⟨Fin.ext ?_, Fin.ext ?_⟩⟩)
    · show _ = (n : ℕ); rw [hn]; blk_simp [idx t]
    · show _ = (r : ℕ); rw [← hr]; blk_simp [idx t]; exact (congrArg (· + (y 1 : ℕ)) (Nat.zero_mul _)).trans (Nat.zero_add _)
    · show _ = (k : ℕ); rw [hk]; blk_simp [idx t]; exact (congrArg (· + (y 2 : ℕ)) (Nat.zero_mul _)).trans (Nat.zero_add _)
  rw [he]
  obtain ⟨hx, hck, hb⟩ := real_of m hp c
  refine (out_at _ _ _ _ _ _ y r h d hr (hk.symm.trans hd)).trans (Eq.trans ?_
    ((v26_at _ _ _ _ n r k h d hd).trans (after_eq_before _ _ fun i => scores_finite _ _ _ hx hck hb n h r i).symm).symm)
  unfold entry scores values
  refine congrArg₂ after (congr (congrArg₂ score ?_ (congrArg₂ band ?_ ?_)) ?_) (congrArg₂ band ?_ ?_)
  · funext e; blk_point [iblk, V, idx t]
  · funext i e; blk_point [iblk, V, idx t]
  · funext i e; blk_point [iblk, V, idx t]
  · funext e; blk_point [iblk, V, idx t]
  · funext i; blk_point [iblk, V, idx t]
  · funext i; blk_point [iblk, V, idx t]

/-- On the same arguments, no query, key or bias infinite, the output array is the reference's result. -/
theorem equal : Cert.algebraic_BndIdeal_BndRefIdeal_pre_band_finite := by
  intro m g m' g' hp hag
  refine ⟨fun c => R m c, ?_, ?_⟩
  · refine (θ_run _ _ _).mono (fun r h c => ?_) (Cert.BndIdeal.Value.run_blocks (F := Ideal) m g)
    obtain ⟨h6, ha⟩ := h c
    exact ⟨h6.trans (final6 m hp c), ha⟩
  · refine (θ_run _ _ _).mono (fun r h c => ?_) (Cert.BndRefIdeal.Value.run (F := Ideal) m' g')
    obtain ⟨h6, ha⟩ := h c
    obtain ⟨e0, e1, e2, e3⟩ := hag c
    refine ⟨(h6.trans (val_main_v26_eq _ _)).trans ?_, ha⟩
    rw [e0, e1, e2, e3]

end Cert.BndIdeal.Prod

end
-- ==== Proof.FfnRing.lean ====
/-
  The row gather of the expert feed-forward kernel: its two-slot ring, its transfers, and what one batch of
  transfers delivers.
-/
module

public import proofs.«01_k».proof.Proof.Gen.FfnIdeal.Launch
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ValueKit
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.FfnIdeal.Ring

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's resources: the pipeline's, beside the transfers' counters. -/
local notation "𝕄" => MT nD τ sig Unit (Elt F) ℕ (Pipeline.UD sig nD τ) ℕ

/-! ## The transfers' ends -/

theorem slot_inb (s : Fin 2) : ∀ a, (![s.val, 0, 0] : Fin 3 → Nat) a + S1x512x1024.size a ≤ S2x512x1024.size a := by
  have := s.isLt; intro a; fin_cases a
  · show s.val + 1 ≤ 2; omega
  · show 0 + 512 ≤ 512; omega
  · show 0 + 1024 ≤ 1024; omega
theorem rows_inb (k : Fin 64) : ∀ a, (![8 * k.val, 0] : Fin 2 → Nat) a + S8x1024.size a ≤ S512x1024.size a := by
  have := k.isLt; intro a; fin_cases a
  · show 8 * k.val + 8 ≤ 512; omega
  · show 0 + 1024 ≤ 1024; omega

/-- One slot of the ring, as a 512 × 1024 buffer. -/
def slotM (s : Fin 2) : Memref sig .tc .vmem S512x1024 .f32 :=
  ((Memref.whole cc0_scratch0).slice (Rect.unit (s := S2x512x1024) ![s.val, 0, 0] S1x512x1024.size (slot_inb s)) (fun _ => rfl)).squeeze S512x1024 squeezes_S1x512x1024_S512x1024
/-- Rows 8k … 8k + 7 of a slot: one transfer's destination. -/
def blkM (s : Fin 2) (k : Fin 64) : Memref sig .tc .vmem S8x1024 .f32 :=
  (slotM s).slice (Rect.unit (s := S512x1024) ![8 * k.val, 0] S8x1024.size (rows_inb k)) (fun _ => rfl)
/-- The eight rows of the argument that one table word names: one transfer's source. -/
def srcM (v : BitVec 32) (h : ∀ a, (![v.toNat, 0] : Fin 2 → Nat) a + S8x1024.size a ≤ S78336x1024.size a) : Memref sig .tc .hbm S8x1024 .f32 :=
  (Memref.whole main_arg3).slice (Rect.unit (s := S78336x1024) ![v.toNat, 0] S8x1024.size h) (fun _ => rfl)
/-- A slot's semaphore. -/
def semD (s : Fin 2) : DmaSem sig := ⟨14 + s.val, by have := s.isLt; show 14 + s.val < 16; omega⟩

theorem src_inb {v : BitVec 32} (h : v.toNat ≤ 78328) : ∀ a, (![v.toNat, 0] : Fin 2 → Nat) a + S8x1024.size a ≤ S78336x1024.size a := by
  intro a; fin_cases a
  · show v.toNat + 8 ≤ 78336; omega
  · show 0 + 1024 ≤ 1024; omega

/-- What one transfer pays its semaphore. -/
def NN : ℕ := (blkM 0 0).view.dmaCredit

theorem NN_pos : 0 < NN := View.dmaCredit_pos _ (by decide)
theorem amount_blk (s : Fin 2) (k : Fin 64) (d : DmaSem sig) : (blkM s k).view.amount (.dma d) = NN := rfl
theorem credit_slot (s : Fin 2) : (slotM s).view.dmaCredit = NN * 64 := by
  have h : (slotM s).view.dmaCredit = (slotM 0).view.dmaCredit := rfl
  rw [h]; decide +kernel

/-! ## Which elements a block holds -/

theorem slot_emb (s : Fin 2) (z : S512x1024.Idx) :
    (slotM s).view.emb z = (Rect.unit (s := S2x512x1024) ![s.val, 0, 0] S1x512x1024.size (slot_inb s)).emb (Fin.cons ⟨0, Nat.one_pos⟩ z) := by
  show (((View.whole cc0_scratch0).slice _).reshape S512x1024 _).emb z = _
  rw [View.emb_reshape, View.emb_slice, View.emb_whole]
  show (Rect.unit (s := S2x512x1024) _ S1x512x1024.size (slot_inb s)).emb (Shape.reshapeEquiv _ z) = _
  rw [Shape.reshapeEquiv_cons_one]

/-- Where element `z` of a block, or of a transfer's source, lies. -/
def bemb (s : Fin 2) (k : Fin 64) (z : S8x1024.Idx) : S2x512x1024.Idx := (blkM s k).view.emb z
def semb (v : BitVec 32) (h : ∀ a, (![v.toNat, 0] : Fin 2 → Nat) a + S8x1024.size a ≤ S78336x1024.size a) (z : S8x1024.Idx) : S78336x1024.Idx := (srcM v h).view.emb z

theorem blk_emb (s : Fin 2) (k : Fin 64) (z : S8x1024.Idx) :
    (bemb s k z 0).val = s.val ∧ (bemb s k z 1).val = 8 * k.val + (z 0).val
      ∧ (bemb s k z 2).val = (z 1).val := by
  have h : bemb s k z = (slotM s).view.emb ((Rect.unit (s := S512x1024) ![8 * k.val, 0] S8x1024.size (rows_inb k)).emb z) := rfl
  rw [h, slot_emb]
  refine ⟨?_, ?_, ?_⟩
  · show s.val + 1 * 0 = s.val; omega
  · show 0 + 1 * (8 * k.val + 1 * (z 0).val) = _; omega
  · show 0 + 1 * (0 + 1 * (z 1).val) = _; omega

theorem src_emb (v : BitVec 32) (h) (z : S8x1024.Idx) :
    (semb v h z 0).val = v.toNat + (z 0).val ∧ (semb v h z 1).val = (z 1).val := by
  refine ⟨?_, ?_⟩
  · show v.toNat + 1 * (z 0).val = _; omega
  · show 0 + 1 * (z 1).val = _; omega

theorem mem_blk (s : Fin 2) (k : Fin 64) (y : S2x512x1024.Idx) :
    y ∈ (blkM s k).view.set ↔ (y 0).val = s.val ∧ 8 * k.val ≤ (y 1).val ∧ (y 1).val < 8 * k.val + 8 := by
  constructor
  · intro h
    obtain ⟨z, -, rfl⟩ := Finset.mem_map.mp h
    obtain ⟨h0, h1, h2⟩ := blk_emb s k z
    have := (z 0).isLt
    change (z 0).val < 8 at this
    change (bemb s k z 0).val = _ ∧ 8 * k.val ≤ (bemb s k z 1).val ∧ (bemb s k z 1).val < _
    refine ⟨h0, ?_, ?_⟩ <;> omega
  · rintro ⟨h0, h1, h2⟩
    have e : y = bemb s k (show S8x1024.Idx from fun d => match d with | ⟨0, _⟩ => ⟨(y 1).val - 8 * k.val, by show _ < 8; omega⟩ | ⟨1, _⟩ => ⟨(y 2).val, (y 2).isLt⟩) := by
      obtain ⟨e0, e1, e2⟩ := blk_emb s k (show S8x1024.Idx from fun d => match d with | ⟨0, _⟩ => ⟨(y 1).val - 8 * k.val, by show _ < 8; omega⟩ | ⟨1, _⟩ => ⟨(y 2).val, (y 2).isLt⟩)
      funext d; apply Fin.ext
      fin_cases d
      · exact h0.trans e0.symm
      · refine Eq.trans ?_ e1.symm
        show (y 1).val = 8 * k.val + ((y 1).val - 8 * k.val); omega
      · exact e2.symm
    rw [e]; exact View.emb_mem_set _ _

/-! ## What the transfers deliver -/

theorem pt_storable (ℓ : Loc nD τ sig) (I : Finset (Idx ℓ)) (q : PosShare TreeShare) (f : Buf (Elt F) ℓ) :
    BI.Storable (upEmb : UEmb _ 𝕄) (ℓ ↦[I]{q} f : sProp 𝕄) := inferInstance

section Data

variable (c : Dev nD) (sr : S11648.Idx → BitVec 32) (fx : S78336x1024.Idx → F .f32)

/-- The table's word number `n`. -/
def wd (n : ℕ) : BitVec 32 := sr (fun d => match d with | ⟨0, _⟩ => Fin.ofNat 11648 n)

/-- The rows of one tile: row `r` is row `r mod 8` of the eight rows that the tile's word number `r / 8` names. -/
def gath (tile : ℕ) : S2x512x1024.Idx → F .f32 := fun y =>
  fx (fun d => match d with
    | ⟨0, _⟩ => Fin.ofNat 78336 ((wd sr (64 * tile + (y 1).val / 8)).toNat + (y 1).val % 8)
    | ⟨1, _⟩ => y 2)

/-- The half of the gathered array's share that slot `s` reads with. -/
def qs (s : Fin 2) : PosShare TreeShare := if s = 0 then fullShare.left else fullShare.right

variable (hsr : ∀ n, (wd sr n).toNat ≤ 78328)

/-- The eight rows that word number `n` names. -/
def srcN (n : ℕ) : Memref sig .tc .hbm S8x1024 .f32 := srcM (wd sr n) (src_inb (hsr n))

/-- Their elements. -/
def srcS (n : ℕ) : Finset S78336x1024.Idx := (srcN sr hsr n).view.set

/-- The gathered array, at a share. -/
abbrev xAt (q : PosShare TreeShare) : sProp 𝕄 := (Memref.whole main_arg3 : Memref sig .tc .hbm S78336x1024 .f32).view.loc (c : Thread nD τ) ↦{q} fx
/-- A block owned, at some contents. -/
abbrev blkOwn (s : Fin 2) (k : Fin 64) : sProp 𝕄 := iprop(∃ g, (blkM s k).view.loc (c : Thread nD τ) ↦[(blkM s k).view.set]{fullShare} g)

/-- What transfer `k` of a tile delivers: its block at the tile's rows, and the rows it read, back at its token. -/
abbrev deliv (s : Fin 2) (tile : ℕ) (k : Fin 64) : sProp 𝕄 :=
  iprop(((blkM s k).view.loc (c : Thread nD τ) ↦[(blkM s k).view.set]{fullShare} gath sr fx tile)
    ∗ ((srcN sr hsr (64 * tile + k.val)).view.loc (c : Thread nD τ) ↦[(srcN sr hsr (64 * tile + k.val)).view.set]{Transfers.shareTokN (qs s) k.val} fx))

instance deliv_storable (s : Fin 2) (tile : ℕ) (k : Fin 64) : BI.Storable (upEmb : UEmb _ 𝕄) (deliv c sr fx hsr s tile k) := by
  have h1 : BI.Storable (upEmb : UEmb _ 𝕄) ((blkM s k).view.loc (c : Thread nD τ) ↦[(blkM s k).view.set]{fullShare} gath sr fx tile : sProp 𝕄) := pt_storable _ _ _ _
  have h2 : BI.Storable (upEmb : UEmb _ 𝕄) ((srcN sr hsr (64 * tile + k.val)).view.loc (c : Thread nD τ)
    ↦[(srcN sr hsr (64 * tile + k.val)).view.set]{Transfers.shareTokN (qs s) k.val} fx : sProp 𝕄) := pt_storable _ _ _ _
  unfold deliv; infer_instance

/-- The batch of a tile's transfers on a slot's semaphore: `j` issued, none drained. -/
abbrev bat (s : Fin 2) (tile j : ℕ) : sProp 𝕄 :=
  Transfers.Batch (countersEmb (U := Pipeline.UD sig nD τ)) (c : Thread nD τ) (.dma (semD s)) () NN (deliv c sr fx hsr s tile) j 0

/-- What a transfer leaves of its token: the array but the rows it reads. -/
abbrev left (s : Fin 2) (tile : ℕ) (k : Fin 64) : sProp 𝕄 :=
  (Memref.whole main_arg3 : Memref sig .tc .hbm S78336x1024 .f32).view.loc (c : Thread nD τ)
    ↦[Finset.univ \ srcS sr hsr (64 * tile + k.val)]{Transfers.shareTokN (qs s) k.val} fx

theorem deliv_congr (s : Fin 2) (tile : ℕ) (k : Fin 64) (g : S2x512x1024.Idx → F .f32) :
    ∀ i ∈ (blkM s k).view.set, (blkM s k).view.write (Elt F) g ((srcN sr hsr (64 * tile + k.val)).view.read (Elt F) fx) Finset.univ i = gath sr fx tile i := by
  intro i hi
  obtain ⟨z, -, rfl⟩ := Finset.mem_map.mp hi
  refine (View.write_emb_of_mem (v := (blkM s k).view) _ _ (Finset.mem_univ z)).trans ?_
  show fx ((srcN sr hsr (64 * tile + k.val)).view.emb z) = gath sr fx tile (bemb s k z)
  obtain ⟨h0, h1, h2⟩ := blk_emb s k z
  obtain ⟨e0, e1⟩ := src_emb (wd sr (64 * tile + k.val)) (src_inb (hsr _)) z
  have hz : (z 0).val < 8 := (z 0).isLt
  have hq : (bemb s k z 1).val / 8 = k.val := by omega
  have hm : (bemb s k z 1).val % 8 = (z 0).val := by omega
  have hb := hsr (64 * tile + k.val)
  unfold gath
  congr 1
  funext d; apply Fin.ext
  fin_cases d
  · refine e0.trans ?_
    show _ = ((wd sr (64 * tile + (bemb s k z 1).val / 8)).toNat + (bemb s k z 1).val % 8) % 78336
    rw [hq, hm, Nat.mod_eq_of_lt (by omega)]
  · exact e1.trans h2.symm

/-! ## One transfer -/

/-- One trip of an issue loop, on whatever offsets the loop computes: a table word, its check, its transfer. -/
def trip (s : Fin 2) (o : Fin 1 → ℕ) (ho : ∀ a, o a + S1.size a ≤ S11648.size a) (od : Fin 2 → ℕ) (hod : ∀ a, od a + S8x1024.size a ≤ S512x1024.size a)
    (os : BitVec 32 → Fin 2 → ℕ) (C : BitVec 32 → Prop) (dC : ∀ v, Decidable (C v)) (hos : ∀ v, C v → ∀ a, os v a + S8x1024.size a ≤ S78336x1024.size a) :
    Prog (TpuEff nD τ sig (Elt F) Λ₀ .tc) PUnit := do
  let v : Elt F .i32 ← smemLoad (Memref.whole main_arg2 : Memref sig .tc .smem S11648 .i32) (Rect.unit (s := S11648) o S1.size ho) numel1_S1 rfl
  have h : C v := (← Prog.lift (TpuEff.assume (C v) (dC v))).down
  Prog.lift (.enqueueDma ((Memref.whole main_arg3 : Memref sig .tc .hbm S78336x1024 .f32).slice (Rect.unit (s := S78336x1024) (os v) S8x1024.size (hos v h)) (fun _ => rfl))
    (.here ((slotM s).slice (Rect.unit (s := S512x1024) od S8x1024.size hod) (fun _ => rfl))) (.dma (semD s)) (View.wordExact_bits rfl) (View.wordExact_bits rfl) ⟨Or.inl rfl, trivial⟩)
  pure ⟨⟩

/-- The table, at the body's share. -/
abbrev tabAt : sProp 𝕄 := (Memref.whole main_arg2 : Memref sig .tc .smem S11648 .i32).view.loc (c : Thread nD τ) ↦{fullShare.right} sr

theorem trip_spec (𝒱 : Variants) (bd : Option 𝒱.V) (s : Fin 2) (tile : ℕ) (k : Fin 64) (o : Fin 1 → ℕ) (ho) (od : Fin 2 → ℕ) (hod) (os : BitVec 32 → Fin 2 → ℕ)
    (C : BitVec 32 → Prop) (dC) (hos) (ho' : o = ![64 * tile + k.val]) (hod' : od = ![8 * k.val, 0]) (hos' : ∀ v, os v = ![v.toNat, 0])
    (hC : C (wd sr (64 * tile + k.val))) :
    iprop(tabAt c sr ∗ bat c sr fx hsr s tile k.val ∗ blkOwn c s k ∗ xAt c fx (Transfers.shareTokN (qs s) k.val))
      ⊢ wp frame (wpE defs₀ 𝒱 (c : Thread nD τ) bd) Set.univ (trip (F := F) s o ho od hod os C dC hos)
        (fun _ => iprop(tabAt c sr ∗ bat c sr fx hsr s tile (k.val + 1) ∗ left c sr fx hsr s tile k)) := by
  subst ho' hod'
  obtain rfl : os = fun v => ![v.toNat, 0] := funext hos'
  iintro ⟨HT, HB, ⟨%g, HD⟩, HX⟩
  unfold trip
  sl_exec
  have hw : (trip_spec.sl.r (F := F) sr tile k ho : BitVec 32) = wd sr (64 * tile + k.val) := by
    refine congrArg sr (funext fun d => Fin.ext ?_)
    have hb : 64 * tile + k.val + 1 ≤ 11648 := ho 0
    fin_cases d
    show 64 * tile + k.val + 1 * 0 = (64 * tile + k.val) % 11648
    rw [Nat.mod_eq_of_lt (by omega)]; omega
  revert hw
  generalize (trip_spec.sl.r (F := F) sr tile k ho : BitVec 32) = v
  intro hw
  subst hw
  iapply (wp_assume _ _ _ _ hC)
  ihave HX' := (pointsTo_split_subset (Finset.subset_univ (srcS sr hsr (64 * tile + k.val)))).1 $$ HX
  icases HX' with ⟨HXs, HXl⟩
  ihave Hb3 := (show iprop(((srcN sr hsr (64 * tile + k.val)).view.loc (c : Thread nD τ) ↦[(srcN sr hsr (64 * tile + k.val)).view.set]{Transfers.shareTokN (qs s) k.val} fx)
      ∗ ((blkM s k).view.loc (c : Thread nD τ) ↦[(blkM s k).view.set]{fullShare} g) ∗ bat c sr fx hsr s tile k.val) ⊢ _ from .rfl) $$ [HXs HD HB]
  · isplitl [HXs]; · iexact HXs
    isplitl [HD]; · iexact HD
    iexact HB
  iapply (Transfers.wp_dmaBatch (countersEmb (U := Pipeline.UD sig nD τ)) 𝒱 (c : Thread nD τ) bd
    (src := srcN sr hsr (64 * tile + k.val)) (dst := blkM s k) (sm := .dma (semD s)) (fs := fx) (fd := g) (q := Transfers.shareTokN (qs s) k.val) (via := .same) (D := deliv c sr fx hsr s tile) (j := k.val) (u := 0)
    () NN (amount_blk s k _) (Finset.Subset.refl _) k.isLt (Nat.zero_le _)
    (by
      iintro ⟨HA, HB⟩
      isplitl [HA]
      · iapply (Entails.of_eq (pointsTo_congr (deliv_congr sr fx hsr s tile k g))) $$ HA
      · iexact HB)) $$ Hb3
  iintro HB
  dsimp only [Prog.bind, Pure.pure]
  sl_step
  isplitl [HT]; · iexact HT
  isplitl [HB]; · iexact HB
  iexact HXl

/-! ## One tile's issue loop -/

/-- Before trip `j` of a tile's issue loop: `j` transfers issued, the later blocks and tokens in hand, what the earlier
    transfers leave of theirs. -/
def issueAt (s : Fin 2) (tile j : ℕ) : sProp 𝕄 :=
  iprop(tabAt c sr ∗ bat c sr fx hsr s tile j ∗ bigSep (Ring.rangeSet 64 j 64) (blkOwn c s)
    ∗ bigSep (Ring.rangeSet 64 j 64) (fun k : Fin 64 => xAt c fx (Transfers.shareTokN (qs s) k.val))
    ∗ bigSep (Ring.rangeSet 64 0 j) (left c sr fx hsr s tile))

/-- One trip takes the invariant to the next. -/
theorem trip_step (𝒱 : Variants) (bd : Option 𝒱.V) (s : Fin 2) (tile : ℕ) (k : Fin 64) (o : Fin 1 → ℕ) (ho) (od : Fin 2 → ℕ) (hod) (os : BitVec 32 → Fin 2 → ℕ)
    (C : BitVec 32 → Prop) (dC) (hos) (ho' : o = ![64 * tile + k.val]) (hod' : od = ![8 * k.val, 0]) (hos' : ∀ v, os v = ![v.toNat, 0])
    (hC : C (wd sr (64 * tile + k.val))) :
    issueAt c sr fx hsr s tile k.val
      ⊢ wp frame (wpE defs₀ 𝒱 (c : Thread nD τ) bd) Set.univ (trip (F := F) s o ho od hod os C dC hos)
        (fun _ => issueAt c sr fx hsr s tile (k.val + 1)) := by
  have hk := k.isLt
  unfold issueAt
  rw [Ring.bigSep_rangeSet_head (Φ := blkOwn c s) (by omega) hk,
    Ring.bigSep_rangeSet_head (Φ := fun k : Fin 64 => xAt c fx (Transfers.shareTokN (qs s) k.val)) (by omega) hk,
    Ring.bigSep_rangeSet_last (Φ := left c sr fx hsr s tile) (lo := 0) (hi := k.val + 1) (by omega) (by omega)]
  iintro ⟨HT, HB, ⟨HD, HDs⟩, ⟨HX, HXs⟩, HL⟩
  iapply (wp_wand_r _ _ _)
  isplitl [HT HB HD HX]
  · iapply (trip_spec c sr fx hsr 𝒱 bd s tile k o ho od hod os C dC hos ho' hod' hos' hC)
    isplitl [HT]; · iexact HT
    isplitl [HB]; · iexact HB
    isplitl [HD]; · iexact HD
    iexact HX
  · iintro %_ ⟨HT, HB, Hl⟩
    isplitl [HT]; · iexact HT
    isplitl [HB]; · iexact HB
    isplitl [HDs]; · iexact HDs
    isplitl [HXs]; · iexact HXs
    isplitl [Hl]; · iexact Hl
    iexact HL

/-! ## A slot, idle and in flight -/

/-- A slot's elements. -/
def slotS (s : Fin 2) : Finset S2x512x1024.Idx := (slotM s).view.set

theorem mem_slot (s : Fin 2) (y : S2x512x1024.Idx) : y ∈ slotS s ↔ (y 0).val = s.val := by
  have h : slotS s = (Rect.unit (s := S2x512x1024) ![s.val, 0, 0] S1x512x1024.size (slot_inb s)).set := by
    unfold slotS slotM; exact (View.set_reshape _ _).trans (View.set_slice_whole _ _)
  rw [h, Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 512; omega
    · show 0 ≤ (y 2).val ∧ (y 2).val < 0 + 1024; omega

/-- A block's elements. -/
def blkS (s : Fin 2) (k : Fin 64) : Finset S2x512x1024.Idx := (blkM s k).view.set

theorem mem_blkS (s : Fin 2) (k : Fin 64) (y : S2x512x1024.Idx) :
    y ∈ blkS s k ↔ (y 0).val = s.val ∧ 8 * k.val ≤ (y 1).val ∧ (y 1).val < 8 * k.val + 8 := mem_blk s k y
theorem blkS_disjoint (s : Fin 2) : ∀ k ∈ Finset.univ, ∀ k' ∈ Finset.univ, k ≠ k' → Disjoint (blkS s k) (blkS s k') := fun k _ k' _ hne => by
  rw [Finset.disjoint_left]; intro y hy hy'
  have a := (mem_blk s k y).mp hy
  have b := (mem_blk s k' y).mp hy'
  exact hne (Fin.ext (by omega))
theorem blkS_cover (s : Fin 2) : Finset.univ.biUnion (blkS s) = slotS s := by
  ext y
  have h1 : (y 1).val < 512 := (y 1).isLt
  rw [mem_slot]; simp only [Finset.mem_biUnion, Finset.mem_univ, true_and]
  constructor
  · rintro ⟨k, hk⟩; exact ((mem_blk s k y).mp hk).1
  · intro h; exact ⟨⟨(y 1).val / 8, by omega⟩, (mem_blkS s ⟨(y 1).val / 8, by omega⟩ y).mpr ⟨h, by show 8 * ((y 1).val / 8) ≤ _; omega, by show _ < 8 * ((y 1).val / 8) + 8; omega⟩⟩

/-- A slot held at one contents. -/
abbrev slotAt (s : Fin 2) (g : S2x512x1024.Idx → F .f32) : sProp 𝕄 :=
  (Memref.whole cc0_scratch0 : Memref sig .tc .vmem S2x512x1024 .f32).view.loc (c : Thread nD τ) ↦[slotS s]{fullShare} g

theorem slot_blocks (s : Fin 2) (g : S2x512x1024.Idx → F .f32) :
    (slotAt c s g : sProp 𝕄) = bigSep Finset.univ fun k => ((blkM s k).view.loc (c : Thread nD τ) ↦[(blkM s k).view.set]{fullShare} g : sProp 𝕄) := by
  unfold slotAt; rw [← blkS_cover, pointsTo_biUnion _ _ (blkS_disjoint s)]; rfl

theorem slot_own (s : Fin 2) (g : S2x512x1024.Idx → F .f32) : (slotAt c s g : sProp 𝕄) ⊢ bigSep (Ring.rangeSet 64 0 64) (blkOwn c s) := by
  rw [slot_blocks, Ring.rangeSet_univ]
  refine BI.bigSep_mono fun k _ => ?_
  show ((blkM s k).view.loc (c : Thread nD τ) ↦[(blkM s k).view.set]{fullShare} g : sProp 𝕄) ⊢ blkOwn c s k
  iintro H; iexists g; iexact H

/-- A slot at rest: the slot owned, its half of the gathered array, its semaphore at zero. -/
def idle (s : Fin 2) : sProp 𝕄 :=
  iprop((∃ g, slotAt c s g) ∗ xAt c fx (qs s) ∗ semVal ((c : Thread nD τ), SemLoc.dma (semD s)) 0)
/-- A slot whose tile is on its way: all its transfers issued, none drained. -/
def flight (s : Fin 2) (tile : ℕ) : sProp 𝕄 :=
  iprop(bat c sr fx hsr s tile 64 ∗ bigSep Finset.univ (left c sr fx hsr s tile) ∗ xAt c fx (Transfers.shareDrop (qs s) 64))

theorem toks (q : PosShare TreeShare) :
    (xAt c fx q : sProp 𝕄) = iprop(xAt c fx (Transfers.shareDrop q 64) ∗ bigSep (Ring.rangeSet 64 0 64) (fun k : Fin 64 => xAt c fx (Transfers.shareTokN q k.val))) := by
  rw [Ring.bigSep_rangeSet_eq_range le_rfl (fun k => xAt c fx (Transfers.shareTokN q k)) (fun k h => by congr 2; show k = 0 + k; omega)]
  exact Entails.antisymm (Transfers.pointsTo_toks_range q 64).1 (Transfers.pointsTo_toks_range q 64).2

/-- An idle slot starts a tile: what its issue loop begins from. -/
theorem start (s : Fin 2) (tile : ℕ) :
    iprop(tabAt c sr ∗ idle c fx s) ⊢ |={Set.univ}=> (iprop(issueAt c sr fx hsr s tile 0 ∗ xAt c fx (Transfers.shareDrop (qs s) 64)) : sProp 𝕄) := by
  unfold idle issueAt
  rw [Ring.bigSep_rangeSet_empty (lo := 0) (hi := 0) le_rfl]
  iintro ⟨HT, ⟨%g, HG⟩, HX, HS⟩
  imod (Transfers.batch_alloc' (countersEmb (U := Pipeline.UD sig nD τ)) (c : Thread nD τ) () NN (deliv c sr fx hsr s tile) (sm := .dma (semD s)) (E := Set.univ)) $$ HS with HB
  imodintro
  ihave HX := (Entails.of_eq (toks c fx (qs s))) $$ HX
  icases HX with ⟨HXd, HXs⟩
  isplitr [HXd]
  · isplitl [HT]; · iexact HT
    isplitl [HB]; · iexact HB
    isplitl [HG]
    · iapply (slot_own c s g) $$ HG
    isplitl [HXs]; · iexact HXs
    itrivial
  · iexact HXd

/-- The loop's end: the tile is in flight. -/
theorem started (s : Fin 2) (tile : ℕ) :
    iprop(issueAt c sr fx hsr s tile 64 ∗ xAt c fx (Transfers.shareDrop (qs s) 64)) ⊢ (iprop(tabAt c sr ∗ flight c sr fx hsr s tile) : sProp 𝕄) := by
  unfold flight issueAt
  rw [Ring.rangeSet_univ]
  iintro ⟨⟨HT, HB, -, -, HL⟩, HX⟩
  isplitl [HT]; · iexact HT
  isplitl [HB]; · iexact HB
  isplitl [HL]; · iexact HL
  iexact HX

/-- A drained tile: the slot holds the tile's rows, its half of the array is whole again. -/
theorem landed (s : Fin 2) (tile : ℕ) :
    iprop(bigSep Finset.univ (deliv c sr fx hsr s tile) ∗ bigSep Finset.univ (left c sr fx hsr s tile) ∗ xAt c fx (Transfers.shareDrop (qs s) 64))
      ⊢ (iprop(slotAt c s (gath sr fx tile) ∗ xAt c fx (qs s)) : sProp 𝕄) := by
  rw [slot_blocks, toks c fx (qs s), BI.bigSep_sep', Ring.rangeSet_univ]
  iintro ⟨⟨HD, HS⟩, HL, HX⟩
  isplitl [HD]; · iexact HD
  isplitl [HX]; · iexact HX
  iapply (show iprop(bigSep Finset.univ (fun k : Fin 64 => ((srcN sr hsr (64 * tile + k.val)).view.loc (c : Thread nD τ) ↦[(srcN sr hsr (64 * tile + k.val)).view.set]{Transfers.shareTokN (qs s) k.val} fx : sProp 𝕄))
      ∗ bigSep Finset.univ (left c sr fx hsr s tile)) ⊢ bigSep Finset.univ (fun k : Fin 64 => (xAt c fx (Transfers.shareTokN (qs s) k.val) : sProp 𝕄)) from by
    rw [← BI.bigSep_sep']
    exact BI.bigSep_mono fun k _ => (pointsTo_split_subset (Finset.subset_univ (srcS sr hsr (64 * tile + k.val)))).2)
  isplitl [HS]; · iexact HS
  iexact HL

end Data

end Cert.FfnIdeal.Ring

end
-- ==== Proof.FfnLoops.lean ====
/-
  The kernel's word arithmetic in closed form, and its three issue loops.
-/
module

public import proofs.«01_k».proof.Proof.FfnRing

@[expose] public section

set_option maxRecDepth 16384

noncomputable section

namespace Cert.FfnIdeal.Ring

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Closed forms -/

theorem trips1 : k0_t1_loop.trips = 64 := by decide
theorem trips2 : k0_t2_loop.trips = 64 := by decide
theorem trips3 : k0_t3_loop.trips = 64 := by decide

/-- The point's number. -/
abbrev pt (i : grid0.Coords) : ℕ := (i 0).val
theorem pt_lt (i : grid0.Coords) : pt i < 182 := (i 0).isLt

theorem iv_val (k : ℕ) (hk : k < 64) : (Scf.iv 0#32 1#32 k : BitVec 32).toNat = k := by
  have h : ∀ k : Fin 64, (Scf.iv 0#32 1#32 k.val : BitVec 32).toNat = k.val := by decide
  exact h ⟨k, hk⟩

theorem off3_eq (k : Fin k0_t1_loop.trips) : k0_off3 k = ![64 * 0 + k.val] := by
  have h : ∀ k : Fin k0_t1_loop.trips, k0_off3 k 0 = 64 * 0 + k.val := by decide
  funext a; fin_cases a; exact h k
theorem off4_eq (k : Fin k0_t1_loop.trips) : k0_off4 k = ![8 * k.val, 0] := by
  have h : ∀ k : Fin k0_t1_loop.trips, k0_off4 k 0 = 8 * k.val := by decide
  funext a; fin_cases a
  · exact h k
  · rfl
theorem off8_eq (k : Fin k0_t2_loop.trips) : k0_off8 k = ![8 * k.val, 0] := off4_eq k
theorem off11_eq (k : Fin k0_t3_loop.trips) : k0_off11 k = ![8 * k.val, 0] := off4_eq k

theorem off7_eq (i : grid0.Coords) (k : Fin k0_t2_loop.trips) : k0_off7 i k = ![64 * (pt i + 1) + k.val] := by
  have hk : k.val < 64 := lt_of_lt_of_eq k.isLt trips2
  have hi := pt_lt i
  have hv := iv_val k.val hk
  funext a; fin_cases a
  show (Scalar.addi (Scalar.muli (Scalar.addi (BitVec.ofNat 32 (i 0).val) 1#32) 64#32) (Scf.iv 0#32 1#32 k.val)).toNat = 64 * (pt i + 1) + k.val
  simp only [Scalar.addi, Scalar.muli, IntOp.addi, IntOp.muli, BitVec.toNat_add, BitVec.toNat_mul, BitVec.toNat_ofNat, hv]
  unfold pt at *
  omega
theorem off10_eq (i : grid0.Coords) (k : Fin k0_t3_loop.trips) : k0_off10 i k = ![64 * (pt i + 1) + k.val] := off7_eq i k

theorem at0 (n : ℕ) (h : n < 2 ^ 32) : (BitVec.ofNat 32 n).toNat = n := by
  rw [BitVec.toNat_ofNat, Nat.mod_eq_of_lt h]

theorem off1_eq (i : grid0.Coords) : k0_off1 i = ![pt i] := by
  have hi := pt_lt i
  funext a; fin_cases a; exact at0 _ (by unfold pt at hi; omega)
theorem off13_eq (i : grid0.Coords) : k0_off13 i = ![pt i] := off1_eq i
theorem off17_eq (i : grid0.Coords) : k0_off17 i = ![pt i] := off1_eq i
theorem off2_eq (i : grid0.Coords) : k0_off2 i = ![pt i - 1] := by
  have h : ∀ a : Fin 182, (Scalar.maxsi (Scalar.subi (BitVec.ofNat 32 a.val) 1#32) 0#32).toNat = a.val - 1 := by decide
  funext a; fin_cases a; exact h (i 0)
theorem off6_eq (i : grid0.Coords) : k0_off6 i = ![min (pt i + 1) 181] := by
  have h : ∀ a : Fin 182, (Scalar.minsi (Scalar.addi (BitVec.ofNat 32 a.val) 1#32) 181#32).toNat = min (a.val + 1) 181 := by decide
  funext a; fin_cases a; exact h (i 0)

/-- The slot of a point: its number's parity. -/
def par (n : ℕ) : Fin 2 := ⟨n % 2, Nat.mod_lt _ (by decide)⟩

/-- The kernel's word for the slot. -/
def k0_off14w (a : Fin 182) : BitVec 32 :=
  let v1 : BitVec 32 := Scalar.select (Scalar.cmpi .eq 2#32 0#32) 1#32 2#32
  let v2 : BitVec 32 := Scalar.remsi (BitVec.ofNat 32 a.val) v1
  Scalar.select (Scalar.andi (Scalar.xori (Scalar.cmpi .slt v2 0#32) (Scalar.cmpi .slt v1 0#32)) (Scalar.cmpi .ne v2 0#32)) (Scalar.addi v2 v1) v2

theorem off14_eq (i : grid0.Coords) : k0_off14 i = ![(par (pt i)).val] := by
  have h : ∀ a : Fin 182, k0_off14 (fun d => match d with | ⟨0, _⟩ => a) 0 = a.val % 2 := by decide
  funext a; fin_cases a; exact h (i 0)
theorem off15_eq (i : grid0.Coords) : k0_off15 i = ![(par (pt i)).val, 0, 0] := by
  have h := congrFun (off14_eq i) 0
  funext a; fin_cases a
  · exact h
  · rfl
  · rfl
theorem off16_eq (i : grid0.Coords) : k0_off16 i = ![(par (pt i)).val, 0, 0] := off15_eq i

theorem cond1_iff (i : grid0.Coords) : k0_cond1 i = 1#1 ↔ pt i = 0 := by
  have h : ∀ a : Fin 182, k0_cond1 (fun d => match d with | ⟨0, _⟩ => a) = 1#1 ↔ a.val = 0 := by decide
  exact h (i 0)
theorem ne0_iff (v : BitVec 32) : Scalar.cmpi .ne v 0#32 = 1#1 ↔ v ≠ 0#32 := by
  by_cases h : v = 0#32
  · subst h; decide
  · simp [Scalar.cmpi, IntOp.cmpi, BitVec.ofBool, bne, beq_eq_false_iff_ne.mpr h]; exact h
theorem cond5_iff (v : BitVec 32) : k0_cond5 v = 1#1 ↔ v ≠ 0#32 := by
  have h : ∀ b : BitVec 1, Scalar.cmpi .ne (Scalar.extui b : BitVec 32) 0#32 = 1#1 ↔ b = 1#1 := by decide
  exact (h _).trans (ne0_iff v)
theorem cond6_iff (v : BitVec 32) : k0_cond6 v = 1#1 ↔ v = 0#32 := by
  have h : ∀ b : BitVec 1, Scalar.cmpi .ne (Scalar.extui b : BitVec 32) 0#32 = 1#1 ↔ b = 1#1 := by decide
  refine (h _).trans ?_
  by_cases hv : v = 0#32
  · subst hv; decide
  · simp [Scalar.cmpi, IntOp.cmpi, BitVec.ofBool, hv, beq_eq_false_iff_ne.mpr hv]

theorem cond2_iff (i : grid0.Coords) (v : BitVec 32) : k0_cond2 i v = 1#1 ↔ pt i + 1 < 182 ∧ v ≠ 0#32 ∧ par (pt i) = 1 := by
  have h : ∀ (b : BitVec 1) (a : Fin 182), Scalar.cmpi .ne (Scalar.extui (Scalar.andi (Scalar.andi (Scalar.cmpi .slt (Scalar.addi (BitVec.ofNat 32 a.val) 1#32) 182#32) b) (Scalar.cmpi .ne (k0_off14w a) 0#32)) : BitVec 32) 0#32 = 1#1 ↔ a.val + 1 < 182 ∧ b = 1#1 ∧ par a.val = 1 := by decide
  exact (h (Scalar.cmpi .ne v 0#32) (i 0)).trans (by rw [ne0_iff])
theorem cond3_iff (i : grid0.Coords) (v : BitVec 32) : k0_cond3 i v = 1#1 ↔ pt i + 1 < 182 ∧ v ≠ 0#32 ∧ par (pt i) = 0 := by
  have h : ∀ (b : BitVec 1) (a : Fin 182), Scalar.cmpi .ne (Scalar.extui (Scalar.andi (Scalar.andi (Scalar.cmpi .slt (Scalar.addi (BitVec.ofNat 32 a.val) 1#32) 182#32) b) (Scalar.cmpi .ne (k0_off14w a) 1#32)) : BitVec 32) 0#32 = 1#1 ↔ a.val + 1 < 182 ∧ b = 1#1 ∧ par a.val = 0 := by decide
  exact (h (Scalar.cmpi .ne v 0#32) (i 0)).trans (by rw [ne0_iff])

/-! ## The loops -/

section Loops
variable (c : Dev nD) (sr : S11648.Idx → BitVec 32) (fx : S78336x1024.Idx → F .f32) (hsr : ∀ n, (wd sr n).toNat ≤ 78328)
variable (𝒱 : Variants) (bd : Option 𝒱.V)

/-- A counted loop of 64 trips, each issuing its block, takes a slot from idle to in flight. -/
theorem issue_loop (s : Fin 2) (tile : ℕ) (lp : Scf.Loop 32) (hok) (ht : lp.trips = 64)
    (body : Fin lp.trips → Unit → Prog (TpuEff nD τ sig (Elt F) Λ₀ .tc) Unit)
    (hbody : ∀ (k : Fin lp.trips) (acc : Unit), issueAt c sr fx hsr s tile k.val
      ⊢ wp frame (wpE defs₀ 𝒱 (c : Thread nD τ) bd) Set.univ (body k acc) (fun _ => issueAt c sr fx hsr s tile (k.val + 1))) :
    iprop(tabAt c sr ∗ idle c fx s)
      ⊢ wp frame (wpE defs₀ 𝒱 (c : Thread nD τ) bd) Set.univ (Scf.Loop.for lp hok ⟨⟩ body)
        (fun _ => iprop(tabAt c sr ∗ flight c sr fx hsr s tile)) := by
  refine (start c sr fx hsr s tile).trans ?_
  refine BIBase.Entails.trans ?_ (fupd_wp _ _ _ _ _)
  refine fupd_mono ?_
  iintro ⟨HI, HX⟩
  iapply (Scf.wp_for _ _ _ lp.lb lp.ub lp.st hok ⟨⟩ body (fun k _ => issueAt c sr fx hsr s tile k) hbody)
  isplitl [HI]; · iexact HI
  iintro %_ HI
  rw [show Scf.trips lp.lb lp.ub lp.st = 64 from ht]
  iapply (started c sr fx hsr s tile)
  isplitl [HI]; · iexact HI
  iexact HX

include hsr in
theorem srcOk (n : ℕ) (o : Fin 2 → ℕ) (ho : o = ![(wd sr n).toNat, 0]) :
    ∀ a, o a + S8x1024.size a ≤ S78336x1024.size a := by
  subst ho; exact src_inb (hsr n)

variable (hd : ∀ n, 8 ∣ (wd sr n).toNat) (i : grid0.Coords)
variable (arg5 : Memref sig .tc .vmem S1x1024x1024 .f32) (harg5 : arg5.IsWhole) (arg6 : Memref sig .tc .vmem S1x1x1024 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S1x1024x1024 .f32) (harg9 : arg9.IsWhole) (arg10 : Memref sig .tc .vmem S1x1x1024 .f32) (harg10 : arg10.IsWhole)
  (arg11 : Memref sig .tc .vmem S512x1024 .f32) (harg11 : arg11.IsWhole)

include hd in
theorem loop1 (h1 : k0_cond1 i = 1#1) :
    iprop(tabAt c sr ∗ idle c fx 0)
      ⊢ wp frame (wpE defs₀ 𝒱 (c : Thread nD τ) bd) Set.univ
        (Scf.Loop.for k0_t1_loop (k0_t1_ok i h1) ⟨⟩ (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 h1))
        (fun _ => iprop(tabAt c sr ∗ flight c sr fx hsr 0 0)) :=
  issue_loop c sr fx hsr 𝒱 bd 0 0 _ _ trips1 _ fun k _ =>
    trip_step c sr fx hsr 𝒱 bd 0 0 (k.cast trips1) (k0_off3 k) (k0_off3_inb i k h1) (k0_off4 k) (k0_off4_inb i k h1) k0_off5
      (k0_chk1 i) (k0_chk1.dec i) (fun v h => k0_off5_inb i v h h1) (off3_eq k) (off4_eq k) (fun v => rfl)
      ⟨fun _ => hd _, fun _ => srcOk sr hsr _ _ rfl⟩

include hd in
theorem loop2 (v : BitVec 32) (hw : k0_chk2 i v) (h2 : k0_cond2 i v = 1#1) :
    iprop(tabAt c sr ∗ idle c fx 0)
      ⊢ wp frame (wpE defs₀ 𝒱 (c : Thread nD τ) bd) Set.univ
        (Scf.Loop.for k0_t2_loop k0_t2_ok ⟨⟩ (k0_t2_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v hw h2))
        (fun _ => iprop(tabAt c sr ∗ flight c sr fx hsr 0 (pt i + 1))) :=
  issue_loop c sr fx hsr 𝒱 bd 0 (pt i + 1) _ _ trips2 _ fun k _ =>
    trip_step c sr fx hsr 𝒱 bd 0 (pt i + 1) (k.cast trips2) (k0_off7 i k) (k0_off7_inb i v hw k h2) (k0_off8 k) (k0_off8_inb k) k0_off9
      (k0_chk3 i v) (k0_chk3.dec i v) (fun w h => k0_off9_inb i v w h h2) (off7_eq i k) (off8_eq k) (fun v => rfl)
      ⟨fun _ => hd _, fun _ => srcOk sr hsr _ _ rfl⟩

include hd in
theorem loop3 (v : BitVec 32) (hw : k0_chk2 i v) (h3 : k0_cond3 i v = 1#1) :
    iprop(tabAt c sr ∗ idle c fx 1)
      ⊢ wp frame (wpE defs₀ 𝒱 (c : Thread nD τ) bd) Set.univ
        (Scf.Loop.for k0_t3_loop k0_t3_ok ⟨⟩ (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v hw h3))
        (fun _ => iprop(tabAt c sr ∗ flight c sr fx hsr 1 (pt i + 1))) :=
  issue_loop c sr fx hsr 𝒱 bd 1 (pt i + 1) _ _ trips3 _ fun k _ =>
    trip_step c sr fx hsr 𝒱 bd 1 (pt i + 1) (k.cast trips3) (k0_off10 i k) (k0_off10_inb i v hw k h3) (k0_off11 k) (k0_off11_inb k) k0_off12
      (k0_chk4 i v) (k0_chk4.dec i v) (fun w h => k0_off12_inb i v w h h3) (off10_eq i k) (off11_eq k) (fun v => rfl)
      ⟨fun _ => hd _, fun _ => srcOk sr hsr _ _ rfl⟩

/-- The table's indices the point's successor reads are in range whenever it reads them. -/
theorem chk2_ok (v : BitVec 32) : k0_chk2 i v := by
  refine ⟨fun k h a => ?_, fun k h a => ?_⟩
  · have h' := ((cond2_iff i v).mp h).1
    have hk : k.val < 64 := lt_of_lt_of_eq k.isLt trips2
    rw [off7_eq]; fin_cases a
    show 64 * (pt i + 1) + k.val + 1 ≤ 11648; omega
  · have h' := ((cond3_iff i v).mp h).1
    have hk : k.val < 64 := lt_of_lt_of_eq k.isLt trips3
    rw [off10_eq]; fin_cases a
    show 64 * (pt i + 1) + k.val + 1 ≤ 11648; omega

end Loops

end Cert.FfnIdeal.Ring

end
-- ==== Proof.FfnOps.lean ====
/-
  The operations of one grid point, each as a triple over the memrefs it touches.
-/
module

public import proofs.«01_k».proof.Proof.FfnLoops
public import Idealize.ShloMosaic.Lib.VecWindow

@[expose] public section

set_option maxRecDepth 16384

noncomputable section

namespace Cert.FfnIdeal.Ring

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Loads, stores and sequencing -/

section Ops
variable (c : Dev nD) (𝒱 : Variants) (bd : Option 𝒱.V)

/-- The weakest precondition on the device's core. -/
abbrev WP {α : Type} (p : Prog (TpuEff nD τ sig (Elt F) Λ₀ .tc) α) (Q : α → sProp 𝕄) : sProp 𝕄 :=
  wp frame (wpE defs₀ 𝒱 (c : Thread nD τ) bd) Set.univ p Q

/-- A program in two parts: the first part's post is the second's pre. -/
theorem wp_seq {α β : Type} (p : Prog (TpuEff nD τ sig (Elt F) Λ₀ .tc) α) (k : α → Prog (TpuEff nD τ sig (Elt F) Λ₀ .tc) β)
    (R : α → sProp 𝕄) (Q : β → sProp 𝕄) :
    iprop(WP c 𝒱 bd p R ∗ (∀ a, R a -∗ WP c 𝒱 bd (k a) Q)) ⊢ WP c 𝒱 bd (p >>= k) Q := by
  unfold WP; rw [wp_bind]; exact wp_wand_r _ _ _

/-- A program that returns. -/
theorem wp_done {α : Type} (a : α) (Q : α → sProp 𝕄) : Q a ⊢ WP c 𝒱 bd (pure a) Q := by
  show Q a ⊢ wp frame (wpE defs₀ 𝒱 (c : Thread nD τ) bd) Set.univ (.ret a) Q
  iintro H
  sl_step
  iexact H

/-- A load of a memref's own sizes reads what it holds. -/
theorem load_full {s : Shape} {e : EltTy} (M : Memref sig .tc .vmem s e) (q : PosShare TreeShare) (X : s.Idx → Elt F e)
    {off : Fin s.rank → ℕ} (inb : ∀ a, off a + s.size a ≤ s.size a) (hl) :
    owns (c : Thread nD τ) M q X
      ⊢ WP c 𝒱 bd (Prog.lift (.load M (Rect.unit off s.size inb).toLoadRect hl)) (fun v => iprop(⌜v = X⌝ ∗ owns (c : Thread nD τ) M q X)) := by
  unfold owns
  iintro ⟨%f, %hf, H⟩
  iapply (wp_load 𝒱 (c : Thread nD τ) bd Set.univ (f := f) (q := q) (S := M.view.set) (View.setOn_subset_set _ _)) $$ [H]; · iexact H
  iintro H
  sl_step
  isplitr; · ipureintro; rw [View.readAt_full]; exact hf
  iexists f; isplitr; · ipureintro; exact hf
  iexact H

/-- A store of a memref's own sizes leaves the payload. -/
theorem store_full {s : Shape} {e : EltTy} (M : Memref sig .tc .vmem s e) (w : s.Idx → Elt F e)
    {off : Fin s.rank → ℕ} (inb : ∀ a, off a + s.size a ≤ s.size a) (hx) (hm) :
    iprop(∃ d, owns (c : Thread nD τ) M fullShare d)
      ⊢ WP c 𝒱 bd (Prog.lift (.store M (Rect.unit off s.size inb) w Finset.univ hx hm)) (fun _ => owns (c : Thread nD τ) M fullShare w) := by
  unfold owns
  iintro ⟨%d, %f, -, H⟩
  iapply (wp_store 𝒱 (c : Thread nD τ) bd Set.univ (f := f) (S := M.view.set) ((View.setOn_subset_set _ _).trans (View.set_slice_subset _ _))) $$ [H]; · iexact H
  iintro H
  sl_step
  iexists _; isplitr
  swap; · iexact H
  ipureintro
  exact View.read_writes_full M.view f inb w []

/-- The word of a table at one point. -/
def tw (te : S182.Idx → BitVec 32) (n : ℕ) : BitVec 32 := te (fun d => match d with | ⟨0, _⟩ => Fin.ofNat 182 n)

/-- A table word's load. -/
theorem tab_load (b : Ref sig .tc) (M : Memref sig .tc .smem S182 .i32) (te : S182.Idx → BitVec 32) (q : PosShare TreeShare) (o : Fin 1 → ℕ) (ho) (n : ℕ) (hn : n < 182) (ho' : o = ![n]) :
    owns (c : Thread nD τ) M q te
      ⊢ WP (F := F) c 𝒱 bd (smemLoad M (Rect.unit (s := S182) o S1.size ho) numel1_S1 rfl) (fun v => iprop(⌜v = tw te n⌝ ∗ owns (c : Thread nD τ) M q te)) := by
  subst ho'
  unfold owns
  iintro ⟨%f, %hf, H⟩
  unfold smemLoad
  iapply (wp_smemLoadElt 𝒱 (c : Thread nD τ) bd Set.univ (f := f) (q := q) (S := M.view.set) (View.set_slice_subset _ _)) $$ [H]; · iexact H
  iintro H
  sl_step
  isplitr
  · ipureintro; subst hf
    unfold tw
    refine congrArg (M.view.read (Elt F) f) (funext fun a => Fin.ext ?_)
    fin_cases a
    show n + 1 * 0 = n % 182
    omega
  iexists f; isplitr; · ipureintro; exact hf
  iexact H

/-- What the core owes: nothing, whatever it has waited for. -/
def owe : sProp 𝕄 := iprop(∃ W, owes (c : Thread nD τ) 0 W)

variable (sr : S11648.Idx → BitVec 32) (fx : S78336x1024.Idx → F .f32) (hsr : ∀ n, (wd sr n).toNat ≤ 78328)

/-- A tile's rows, as the kernel loads them. -/
def tileV (tile : ℕ) : S1x512x1024.Idx → F .f32 := fun z =>
  gath sr fx tile (fun d => match d with | ⟨0, _⟩ => (0 : Fin 2) | ⟨1, _⟩ => z 1 | ⟨2, _⟩ => z 2)

/-- The load of a slot holding a tile. -/
theorem slot_load (s : Fin 2) (tile : ℕ) (o : Fin 3 → ℕ) (ho) (ho' : o = ![s.val, 0, 0]) (hl) :
    slotAt c s (gath sr fx tile)
      ⊢ WP c 𝒱 bd (Prog.lift (.load (Memref.whole cc0_scratch0 : Memref sig .tc .vmem S2x512x1024 .f32) (Rect.unit (s := S2x512x1024) o S1x512x1024.size ho).toLoadRect hl))
        (fun v => iprop(⌜v = tileV sr fx tile⌝ ∗ slotAt c s (gath sr fx tile))) := by
  subst ho'
  iintro H
  iapply (wp_load 𝒱 (c : Thread nD τ) bd Set.univ (f := (gath sr fx tile : S2x512x1024.Idx → F .f32)) (q := fullShare) (S := slotS s) ?_) $$ [H]
  · intro y hy
    rw [mem_slot]
    obtain ⟨z, hz, rfl⟩ := Finset.mem_map.mp hy
    have h : z ∈ (Rect.unit (s := S2x512x1024) ![s.val, 0, 0] S1x512x1024.size ho).set := hz
    rw [Rect.mem_set_unit] at h
    have a0 : s.val ≤ (z 0).val ∧ (z 0).val < s.val + 1 := h 0
    show (z 0).val = s.val
    omega
  · iexact H
  iintro H
  sl_step
  isplitr
  · ipureintro
    funext z
    have z1 : (z 1).val < 512 := (z 1).isLt
    have z2 : (z 2).val < 1024 := (z 2).isLt
    have e1 : (Rect.unit (s := S2x512x1024) ![s.val, 0, 0] S1x512x1024.size ho).idx z 1 = z 1 := Fin.ext (by show 0 + 1 * (z 1).val = (z 1).val; omega)
    have e2 : (Rect.unit (s := S2x512x1024) ![s.val, 0, 0] S1x512x1024.size ho).idx z 2 = z 2 := Fin.ext (by show 0 + 1 * (z 2).val = (z 2).val; omega)
    show gath sr fx tile ((Rect.unit (s := S2x512x1024) ![s.val, 0, 0] S1x512x1024.size ho).idx z) = tileV sr fx tile z
    unfold tileV gath
    rw [e1, e2]
  iexact H

/-- The slot's one wait, for its 512 rows: the tile has landed, the slot's counter is at zero and its share of the array is back. -/
theorem wait_slot (s : Fin 2) (tile : ℕ) (o4 : Fin 1 → ℕ) (h4) (e4 : o4 = ![s.val]) (o5 : Fin 3 → ℕ) (h5) (e5 : o5 = ![s.val, 0, 0]) (hv hw) :
    iprop(flight c sr fx hsr s tile ∗ owe c)
      ⊢ WP c 𝒱 bd (Prog.lift (.waitDma2 ((((cc0_scratch4 : DmaSems sig S2).slice (Rect.unit (s := S2) o4 S1.size h4)).squeeze S_ squeezes_S1_S_).sem)
          ((Memref.whole main_arg3 : Memref sig .tc .hbm S78336x1024 .f32).slice (Rect.unit (s := S78336x1024) ![0, 0] S512x1024.size inb_S78336x1024_S512x1024_0_0) (fun _ => rfl))
          (((Memref.whole cc0_scratch0 : Memref sig .tc .vmem S2x512x1024 .f32).slice (Rect.unit (s := S2x512x1024) o5 S1x512x1024.size h5) (fun _ => rfl)).squeeze S512x1024 squeezes_S1x512x1024_S512x1024) hv hw))
        (fun _ => iprop(slotAt c s (gath sr fx tile) ∗ xAt c fx (qs s) ∗ semVal ((c : Thread nD τ), SemLoc.dma (semD s)) 0 ∗ owe c)) := by
  subst e4 e5
  have hs : (((cc0_scratch4 : DmaSems sig S2).slice (Rect.unit (s := S2) ![s.val] S1.size h4)).squeeze S_ squeezes_S1_S_).sem = semD s := by
    have h : ∀ s : Fin 2, ∀ h4, (((cc0_scratch4 : DmaSems sig S2).slice (Rect.unit (s := S2) ![s.val] S1.size h4)).squeeze S_ squeezes_S1_S_).sem = semD s := by decide +kernel
    exact h s h4
  rw [hs]
  unfold owe flight
  iintro ⟨⟨HB, HL, HX⟩, ⟨%W, HW⟩⟩
  iapply (Transfers.wp_waitBatchAll (countersEmb (U := Pipeline.UD sig nD τ)) 𝒱 (c : Thread nD τ) bd () (N := NN) (J := NN * 64) (credit_slot s) NN_pos (D := deliv c sr fx hsr s tile) (u := 0) (Nat.zero_add _)) $$ [HB HW]
  · isplitl [HB]; · iexact HB
    iexact HW
  iintro ⟨HD, HS, HW⟩
  sl_step
  ihave HA := (landed c sr fx hsr s tile) $$ [HD HL HX]
  · isplitl [HD]; · iexact HD
    isplitl [HL]; · iexact HL
    iexact HX
  icases HA with ⟨HA, HX⟩
  isplitl [HA]; · iexact HA
  isplitl [HX]; · iexact HX
  isplitl [HS]; · iexact HS
  iexists _; iexact HW

end Ops

end Cert.FfnIdeal.Ring

end
-- ==== Proof.FfnPoint.lean ====
/-
  One grid point of the kernel: its parts as triples, and the point's own.
-/
module

public import proofs.«01_k».proof.Proof.FfnOps
public import Idealize.ShloMosaic.Lib.VecWindow

@[expose] public section

set_option maxRecDepth 16384

noncomputable section

namespace Cert.FfnIdeal.Ring

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Point
variable (c : Dev nD) (𝒱 : Variants) (bd : Option 𝒱.V)

/-! ## Branches -/

/-- A branch that runs `A` and goes on, or goes on. -/
theorem wp_when {α : Type} (b : BitVec 1) (T : b = 1#1 → Prog (TpuEff nD τ sig (Elt F) Λ₀ .tc) α) (J : Prog (TpuEff nD τ sig (Elt F) Λ₀ .tc) α)
    (P R : sProp 𝕄) (Q : α → sProp 𝕄) (ht : ∀ h, iprop(P ∗ (R -∗ WP c 𝒱 bd J Q)) ⊢ WP c 𝒱 bd (T h) Q) (hf : b ≠ 1#1 → P ⊢ R) :
    iprop(P ∗ (R -∗ WP c 𝒱 bd J Q)) ⊢ WP c 𝒱 bd (if h : b = 1#1 then T h else J) Q := by
  by_cases h : b = 1#1
  · rw [dif_pos h]; exact ht h
  · rw [dif_neg h]
    iintro ⟨HP, HJ⟩
    iapply HJ
    iapply (hf h)
    iexact HP

/-- The same, its test not named. -/
theorem wp_when' {α : Type} (b : BitVec 1) (T J : Prog (TpuEff nD τ sig (Elt F) Λ₀ .tc) α)
    (P R : sProp 𝕄) (Q : α → sProp 𝕄) (ht : b = 1#1 → iprop(P ∗ (R -∗ WP c 𝒱 bd J Q)) ⊢ WP c 𝒱 bd T Q) (hf : b ≠ 1#1 → P ⊢ R) :
    iprop(P ∗ (R -∗ WP c 𝒱 bd J Q)) ⊢ WP c 𝒱 bd (if b = 1#1 then T else J) Q := by
  by_cases h : b = 1#1
  · rw [if_pos h]; exact ht h
  · rw [if_neg h]
    iintro ⟨HP, HJ⟩
    iapply HJ
    iapply (hf h)
    iexact HP

variable (sr : S11648.Idx → BitVec 32) (fx : S78336x1024.Idx → F .f32) (hsr : ∀ n, (wd sr n).toNat ≤ 78328)

/-- A slot's state: in flight with a tile, or idle. -/
def slotSt (b : Prop) (s : Fin 2) (tile : ℕ) : sProp 𝕄 := @ite _ b (Classical.propDecidable b) (flight c sr fx hsr s tile) (idle c fx s)
theorem slotSt_pos {b : Prop} (h : b) (s : Fin 2) (tile : ℕ) : slotSt c sr fx hsr b s tile = flight c sr fx hsr s tile := by
  unfold slotSt; rw [if_pos h]
theorem slotSt_neg {b : Prop} (h : ¬b) (s : Fin 2) (tile : ℕ) : slotSt c sr fx hsr b s tile = idle c fx s := by
  unfold slotSt; rw [if_neg h]
theorem slotSt_congr {b b' : Prop} (h : b ↔ b') (s : Fin 2) (tile : ℕ) : slotSt c sr fx hsr b s tile = slotSt c sr fx hsr b' s tile := by
  rw [propext h]

/-- A table held at the body's share. -/
abbrev tAt (b : Memref sig .tc .smem S182 .i32) (te : S182.Idx → BitVec 32) : sProp 𝕄 := owns (c : Thread nD τ) b fullShare.right te

variable (hd : ∀ n, 8 ∣ (wd sr n).toNat) (i : grid0.Coords) (te tv : S182.Idx → BitVec 32)
variable (arg5 : Memref sig .tc .vmem S1x1024x1024 .f32) (harg5 : arg5.IsWhole) (arg6 : Memref sig .tc .vmem S1x1x1024 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S1x1024x1024 .f32) (harg9 : arg9.IsWhole) (arg10 : Memref sig .tc .vmem S1x1x1024 .f32) (harg10 : arg10.IsWhole)
  (arg11 : Memref sig .tc .vmem S512x1024 .f32) (harg11 : arg11.IsWhole)

/-! ## The first part: the tables read, the first tile's and the next tile's transfers issued -/

/-- Whether the point's successor has a tile to fetch. -/
def nextLive : Prop := pt i + 1 < 182 ∧ tw tv (pt i + 1) ≠ 0#32

/-- Whether the point's expert is not its predecessor's. -/
def fresh : Prop := pt i = 0 ∨ tw te (pt i) ≠ tw te (pt i - 1)

theorem or_word (a : Fin 182) (b : BitVec 1) : Scalar.cmpi .ne (Scalar.extui (Scalar.ori (Scalar.cmpi .eq (BitVec.ofNat 32 a.val) 0#32) b) : BitVec 32) 0#32 = 1#1 ↔ a.val = 0 ∨ b = 1#1 := by
  revert a b; decide
theorem ne_word (v w : BitVec 32) : Scalar.cmpi .ne v w = 1#1 ↔ v ≠ w := by
  by_cases h : v = w
  · subst h; simp [Scalar.cmpi, IntOp.cmpi, BitVec.ofBool]
  · simp [Scalar.cmpi, IntOp.cmpi, BitVec.ofBool, bne, beq_eq_false_iff_ne.mpr h]; exact h

/-- What the first part hands on: whether the expert is fresh, and the successor's table word. -/
def handed (x : Σ' (arg0 : BitVec 32) (v9 : BitVec 32) (v18 : BitVec 1) (v27 : Elt F .i32) (k0_hw2 : k0_chk2 i v27), BitVec 32) : Prop :=
  (Scalar.cmpi .ne (Scalar.extui x.2.2.1 : BitVec 32) 0#32 = 1#1 ↔ fresh i te) ∧ x.2.2.2.1 = tw tv (min (pt i + 1) 181)

include hd in
theorem part2_spec (h0 : tw tv 0 ≠ 0#32) :
    iprop(tabAt c sr ∗ tAt c (Memref.whole main_arg0) te ∗ tAt c (Memref.whole main_arg1) tv
        ∗ slotSt c sr fx hsr (pt i ≠ 0 ∧ tw tv (pt i) ≠ 0#32) (par (pt i)) (pt i) ∗ idle c fx (par (pt i + 1)))
      ⊢ WP c 𝒱 bd (k0_part2 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
        (fun x => iprop(⌜handed i te tv x⌝ ∗ tabAt c sr ∗ tAt c (Memref.whole main_arg0) te ∗ tAt c (Memref.whole main_arg1) tv
          ∗ slotSt c sr fx hsr (tw tv (pt i) ≠ 0#32) (par (pt i)) (pt i)
          ∗ slotSt c sr fx hsr (nextLive i tv ∧ par (pt i) = 1) (par (pt i + 1)) (pt i + 1))) := by
  have hi := pt_lt i
  rw [k0_part2_eq_skeleton]; unfold k0_part2_skel
  dsimp only
  iintro ⟨HT, Hte, Htv, HC, HN⟩
  iapply (wp_seq c 𝒱 bd _ _ _ _)
  isplitl [Hte]
  · iapply (tab_load c 𝒱 bd main_arg0 (Memref.whole main_arg0) te fullShare.right _ _ (pt i) hi (off1_eq i)); iexact Hte
  iintro %v12 ⟨%e12, Hte⟩
  iapply (wp_seq c 𝒱 bd _ _ _ _)
  isplitl [Hte]
  · iapply (tab_load c 𝒱 bd main_arg0 (Memref.whole main_arg0) te fullShare.right _ _ (pt i - 1) (by omega) (off2_eq i)); iexact Hte
  iintro %v16 ⟨%e16, Hte⟩
  iapply (wp_when c 𝒱 bd (k0_cond1 i) _ _
    iprop(tabAt c sr ∗ slotSt c sr fx hsr (pt i ≠ 0 ∧ tw tv (pt i) ≠ 0#32) (par (pt i)) (pt i))
    iprop(tabAt c sr ∗ slotSt c sr fx hsr (tw tv (pt i) ≠ 0#32) (par (pt i)) (pt i)) _ ?_ ?_)
  · intro h1
    have hp := (cond1_iff i).mp h1
    rw [slotSt_neg c sr fx hsr (fun h => h.1 hp), slotSt_pos c sr fx hsr (by rw [hp]; exact h0), hp]
    iintro ⟨⟨HT, HC⟩, HJ⟩
    iapply (wp_seq c 𝒱 bd _ _ _ _)
    isplitl [HT HC]
    · iapply (loop1 c sr fx hsr 𝒱 bd hd i arg5 harg5 arg6 harg6 arg7 harg7 arg8 harg8 arg9 harg9 arg10 harg10 arg11 harg11 h1)
      isplitl [HT]; · iexact HT
      iexact HC
    iintro %_ ⟨HT, HC⟩
    iapply HJ
    isplitl [HT]; · iexact HT
    iexact HC
  · intro h1
    have hp : pt i ≠ 0 := fun h => h1 ((cond1_iff i).mpr h)
    rw [slotSt_congr c sr fx hsr (b' := tw tv (pt i) ≠ 0#32) ⟨fun h => h.2, fun h => ⟨hp, h⟩⟩]
  isplitl [HT HC]
  · isplitl [HT]; · iexact HT
    iexact HC
  iintro ⟨HT, HC⟩
  iapply (wp_seq c 𝒱 bd _ _ _ _)
  isplitl [Htv]
  · iapply (tab_load c 𝒱 bd main_arg1 (Memref.whole main_arg1) tv fullShare.right _ _ (min (pt i + 1) 181) (by omega) (off6_eq i)); iexact Htv
  iintro %v27 ⟨%e27, Htv⟩
  iapply (wp_assume 𝒱 (c : Thread nD τ) bd Set.univ (chk2_ok i v27))
  have hN : pt i + 1 < 182 → v27 = tw tv (pt i + 1) := fun h => by rw [e27, show min (pt i + 1) 181 = pt i + 1 by omega]
  iapply (wp_when c 𝒱 bd (k0_cond2 i v27) _ _
    iprop(tabAt c sr ∗ idle c fx (par (pt i + 1)))
    iprop(tabAt c sr ∗ slotSt c sr fx hsr (nextLive i tv ∧ par (pt i) = 1) (par (pt i + 1)) (pt i + 1)) _ ?_ ?_)
  · intro h2
    obtain ⟨a, b, d⟩ := (cond2_iff i v27).mp h2
    have hp : par (pt i + 1) = 0 := by
      have := congrArg Fin.val d; apply Fin.ext
      simp only [par] at this ⊢
      show (pt i + 1) % 2 = 0
      have : pt i % 2 = 1 := this
      omega
    rw [slotSt_pos c sr fx hsr (⟨⟨a, hN a ▸ b⟩, d⟩ : nextLive i tv ∧ par (pt i) = 1), hp]
    iintro ⟨⟨HT, HC⟩, HJ⟩
    iapply (wp_seq c 𝒱 bd _ _ _ _)
    isplitl [HT HC]
    · iapply (loop2 c sr fx hsr 𝒱 bd hd i arg5 harg5 arg6 harg6 arg7 harg7 arg8 harg8 arg9 harg9 arg10 harg10 arg11 harg11 v27 _ h2)
      isplitl [HT]; · iexact HT
      iexact HC
    iintro %_ ⟨HT, HC⟩
    iapply HJ
    isplitl [HT]; · iexact HT
    iexact HC
  · intro h2
    rw [slotSt_neg c sr fx hsr (fun h : nextLive i tv ∧ par (pt i) = 1 => h2 ((cond2_iff i v27).mpr ⟨h.1.1, (hN h.1.1).symm ▸ h.1.2, h.2⟩))]
  isplitl [HT HN]
  · isplitl [HT]; · iexact HT
    iexact HN
  iintro ⟨HT, HN⟩
  iapply (wp_done c 𝒱 bd _ _)
  isplitr
  · ipureintro
    subst e12 e16
    exact ⟨(or_word (i 0) _).trans (or_congr_right (ne_word _ _)), e27⟩
  isplitl [HT]; · iexact HT
  isplitl [Hte]; · iexact Hte
  isplitl [Htv]; · iexact Htv
  isplitl [HC]; · iexact HC
  iexact HN

/-! ## The tile's part -/

theorem part1_spec (v9 : BitVec 32) (y1 y2 : S1024x1024.Idx → F .bf16) (x6 x8 : S1x1x1024.Idx → F .f32) :
    iprop(flight c sr fx hsr (par (pt i)) (pt i) ∗ owe c
        ∗ owns (c : Thread nD τ) (Memref.whole cc0_scratch1) fullShare y1 ∗ owns (c : Thread nD τ) arg6 fullShare x6
        ∗ owns (c : Thread nD τ) (Memref.whole cc0_scratch2) fullShare y2 ∗ owns (c : Thread nD τ) arg8 fullShare x8)
      ⊢ WP c 𝒱 bd (k0_part1 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v9)
        (fun v => iprop(⌜v = k0_pay6 (tileV sr fx (pt i)) y1 x6 y2 x8⌝ ∗ idle c fx (par (pt i)) ∗ owe c
          ∗ owns (c : Thread nD τ) (Memref.whole cc0_scratch1) fullShare y1 ∗ owns (c : Thread nD τ) arg6 fullShare x6
          ∗ owns (c : Thread nD τ) (Memref.whole cc0_scratch2) fullShare y2 ∗ owns (c : Thread nD τ) arg8 fullShare x8)) := by
  rw [k0_part1_eq_skeleton]; unfold k0_part1_skel
  dsimp only
  iintro ⟨HF, HO, H1, H6, H2, H8⟩
  iapply (wp_seq c 𝒱 bd _ _ _ _)
  isplitl [HF HO]
  · iapply (wait_slot c 𝒱 bd sr fx hsr (par (pt i)) (pt i) _ _ (off14_eq i) _ _ (off15_eq i))
    isplitl [HF]; · iexact HF
    iexact HO
  iintro %_ ⟨HS, HX, Hv, HO⟩
  iapply (wp_seq c 𝒱 bd _ _ _ _)
  isplitl [HS]
  · iapply (slot_load c 𝒱 bd sr fx (par (pt i)) (pt i) _ _ (off16_eq i)); iexact HS
  iintro %v56 ⟨%e56, HS⟩
  iapply (wp_seq c 𝒱 bd _ _ _ _)
  isplitl [H1]
  · iapply (load_full c 𝒱 bd (Memref.whole cc0_scratch1) fullShare y1); iexact H1
  iintro %v59 ⟨%e59, H1⟩
  iapply (wp_seq c 𝒱 bd _ _ _ _)
  isplitl [H6]
  · iapply (load_full c 𝒱 bd arg6 fullShare x6); iexact H6
  iintro %v61 ⟨%e61, H6⟩
  iapply (wp_seq c 𝒱 bd _ _ _ _)
  isplitl [H2]
  · iapply (load_full c 𝒱 bd (Memref.whole cc0_scratch2) fullShare y2); iexact H2
  iintro %v67 ⟨%e67, H2⟩
  iapply (wp_seq c 𝒱 bd _ _ _ _)
  isplitl [H8]
  · iapply (load_full c 𝒱 bd arg8 fullShare x8); iexact H8
  iintro %v69 ⟨%e69, H8⟩
  iapply (wp_done c 𝒱 bd _ _)
  isplitr
  · ipureintro; subst e56 e59 e61 e67 e69; rfl
  isplitl [HS HX Hv]
  · unfold idle
    isplitl [HS]; · iexists _; iexact HS
    isplitl [HX]; · iexact HX
    iexact Hv
  isplitl [HO]; · iexact HO
  isplitl [H1]; · iexact H1
  isplitl [H6]; · iexact H6
  isplitl [H2]; · iexact H2
  iexact H8

/-- The point's result block: the gathered tile through its expert, or zeros where the table says the tile is void. -/
def outV (x5 x7 x9 : S1x1024x1024.Idx → F .f32) (x6 x8 x10 : S1x1x1024.Idx → F .f32) : S512x1024.Idx → F .f32 :=
  if tw tv (pt i) = 0#32 then k0_pay5 (F := F)
  else k0_pay4 (k0_pay6 (tileV sr fx (pt i)) (k0_pay1 x5) x6 (k0_pay2 x7) x8) (k0_pay3 x9) x10

/-- What the body holds besides the slots and the tables: the point's blocks, the result's buffer and the three weight scratches. -/
def held (x5 x7 x9 : S1x1024x1024.Idx → F .f32) (x6 x8 x10 : S1x1x1024.Idx → F .f32) : sProp 𝕄 :=
  iprop(owns (c : Thread nD τ) arg5 fullShare x5 ∗ owns (c : Thread nD τ) arg6 fullShare x6 ∗ owns (c : Thread nD τ) arg7 fullShare x7
    ∗ owns (c : Thread nD τ) arg8 fullShare x8 ∗ owns (c : Thread nD τ) arg9 fullShare x9 ∗ owns (c : Thread nD τ) arg10 fullShare x10)

/-- The weight scratches at given contents. -/
def wts (y1 y2 y3 : S1024x1024.Idx → F .bf16) : sProp 𝕄 :=
  iprop(owns (c : Thread nD τ) (Memref.whole cc0_scratch1) fullShare y1 ∗ owns (c : Thread nD τ) (Memref.whole cc0_scratch2) fullShare y2
    ∗ owns (c : Thread nD τ) (Memref.whole cc0_scratch3) fullShare y3)

theorem load_then {β : Type} {s : Shape} {e : EltTy} (M : Memref sig .tc .vmem s e) (q : PosShare TreeShare) (X : s.Idx → Elt F e)
    {off : Fin s.rank → ℕ} (inb : ∀ a, off a + s.size a ≤ s.size a) (hl) (k : (s.Idx → Elt F e) → Prog (TpuEff nD τ sig (Elt F) Λ₀ .tc) β) (Q : β → sProp 𝕄) :
    iprop(owns (c : Thread nD τ) M q X ∗ (owns (c : Thread nD τ) M q X -∗ WP c 𝒱 bd (k X) Q))
      ⊢ WP c 𝒱 bd (Prog.lift (.load M (Rect.unit off s.size inb).toLoadRect hl) >>= k) Q := by
  iintro ⟨H, HK⟩
  iapply (wp_seq c 𝒱 bd _ _ _ _)
  isplitl [H]
  · iapply (load_full c 𝒱 bd M q X); iexact H
  iintro %v ⟨%ev, H⟩
  subst ev
  iapply HK
  iexact H

theorem store_then {β : Type} {s : Shape} {e : EltTy} (M : Memref sig .tc .vmem s e) (d w : s.Idx → Elt F e)
    {off : Fin s.rank → ℕ} (inb : ∀ a, off a + s.size a ≤ s.size a) (hx) (hm) (k : PUnit → Prog (TpuEff nD τ sig (Elt F) Λ₀ .tc) β) (Q : β → sProp 𝕄) :
    iprop(owns (c : Thread nD τ) M fullShare d ∗ (owns (c : Thread nD τ) M fullShare w -∗ WP c 𝒱 bd (k ⟨⟩) Q))
      ⊢ WP c 𝒱 bd (Prog.lift (.store M (Rect.unit off s.size inb) w Finset.univ hx hm) >>= k) Q := by
  iintro ⟨H, HK⟩
  iapply (wp_seq c 𝒱 bd _ _ _ _)
  isplitl [H]
  · iapply (store_full c 𝒱 bd M w); iexists _; iexact H
  iintro %v H
  iapply HK
  iexact H

/-! ## The point -/

theorem skel_spec (hd : ∀ n, 8 ∣ (wd sr n).toNat) (h0 : tw tv 0 ≠ 0#32) (x5 x7 x9 : S1x1024x1024.Idx → F .f32) (x6 x8 x10 : S1x1x1024.Idx → F .f32) :
    iprop(tabAt c sr ∗ tAt c (Memref.whole main_arg0) te ∗ tAt c (Memref.whole main_arg1) tv
        ∗ slotSt c sr fx hsr (pt i ≠ 0 ∧ tw tv (pt i) ≠ 0#32) (par (pt i)) (pt i) ∗ idle c fx (par (pt i + 1)) ∗ owe c
        ∗ held c arg5 arg6 arg7 arg8 arg9 arg10 x5 x7 x9 x6 x8 x10 ∗ (∃ d, owns (c : Thread nD τ) arg11 fullShare d)
        ∗ (∃ y1 y2 y3, ⌜¬fresh i te → y1 = k0_pay1 x5 ∧ y2 = k0_pay2 x7 ∧ y3 = k0_pay3 x9⌝ ∗ wts c y1 y2 y3))
      ⊢ WP c 𝒱 bd (cc0_moe_ffn (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
        (fun _ => iprop(tabAt c sr ∗ tAt c (Memref.whole main_arg0) te ∗ tAt c (Memref.whole main_arg1) tv
          ∗ idle c fx (par (pt i)) ∗ slotSt c sr fx hsr (nextLive i tv) (par (pt i + 1)) (pt i + 1) ∗ owe c
          ∗ held c arg5 arg6 arg7 arg8 arg9 arg10 x5 x7 x9 x6 x8 x10 ∗ owns (c : Thread nD τ) arg11 fullShare (outV sr fx i tv x5 x7 x9 x6 x8 x10)
          ∗ wts c (k0_pay1 x5) (k0_pay2 x7) (k0_pay3 x9))) := by
  have hi := pt_lt i
  rw [cc0_moe_ffn_eq_skeleton]; unfold cc0_moe_ffn_skel
  dsimp only
  iintro ⟨HT, Hte, Htv, HC, HN, HO, HH, ⟨%d, H11⟩, ⟨%y1, %y2, %y3, %hy, HY⟩⟩
  iapply (wp_seq c 𝒱 bd _ _ _ _)
  isplitl [HT Hte Htv HC HN]
  · iapply (part2_spec c 𝒱 bd sr fx hsr hd i te tv arg5 harg5 arg6 harg6 arg7 harg7 arg8 harg8 arg9 harg9 arg10 harg10 arg11 harg11 h0)
    isplitl [HT]; · iexact HT
    isplitl [Hte]; · iexact Hte
    isplitl [Htv]; · iexact Htv
    isplitl [HC]; · iexact HC
    iexact HN
  iintro %x ⟨%hx, HT, Hte, Htv, HC, HN⟩
  obtain ⟨a0, v9, v18, v27, hw2, v36⟩ := x
  obtain ⟨h18, h27⟩ := hx
  dsimp only at h18 h27 ⊢
  have hv27 : pt i + 1 < 182 → v27 = tw tv (pt i + 1) := fun h => by rw [h27, show min (pt i + 1) 181 = pt i + 1 by omega]
  iapply (wp_when c 𝒱 bd (k0_cond3 i v27) _ _
    iprop(tabAt c sr ∗ slotSt c sr fx hsr (nextLive i tv ∧ par (pt i) = 1) (par (pt i + 1)) (pt i + 1))
    iprop(tabAt c sr ∗ slotSt c sr fx hsr (nextLive i tv) (par (pt i + 1)) (pt i + 1)) _ ?_ ?_)
  · intro h3
    obtain ⟨a, b, e⟩ := (cond3_iff i v27).mp h3
    have e' : pt i % 2 = 0 := congrArg Fin.val e
    have hp : par (pt i + 1) = 1 := Fin.ext (by show (pt i + 1) % 2 = 1; omega)
    have e1 : slotSt c sr fx hsr (nextLive i tv ∧ par (pt i) = 1) (par (pt i + 1)) (pt i + 1) = idle c fx 1 := by
      rw [slotSt_neg c sr fx hsr (fun h : nextLive i tv ∧ par (pt i) = 1 => absurd (e.symm.trans h.2) (by decide)), hp]
    have e2 : flight c sr fx hsr 1 (pt i + 1) = slotSt c sr fx hsr (nextLive i tv) (par (pt i + 1)) (pt i + 1) := by
      rw [slotSt_pos c sr fx hsr (b := nextLive i tv) ⟨a, hv27 a ▸ b⟩, hp]
    iintro ⟨⟨HT, HC⟩, HJ⟩
    iapply (wp_seq c 𝒱 bd _ _ _ _)
    isplitl [HT HC]
    · iapply (loop3 c sr fx hsr 𝒱 bd hd i arg5 harg5 arg6 harg6 arg7 harg7 arg8 harg8 arg9 harg9 arg10 harg10 arg11 harg11 v27 hw2 h3)
      isplitl [HT]; · iexact HT
      iapply (Entails.of_eq e1); iexact HC
    iintro %_ ⟨HT, HC⟩
    iapply HJ
    isplitl [HT]; · iexact HT
    iapply (Entails.of_eq e2); iexact HC
  · intro h3
    have hc : nextLive i tv ∧ par (pt i) = 1 ↔ nextLive i tv := by
      refine ⟨fun h => h.1, fun h => ⟨h, ?_⟩⟩
      have hne : par (pt i) ≠ 0 := fun e => h3 ((cond3_iff i v27).mpr ⟨h.1, (hv27 h.1).symm ▸ h.2, e⟩)
      have : ∀ s : Fin 2, s ≠ 0 → s = 1 := by decide
      exact this _ hne
    rw [slotSt_congr c sr fx hsr hc]
  isplitl [HT HN]
  · isplitl [HT]; · iexact HT
    iexact HN
  iintro ⟨HT, HN⟩
  -- the weights
  iapply (wp_when' c 𝒱 bd (Scalar.cmpi .ne (Scalar.extui v18 : BitVec 32) 0#32) _ _
    iprop(held c arg5 arg6 arg7 arg8 arg9 arg10 x5 x7 x9 x6 x8 x10 ∗ wts c y1 y2 y3)
    iprop(held c arg5 arg6 arg7 arg8 arg9 arg10 x5 x7 x9 x6 x8 x10 ∗ wts c (k0_pay1 x5) (k0_pay2 x7) (k0_pay3 x9)) _ ?_ ?_)
  · intro _
    unfold held wts
    iintro ⟨⟨⟨H5, H6, H7, H8, H9, H10⟩, H1, H2, H3⟩, HJ⟩
    iapply (load_then c 𝒱 bd arg5 fullShare x5)
    isplitl [H5]; · iexact H5
    iintro H5
    iapply (load_then c 𝒱 bd (Memref.whole cc0_scratch1) fullShare y1)
    isplitl [H1]; · iexact H1
    iintro H1
    iapply (store_then c 𝒱 bd (Memref.whole cc0_scratch1) y1 (k0_pay1 x5))
    isplitl [H1]; · iexact H1
    iintro H1
    iapply (load_then c 𝒱 bd arg7 fullShare x7)
    isplitl [H7]; · iexact H7
    iintro H7
    iapply (load_then c 𝒱 bd (Memref.whole cc0_scratch2) fullShare y2)
    isplitl [H2]; · iexact H2
    iintro H2
    iapply (store_then c 𝒱 bd (Memref.whole cc0_scratch2) y2 (k0_pay2 x7))
    isplitl [H2]; · iexact H2
    iintro H2
    iapply (load_then c 𝒱 bd arg9 fullShare x9)
    isplitl [H9]; · iexact H9
    iintro H9
    iapply (load_then c 𝒱 bd (Memref.whole cc0_scratch3) fullShare y3)
    isplitl [H3]; · iexact H3
    iintro H3
    iapply (store_then c 𝒱 bd (Memref.whole cc0_scratch3) y3 (k0_pay3 x9))
    isplitl [H3]; · iexact H3
    iintro H3
    iapply HJ
    isplitl [H5 H6 H7 H8 H9 H10]
    · isplitl [H5]; · iexact H5
      isplitl [H6]; · iexact H6
      isplitl [H7]; · iexact H7
      isplitl [H8]; · iexact H8
      isplitl [H9]; · iexact H9
      iexact H10
    isplitl [H1]; · iexact H1
    isplitl [H2]; · iexact H2
    iexact H3
  · intro h
    obtain ⟨rfl, rfl, rfl⟩ := hy fun hf => h (h18.mpr hf)
    exact .rfl
  isplitl [HH HY]
  · isplitl [HH]; · iexact HH
    iexact HY
  iintro ⟨HH, HY⟩
  iapply (wp_seq c 𝒱 bd _ _ _ _)
  isplitl [Htv]
  · iapply (tab_load c 𝒱 bd main_arg1 (Memref.whole main_arg1) tv fullShare.right _ _ (pt i) hi (off13_eq i)); iexact Htv
  iintro %v41 ⟨%e41, Htv⟩
  subst e41
  -- the tile
  iapply (wp_when c 𝒱 bd (k0_cond5 (tw tv (pt i))) _ _
    iprop(slotSt c sr fx hsr (tw tv (pt i) ≠ 0#32) (par (pt i)) (pt i) ∗ owe c ∗ held c arg5 arg6 arg7 arg8 arg9 arg10 x5 x7 x9 x6 x8 x10
      ∗ owns (c : Thread nD τ) arg11 fullShare d ∗ wts c (k0_pay1 x5) (k0_pay2 x7) (k0_pay3 x9))
    iprop(idle c fx (par (pt i)) ∗ owe c ∗ held c arg5 arg6 arg7 arg8 arg9 arg10 x5 x7 x9 x6 x8 x10
      ∗ (∃ d, ⌜tw tv (pt i) ≠ 0#32 → d = outV sr fx i tv x5 x7 x9 x6 x8 x10⌝ ∗ owns (c : Thread nD τ) arg11 fullShare d)
      ∗ wts c (k0_pay1 x5) (k0_pay2 x7) (k0_pay3 x9)) _ ?_ ?_)
  · intro h5
    have hv := (cond5_iff _).mp h5
    unfold held wts
    iintro ⟨⟨HC, HO, ⟨H5, H6, H7, H8, H9, H10⟩, H11, H1, H2, H3⟩, HJ⟩
    iapply (wp_seq c 𝒱 bd _ _ _ _)
    isplitl [HC HO H1 H6 H2 H8]
    · iapply (part1_spec c 𝒱 bd sr fx hsr i arg5 harg5 arg6 harg6 arg7 harg7 arg8 harg8 arg9 harg9 arg10 harg10 arg11 harg11 v9 (k0_pay1 x5) (k0_pay2 x7) x6 x8)
      isplitl [HC]; · iapply (Entails.of_eq (slotSt_pos c sr fx hsr hv _ _)); iexact HC
      isplitl [HO]; · iexact HO
      isplitl [H1]; · iexact H1
      isplitl [H6]; · iexact H6
      isplitl [H2]; · iexact H2
      iexact H8
    iintro %v84 ⟨%e84, HC, HO, H1, H6, H2, H8⟩
    subst e84
    iapply (load_then c 𝒱 bd (Memref.whole cc0_scratch3) fullShare (k0_pay3 x9))
    isplitl [H3]; · iexact H3
    iintro H3
    iapply (load_then c 𝒱 bd arg10 fullShare x10)
    isplitl [H10]; · iexact H10
    iintro H10
    iapply (load_then c 𝒱 bd arg11 fullShare d)
    isplitl [H11]; · iexact H11
    iintro H11
    iapply (store_then c 𝒱 bd arg11 d (k0_pay4 (k0_pay6 (tileV sr fx (pt i)) (k0_pay1 x5) x6 (k0_pay2 x7) x8) (k0_pay3 x9) x10))
    isplitl [H11]; · iexact H11
    iintro H11
    iapply HJ
    isplitl [HC]; · iexact HC
    isplitl [HO]; · iexact HO
    isplitl [H5 H6 H7 H8 H9 H10]
    · isplitl [H5]; · iexact H5
      isplitl [H6]; · iexact H6
      isplitl [H7]; · iexact H7
      isplitl [H8]; · iexact H8
      isplitl [H9]; · iexact H9
      iexact H10
    isplitl [H11]
    · iexists _; isplitr
      swap; · iexact H11
      ipureintro; intro _; unfold outV; rw [if_neg hv]
    isplitl [H1]; · iexact H1
    isplitl [H2]; · iexact H2
    iexact H3
  · intro h5
    have hv : ¬tw tv (pt i) ≠ 0#32 := fun h => h5 ((cond5_iff _).mpr h)
    rw [slotSt_neg c sr fx hsr hv]
    iintro ⟨HC, HO, HH, H11, HY⟩
    isplitl [HC]; · iexact HC
    isplitl [HO]; · iexact HO
    isplitl [HH]; · iexact HH
    isplitl [H11]
    · iexists d; isplitr
      swap; · iexact H11
      ipureintro; intro h; exact absurd h hv
    iexact HY
  isplitl [HC HO HH H11 HY]
  · isplitl [HC]; · iexact HC
    isplitl [HO]; · iexact HO
    isplitl [HH]; · iexact HH
    isplitl [H11]; · iexact H11
    iexact HY
  iintro ⟨HC, HO, HH, ⟨%d', %hd', H11⟩, HY⟩
  iapply (wp_seq c 𝒱 bd _ _ _ _)
  isplitl [Htv]
  · iapply (tab_load c 𝒱 bd main_arg1 (Memref.whole main_arg1) tv fullShare.right _ _ (pt i) hi (off17_eq i)); iexact Htv
  iintro %v46 ⟨%e46, Htv⟩
  subst e46
  -- the void tile
  iapply (wp_when c 𝒱 bd (k0_cond6 (tw tv (pt i))) _ _
    iprop(owns (c : Thread nD τ) arg11 fullShare d')
    iprop(owns (c : Thread nD τ) arg11 fullShare (outV sr fx i tv x5 x7 x9 x6 x8 x10)) _ ?_ ?_)
  · intro h6
    have hv := (cond6_iff _).mp h6
    iintro ⟨H11, HJ⟩
    iapply (load_then c 𝒱 bd arg11 fullShare d')
    isplitl [H11]; · iexact H11
    iintro H11
    iapply (store_then c 𝒱 bd arg11 d' (k0_pay5 (F := F)))
    isplitl [H11]; · iexact H11
    iintro H11
    iapply HJ
    unfold outV; rw [if_pos hv]
    iexact H11
  · intro h6
    rw [hd' fun h => h6 ((cond6_iff _).mpr h)]
  isplitl [H11]; · iexact H11
  iintro H11
  iapply (wp_done c 𝒱 bd _ _)
  isplitl [HT]; · iexact HT
  isplitl [Hte]; · iexact Hte
  isplitl [Htv]; · iexact Htv
  isplitl [HC]; · iexact HC
  isplitl [HN]; · iexact HN
  isplitl [HO]; · iexact HO
  isplitl [HH]; · iexact HH
  isplitl [H11]; · iexact H11
  iexact HY

end Point

end Cert.FfnIdeal.Ring

end
-- ==== Proof.FfnFrame.lean ====
/-
  The run of the expert kernel from its launch: the tables, the blocks, the proof data, the body's obligation, the frame.
-/
module

public import proofs.«01_k».proof.Proof.FfnPoint
public import proofs.«01_k».proof.Proof.Gen.FfnIdeal.Launch
public import Idealize.ShloMosaic.Lib.Pipeline.FrameBody
public import Idealize.ShloMosaic.Lib.Claim

@[expose] public section

set_option maxRecDepth 16384

noncomputable section

namespace Cert.FfnIdeal.Ring

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The tables at launch -/

/-- A core's buffers as the launch finds them. -/
abbrev V (c : Dev nD) (b : Ref sig .tc) : Buf (Elt F) ((c : Thread nD τ).loc b) := m ((c : Thread nD τ).loc b)
/-- The three tables at launch. -/
def tbl : pre0.Contents (Elt F) := fun k => V m (0 : Dev nD) (pre0.ref k)
/-- Each tile's expert, -/
abbrev tE : S182.Idx → BitVec 32 := V m (0 : Dev nD) main_arg0
/-- whether it is used, -/
abbrev tV : S182.Idx → BitVec 32 := V m (0 : Dev nD) main_arg1
/-- and the rows it gathers, eight by eight. -/
abbrev tS : S11648.Idx → BitVec 32 := V m (0 : Dev nD) main_arg2
/-- The gathered array. -/
abbrev fX (c : Dev nD) : S78336x1024.Idx → F .f32 := V m c main_arg3

/-- Tables that the kernel may be run at: experts in range, the first tile used, rows in range and at multiples of eight. -/
structure Good : Prop where
  te : ∀ n, (tw (tE m) n).toNat < 32
  tv0 : tw (tV m) 0 ≠ 0#32
  src : ∀ n, (wd (tS m) n).toNat ≤ 78328
  al : ∀ n, 8 ∣ (wd (tS m) n).toNat

/-- The weights' index map: the tile's expert. -/
theorem ix_eq (pf : pre0.Contents (Elt F)) (i : grid0.Coords) :
    cc0_transform_1 k0_off1_inb numel1_S1 pf i = ![(tw (pf 0) (pt i)).toNat, 0, 0] := by
  have hi := pt_lt i
  have e : pf.at 0 (Rect.unit (s := S182) (k0_off1 i) S1.size (k0_off1_inb i)) numel1_S1 = tw (pf 0) (pt i) := by
    show pf 0 _ = pf 0 _
    congr 1
    funext d
    fin_cases d
    apply Fin.ext
    have := congrFun (off1_eq i) 0
    show k0_off1 i 0 + 1 * _ = pt i % 182
    rw [this]
    simp
    omega
  show ![(pf.at 0 (Rect.unit (s := S182) (k0_off1 i) S1.size (k0_off1_inb i)) numel1_S1).toNat, 0, 0] = _
  rw [e]

variable (h : Good m)
include h in
theorem blk_inb (s : Fin 3 → ℕ) (i : grid0.Coords) (k : Fin 3 → ℕ) (hs : ∀ e : Fin 32, ∀ a, (![e.val, 0, 0] a + 1) * s a ≤ k a) :
    ∀ a, (cc0_transform_1 k0_off1_inb numel1_S1 (tbl m) i a + 1) * s a ≤ k a := by
  rw [ix_eq]
  exact hs ⟨_, h.te (pt i)⟩

theorem inbW (e : Fin 32) : ∀ a, ((![e.val, 0, 0] : Fin 3 → ℕ) a + 1) * S1x1024x1024.size a ≤ S32x1024x1024.size a := by
  have := e.isLt
  intro a; fin_cases a
  · show (e.val + 1) * 1 ≤ 32; omega
  · show (0 + 1) * _ ≤ _; decide
  · show (0 + 1) * _ ≤ _; decide
theorem inbB (e : Fin 32) : ∀ a, ((![e.val, 0, 0] : Fin 3 → ℕ) a + 1) * S1x1x1024.size a ≤ S32x1x1024.size a := by
  have := e.isLt
  intro a; fin_cases a
  · show (e.val + 1) * 1 ≤ 32; omega
  · show (0 + 1) * _ ≤ _; decide
  · show (0 + 1) * _ ≤ _; decide

include h in
/-- Such tables meet the launch's side condition. -/
theorem ok_of : ok0 (tbl m) :=
  ⟨fun i => ⟨blk_inb m h _ i _ inbW, .inl rfl⟩, fun i => ⟨blk_inb m h _ i _ inbB, .inl rfl⟩, fun i => ⟨blk_inb m h _ i _ inbW, .inl rfl⟩,
    fun i => ⟨blk_inb m h _ i _ inbB, .inl rfl⟩, fun i => ⟨blk_inb m h _ i _ inbW, .inl rfl⟩, fun i => ⟨blk_inb m h _ i _ inbB, .inl rfl⟩⟩

/-- The tables as the launch takes them. -/
def adm : (p : Fin 1) → (pcfgs (F := F) p).Adm := fun _ => ⟨tbl m, ok_of m h⟩

/-- The pipeline at those tables. -/
abbrev cf : Cfg sig Λ₀ := cfg0 (adm m h 0)

/-! ## The blocks -/

/-- Window `w`'s block at point `t`. -/
def iblk (c : Dev nD) (w : Fin (cf m h).W) (t : Fin (cf m h).N) : (((cf m h).win w).xblock ((cf m h).grid.coords t)).Idx → Elt F ((cf m h).win w).elt :=
  (((cf m h).win w).blk t).view.read (Elt F) (V m c (Pipeline.arrRef spec0 w))

abbrev b0 (c : Dev nD) (t : Fin (cf m h).N) : S1x1024x1024.Idx → F .f32 := iblk m h c (0 : Fin 7) t
abbrev b1 (c : Dev nD) (t : Fin (cf m h).N) : S1x1x1024.Idx → F .f32 := iblk m h c (1 : Fin 7) t
abbrev b2 (c : Dev nD) (t : Fin (cf m h).N) : S1x1024x1024.Idx → F .f32 := iblk m h c (2 : Fin 7) t
abbrev b3 (c : Dev nD) (t : Fin (cf m h).N) : S1x1x1024.Idx → F .f32 := iblk m h c (3 : Fin 7) t
abbrev b4 (c : Dev nD) (t : Fin (cf m h).N) : S1x1024x1024.Idx → F .f32 := iblk m h c (4 : Fin 7) t
abbrev b5 (c : Dev nD) (t : Fin (cf m h).N) : S1x1x1024.Idx → F .f32 := iblk m h c (5 : Fin 7) t

/-- What the body leaves in the result's buffer at point `t`. -/
def outB (c : Dev nD) (t : Fin (cf m h).N) : S512x1024.Idx → F .f32 :=
  outV (tS m) (fX m c) (grid0.coords t) (tV m) (b0 m h c t) (b2 m h c t) (b4 m h c t) (b1 m h c t) (b3 m h c t) (b5 m h c t)

/-! ## The invariant -/

/-- What is held between the points: the tables, the two slots (the one of the tile to come in flight if that tile is used), the
    weights of the point before. -/
def inv (c : Dev nD) (n : ℕ) : sProp 𝕄 :=
  iprop((∃ r, prngReg c r) ∗ tabAt c (tS m) ∗ tAt c (Memref.whole main_arg0) (tE m) ∗ tAt c (Memref.whole main_arg1) (tV m)
    ∗ slotSt c (tS m) (fX m c) h.src (n ≠ 0 ∧ n < 182 ∧ tw (tV m) n ≠ 0#32) (par n) n ∗ idle c (fX m c) (par (n + 1))
    ∗ (∃ y1 y2 y3, ⌜∀ t : Fin (cf m h).N, t.val + 1 = n → y1 = k0_pay1 (b0 m h c t) ∧ y2 = k0_pay2 (b2 m h c t) ∧ y3 = k0_pay3 (b4 m h c t)⌝ ∗ wts c y1 y2 y3))

/-- The proof data. -/
def dats (_ : Fin 1) (c : Dev nD) : Dat τ (Elt F) Unit ℕ (Pipeline.UD sig nD τ) ℕ (cf m h) c where
  A w := V m c (Pipeline.arrRef spec0 w)
  after w t := match w with
    | ⟨0, _⟩ => iblk m h c (0 : Fin 7) t
    | ⟨1, _⟩ => iblk m h c (1 : Fin 7) t
    | ⟨2, _⟩ => iblk m h c (2 : Fin 7) t
    | ⟨3, _⟩ => iblk m h c (3 : Fin 7) t
    | ⟨4, _⟩ => iblk m h c (4 : Fin 7) t
    | ⟨5, _⟩ => iblk m h c (5 : Fin 7) t
    | ⟨6, _⟩ => outB m h c t
  Φ n := inv m h c n.val
  q _ := fullShare
  owed _ := 0

theorem A_eq (c : Dev nD) (w : Fin (cf m h).W) : (dats m h 0 c).A w = V m c (Pipeline.arrRef spec0 w) := by
  dsimp only [dats]
theorem after_0 (c : Dev nD) (t : Fin (cf m h).N) : (dats m h 0 c).after (0 : Fin 7) t = iblk m h c (0 : Fin 7) t := by dsimp only [dats]
theorem after_1 (c : Dev nD) (t : Fin (cf m h).N) : (dats m h 0 c).after (1 : Fin 7) t = iblk m h c (1 : Fin 7) t := by dsimp only [dats]
theorem after_2 (c : Dev nD) (t : Fin (cf m h).N) : (dats m h 0 c).after (2 : Fin 7) t = iblk m h c (2 : Fin 7) t := by dsimp only [dats]
theorem after_3 (c : Dev nD) (t : Fin (cf m h).N) : (dats m h 0 c).after (3 : Fin 7) t = iblk m h c (3 : Fin 7) t := by dsimp only [dats]
theorem after_4 (c : Dev nD) (t : Fin (cf m h).N) : (dats m h 0 c).after (4 : Fin 7) t = iblk m h c (4 : Fin 7) t := by dsimp only [dats]
theorem after_5 (c : Dev nD) (t : Fin (cf m h).N) : (dats m h 0 c).after (5 : Fin 7) t = iblk m h c (5 : Fin 7) t := by dsimp only [dats]
theorem after_6 (c : Dev nD) (t : Fin (cf m h).N) : (dats m h 0 c).after (6 : Fin 7) t = outB m h c t := by dsimp only [dats]

/-! A weight window's buffer holds its block at every point, fetched there or not. -/
theorem before_0 (c : Dev nD) (t : Fin (cf m h).N) (d) : (dats m h 0 c).before (0 : Fin 7) t d = b0 m h c t :=
  ((dats m h 0 c).before_in_eq_fetched (0 : Fin 7) rfl (fun _ => rfl) (fun _ _ _ => rfl) (fun t => by rw [after_0]; unfold Dat.blockOf iblk; rw [A_eq]; try rfl) t d).trans
    (by unfold Dat.fetched Dat.blockOf b0 iblk; rw [A_eq]; try rfl)
theorem before_1 (c : Dev nD) (t : Fin (cf m h).N) (d) : (dats m h 0 c).before (1 : Fin 7) t d = b1 m h c t :=
  ((dats m h 0 c).before_in_eq_fetched (1 : Fin 7) rfl (fun _ => rfl) (fun _ _ _ => rfl) (fun t => by rw [after_1]; unfold Dat.blockOf iblk; rw [A_eq]; try rfl) t d).trans
    (by unfold Dat.fetched Dat.blockOf b1 iblk; rw [A_eq]; try rfl)
theorem before_2 (c : Dev nD) (t : Fin (cf m h).N) (d) : (dats m h 0 c).before (2 : Fin 7) t d = b2 m h c t :=
  ((dats m h 0 c).before_in_eq_fetched (2 : Fin 7) rfl (fun _ => rfl) (fun _ _ _ => rfl) (fun t => by rw [after_2]; unfold Dat.blockOf iblk; rw [A_eq]; try rfl) t d).trans
    (by unfold Dat.fetched Dat.blockOf b2 iblk; rw [A_eq]; try rfl)
theorem before_3 (c : Dev nD) (t : Fin (cf m h).N) (d) : (dats m h 0 c).before (3 : Fin 7) t d = b3 m h c t :=
  ((dats m h 0 c).before_in_eq_fetched (3 : Fin 7) rfl (fun _ => rfl) (fun _ _ _ => rfl) (fun t => by rw [after_3]; unfold Dat.blockOf iblk; rw [A_eq]; try rfl) t d).trans
    (by unfold Dat.fetched Dat.blockOf b3 iblk; rw [A_eq]; try rfl)
theorem before_4 (c : Dev nD) (t : Fin (cf m h).N) (d) : (dats m h 0 c).before (4 : Fin 7) t d = b4 m h c t :=
  ((dats m h 0 c).before_in_eq_fetched (4 : Fin 7) rfl (fun _ => rfl) (fun _ _ _ => rfl) (fun t => by rw [after_4]; unfold Dat.blockOf iblk; rw [A_eq]; try rfl) t d).trans
    (by unfold Dat.fetched Dat.blockOf b4 iblk; rw [A_eq]; try rfl)
theorem before_5 (c : Dev nD) (t : Fin (cf m h).N) (d) : (dats m h 0 c).before (5 : Fin 7) t d = b5 m h c t :=
  ((dats m h 0 c).before_in_eq_fetched (5 : Fin 7) rfl (fun _ => rfl) (fun _ _ _ => rfl) (fun t => by rw [after_5]; unfold Dat.blockOf iblk; rw [A_eq]; try rfl) t d).trans
    (by unfold Dat.fetched Dat.blockOf b5 iblk; rw [A_eq]; try rfl)

/-! ## A point's expert and its predecessor's -/

theorem pt_coords (t : Fin grid0.N) : pt (grid0.coords t) = t.val := by
  revert t; decide +kernel

theorem fetched_0 (c : Dev nD) (t : Fin (cf m h).N) (d) : (dats m h 0 c).fetched (0 : Fin 7) t d = b0 m h c t := by
  unfold Dat.fetched Dat.blockOf b0 iblk; rw [A_eq]; try rfl
theorem fetched_2 (c : Dev nD) (t : Fin (cf m h).N) (d) : (dats m h 0 c).fetched (2 : Fin 7) t d = b2 m h c t := by
  unfold Dat.fetched Dat.blockOf b2 iblk; rw [A_eq]; try rfl
theorem fetched_4 (c : Dev nD) (t : Fin (cf m h).N) (d) : (dats m h 0 c).fetched (4 : Fin 7) t d = b4 m h c t := by
  unfold Dat.fetched Dat.blockOf b4 iblk; rw [A_eq]; try rfl

/-- One expert, one block index. -/
theorem index_eq (t t' : Fin (cf m h).N) (e : tw (tE m) (pt (grid0.coords t)) = tw (tE m) (pt (grid0.coords t'))) :
    cc0_transform_1 k0_off1_inb numel1_S1 (tbl m) (grid0.coords t) = cc0_transform_1 k0_off1_inb numel1_S1 (tbl m) (grid0.coords t') := by
  rw [ix_eq, ix_eq]; exact congrArg (fun v : BitVec 32 => (![v.toNat, 0, 0] : Fin 3 → ℕ)) e

theorem same_0 (c : Dev nD) (t t' : Fin (cf m h).N) (e : tw (tE m) (pt (grid0.coords t)) = tw (tE m) (pt (grid0.coords t'))) : b0 m h c t = b0 m h c t' := by
  rw [← fetched_0 m h c t (fun _ => Classical.arbitrary _), ← fetched_0 m h c t' (fun _ => Classical.arbitrary _)]
  exact (dats m h 0 c).fetched_congr (0 : Fin 7) (index_eq m h t t' e) rfl _
theorem same_2 (c : Dev nD) (t t' : Fin (cf m h).N) (e : tw (tE m) (pt (grid0.coords t)) = tw (tE m) (pt (grid0.coords t'))) : b2 m h c t = b2 m h c t' := by
  rw [← fetched_2 m h c t (fun _ => Classical.arbitrary _), ← fetched_2 m h c t' (fun _ => Classical.arbitrary _)]
  exact (dats m h 0 c).fetched_congr (2 : Fin 7) (index_eq m h t t' e) rfl _
theorem same_4 (c : Dev nD) (t t' : Fin (cf m h).N) (e : tw (tE m) (pt (grid0.coords t)) = tw (tE m) (pt (grid0.coords t'))) : b4 m h c t = b4 m h c t' := by
  rw [← fetched_4 m h c t (fun _ => Classical.arbitrary _), ← fetched_4 m h c t' (fun _ => Classical.arbitrary _)]
  exact (dats m h 0 c).fetched_congr (4 : Fin 7) (index_eq m h t t' e) rfl _

/-- The body stores into the result's buffer at every point. -/
theorem idle_6 (t : Fin (cf m h).N) : (cf m h).idle (6 : Fin 7) ((cf m h).grid.coords t) = false := by
  have key : ∀ v : BitVec 32, (!(k0_cond5 v == 1#1) && !(k0_cond6 v == 1#1)) = false := by
    intro v
    by_cases hv : v = 0#32
    · have := (cond6_iff v).mpr hv
      rw [this]; simp
    · have := (cond5_iff v).mpr hv
      rw [this]; simp
  exact key ((tbl m).atD 1 (k0_off13 (grid0.coords t)))

/-! ## The body's obligation -/

theorem Φ_cast (c : Dev nD) (t : Fin (cf m h).N) : (dats m h 0 c).Φ t.castSucc = inv m h c t.val := by
  dsimp only [dats]; rfl
theorem Φ_succ (c : Dev nD) (t : Fin (cf m h).N) : (dats m h 0 c).Φ t.succ = inv m h c (t.val + 1) := by
  dsimp only [dats]; rfl

/-- The window's staging buffer at a point. -/
abbrev stg (w : Fin 7) (t : Fin (cf m h).N) := ((cf m h).win w).stage ((cf m h).slots t w)

/-- What the body is called with at point `t`, -/
def bodyPre (c : Dev nD) (t : Fin (cf m h).N) : sProp 𝕄 :=
  iprop(inv m h c t.val ∗ (dats m h 0 c).owesAt () t.castSucc
    ∗ (∃ d, owns (c : Thread nD τ) (stg m h 0 t) fullShare ((dats m h 0 c).before (0 : Fin 7) t d))
    ∗ (∃ d, owns (c : Thread nD τ) (stg m h 1 t) fullShare ((dats m h 0 c).before (1 : Fin 7) t d))
    ∗ (∃ d, owns (c : Thread nD τ) (stg m h 2 t) fullShare ((dats m h 0 c).before (2 : Fin 7) t d))
    ∗ (∃ d, owns (c : Thread nD τ) (stg m h 3 t) fullShare ((dats m h 0 c).before (3 : Fin 7) t d))
    ∗ (∃ d, owns (c : Thread nD τ) (stg m h 4 t) fullShare ((dats m h 0 c).before (4 : Fin 7) t d))
    ∗ (∃ d, owns (c : Thread nD τ) (stg m h 5 t) fullShare ((dats m h 0 c).before (5 : Fin 7) t d))
    ∗ (∃ d, owns (c : Thread nD τ) (stg m h 6 t) fullShare ((dats m h 0 c).before (6 : Fin 7) t d)))

/-- and what it returns. -/
def bodyPost (c : Dev nD) (t : Fin (cf m h).N) : sProp 𝕄 :=
  iprop(inv m h c (t.val + 1) ∗ (dats m h 0 c).owesAt () t.succ
    ∗ owns (c : Thread nD τ) (stg m h 0 t) fullShare (b0 m h c t)
    ∗ owns (c : Thread nD τ) (stg m h 1 t) fullShare (b1 m h c t)
    ∗ owns (c : Thread nD τ) (stg m h 2 t) fullShare (b2 m h c t)
    ∗ owns (c : Thread nD τ) (stg m h 3 t) fullShare (b3 m h c t)
    ∗ owns (c : Thread nD τ) (stg m h 4 t) fullShare (b4 m h c t)
    ∗ owns (c : Thread nD τ) (stg m h 5 t) fullShare (b5 m h c t)
    ∗ owns (c : Thread nD τ) (stg m h 6 t) fullShare (outB m h c t))

/-- The kernel's body at a point. -/
abbrev bodyAt (t : Fin (cf m h).N) : Prog (TpuEff nD τ sig (Elt F) Λ₀ .tc) PUnit :=
  cc0_moe_ffn (F := F) (grid0.coords t) (Memref.whole main_arg0) (Memref.isWhole_whole _) (Memref.whole main_arg1) (Memref.isWhole_whole _) (Memref.whole main_arg2) (Memref.isWhole_whole _) (Memref.whole main_arg3) (Memref.isWhole_whole _)
    (stg m h 0 t) (hstage0_0 _) (stg m h 1 t) (hstage0_1 _) (stg m h 2 t) (hstage0_2 _) (stg m h 3 t) (hstage0_3 _) (stg m h 4 t) (hstage0_4 _) (stg m h 5 t) (hstage0_5 _) (stg m h 6 t) (hstage0_6 _)
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem row (t : Fin (cf m h).N) : defs₀ (F := F) .tc (cf m h).body ((cf m h).bodyArgs t ((cf m h).slots t)) = bodyAt m h t := by
  unfold defs₀; rw [Defs.onTc_tc]

theorem par_two (n : ℕ) : par (n + 1 + 1) = par n := by
  apply Fin.ext; show (n + 2) % 2 = n % 2; omega

/-- The invariant before a point, as the point's triple takes it. -/
theorem inv_open (c : Dev nD) (t : Fin (cf m h).N) :
    inv m h c t.val ⊢ iprop((∃ r, prngReg c r) ∗ tabAt c (tS m) ∗ tAt c (Memref.whole main_arg0) (tE m) ∗ tAt c (Memref.whole main_arg1) (tV m)
      ∗ slotSt c (tS m) (fX m c) h.src (pt (grid0.coords t) ≠ 0 ∧ tw (tV m) (pt (grid0.coords t)) ≠ 0#32) (par (pt (grid0.coords t))) (pt (grid0.coords t))
      ∗ idle c (fX m c) (par (pt (grid0.coords t) + 1))
      ∗ (∃ y1 y2 y3, ⌜¬fresh (grid0.coords t) (tE m) → y1 = k0_pay1 (b0 m h c t) ∧ y2 = k0_pay2 (b2 m h c t) ∧ y3 = k0_pay3 (b4 m h c t)⌝ ∗ wts c y1 y2 y3)) := by
  have ht := t.isLt
  have hN : (cf m h).N = 182 := N_0
  have hp := pt_coords t
  rw [slotSt_congr c (tS m) (fX m c) h.src (b' := t.val ≠ 0 ∧ t.val < 182 ∧ tw (tV m) t.val ≠ 0#32)
    ⟨fun x => ⟨by omega, by omega, by rw [← hp]; exact x.2⟩, fun x => ⟨by omega, by rw [hp]; exact x.2.2⟩⟩, hp]
  unfold inv
  iintro ⟨Hg, HT, Hte, Htv, HC, HN, ⟨%y1, %y2, %y3, %hy, HY⟩⟩
  isplitl [Hg]; · iexact Hg
  isplitl [HT]; · iexact HT
  isplitl [Hte]; · iexact Hte
  isplitl [Htv]; · iexact Htv
  isplitl [HC]; · iexact HC
  isplitl [HN]; · iexact HN
  iexists y1, y2, y3
  isplitr
  · ipureintro
    intro hf
    unfold fresh at hf
    have h1 : pt (grid0.coords t) ≠ 0 := fun e => hf (.inl e)
    have h2 : tw (tE m) (pt (grid0.coords t)) = tw (tE m) (pt (grid0.coords t) - 1) := by
      by_contra e; exact hf (.inr e)
    let t' : Fin (cf m h).N := ⟨t.val - 1, by omega⟩
    have ht' : pt (grid0.coords t') = t.val - 1 := pt_coords t'
    have e : tw (tE m) (pt (grid0.coords t')) = tw (tE m) (pt (grid0.coords t)) := by
      rw [ht', h2, hp]
    have hh := hy t' (by show t.val - 1 + 1 = t.val; omega)
    rw [same_0 m h c t' t e, same_2 m h c t' t e, same_4 m h c t' t e] at hh
    exact hh
  iexact HY

/-- The invariant after it, from what the point's triple leaves. -/
theorem inv_close (c : Dev nD) (t : Fin (cf m h).N) :
    iprop((∃ r, prngReg c r) ∗ tabAt c (tS m) ∗ tAt c (Memref.whole main_arg0) (tE m) ∗ tAt c (Memref.whole main_arg1) (tV m)
      ∗ idle c (fX m c) (par (pt (grid0.coords t)))
      ∗ slotSt c (tS m) (fX m c) h.src (nextLive (grid0.coords t) (tV m)) (par (pt (grid0.coords t) + 1)) (pt (grid0.coords t) + 1)
      ∗ wts c (k0_pay1 (b0 m h c t)) (k0_pay2 (b2 m h c t)) (k0_pay3 (b4 m h c t))) ⊢ inv m h c (t.val + 1) := by
  have hp := pt_coords t
  unfold inv
  rw [slotSt_congr c (tS m) (fX m c) h.src (b' := t.val + 1 ≠ 0 ∧ t.val + 1 < 182 ∧ tw (tV m) (t.val + 1) ≠ 0#32)
    (by unfold nextLive; rw [hp]; exact ⟨fun x => ⟨by omega, x⟩, fun x => x.2⟩), hp, par_two]
  iintro ⟨Hg, HT, Hte, Htv, HN, HC, HY⟩
  isplitl [Hg]; · iexact Hg
  isplitl [HT]; · iexact HT
  isplitl [Hte]; · iexact Hte
  isplitl [Htv]; · iexact Htv
  isplitl [HC]; · iexact HC
  isplitl [HN]; · iexact HN
  iexists _, _, _
  isplitr
  swap; · iexact HY
  ipureintro
  intro t' ht'
  have : t' = t := Fin.ext (by omega)
  rw [this]; exact ⟨rfl, rfl, rfl⟩

/-- The body at any point. -/
theorem sound_body (c : Dev nD) (t : Fin (cf m h).N) :
    bodyPre m h c t ⊢ WP c Variants.none none (bodyAt m h t) (fun _ => bodyPost m h c t) := by
  unfold bodyPre bodyPost
  simp only [before_0, before_1, before_2, before_3, before_4, before_5]
  iintro ⟨HI, ⟨%W, %hW, HW⟩, ⟨%d0, H0⟩, ⟨%d1, H1⟩, ⟨%d2, H2⟩, ⟨%d3, H3⟩, ⟨%d4, H4⟩, ⟨%d5, H5⟩, ⟨%d6, H6⟩⟩
  ihave HI := (inv_open m h c t) $$ HI
  icases HI with ⟨Hg, HT, Hte, Htv, HC, HN, HY⟩
  iapply (wp_wand_r _ _ _)
  isplitl [HT Hte Htv HC HN HY HW H0 H1 H2 H3 H4 H5 H6]
  · iapply (skel_spec c Variants.none none (tS m) (fX m c) h.src (grid0.coords t) (tE m) (tV m) _ (hstage0_0 _) _ (hstage0_1 _) _ (hstage0_2 _) _ (hstage0_3 _) _ (hstage0_4 _) _ (hstage0_5 _) _ (hstage0_6 _)
      h.al h.tv0 (b0 m h c t) (b2 m h c t) (b4 m h c t) (b1 m h c t) (b3 m h c t) (b5 m h c t))
    isplitl [HT]; · iexact HT
    isplitl [Hte]; · iexact Hte
    isplitl [Htv]; · iexact Htv
    isplitl [HC]; · iexact HC
    isplitl [HN]; · iexact HN
    isplitl [HW]; · unfold owe; iexists W; iexact HW
    isplitl [H0 H1 H2 H3 H4 H5]
    · unfold held
      isplitl [H0]; · iexact H0
      isplitl [H1]; · iexact H1
      isplitl [H2]; · iexact H2
      isplitl [H3]; · iexact H3
      isplitl [H4]; · iexact H4
      iexact H5
    isplitl [H6]; · iexists _; iexact H6
    iexact HY
  iintro %_ ⟨HT, Hte, Htv, HN, HC, HO, HH, H6, HY⟩
  isplitl [Hg HT Hte Htv HN HC HY]
  · iapply (inv_close m h c t)
    isplitl [Hg]; · iexact Hg
    isplitl [HT]; · iexact HT
    isplitl [Hte]; · iexact Hte
    isplitl [Htv]; · iexact Htv
    isplitl [HN]; · iexact HN
    isplitl [HC]; · iexact HC
    iexact HY
  unfold owe held
  icases HO with ⟨%W', HO⟩
  icases HH with ⟨H0, H1, H2, H3, H4, H5⟩
  isplitl [HO]
  · iexists W'
    isplitr
    · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold outB; iexact H6

/-- A window not idle is left at the body's contents. -/
theorem leaves_of (c : Dev nD) (w : Fin 7) (t : Fin (cf m h).N) (hi : (cf m h).idle w ((cf m h).grid.coords t) = false) :
    owns (c : Thread nD τ) (stg m h w t) fullShare ((dats m h 0 c).after w t) ⊢ (dats m h 0 c).leavesExact w t := by
  unfold Dat.leavesExact; rw [hi]

theorem body_obligation (c : Dev nD) : BodyObligation (dats (F := F) m h 0 c) (defs₀ (F := F)) Variants.none () Set.univ := fun t => by
  rw [row]
  refine triple_restated (sound_body m h c t) rfl ?_ fun _ => ?_
  · rw [bigSep_W0, Φ_cast]
    exact .rfl
  · rw [bigSep_W0, Φ_succ]
    unfold bodyPost
    iintro ⟨HI, HO, H0, H1, H2, H3, H4, H5, H6⟩
    isplitl [HI]; · iexact HI
    isplitl [HO]; · iexact HO
    isplitl [H0]; · iexact H0
    isplitl [H1]; · iexact H1
    isplitl [H2]; · iexact H2
    isplitl [H3]; · iexact H3
    isplitl [H4]; · iexact H4
    isplitl [H5]; · iexact H5
    iapply (leaves_of m h c 6 t (idle_6 m h t))
    rw [after_6]
    iexact H6

/-! ## The launch -/

/-- The kernel's own semaphores. -/
abbrev osem0 : Fin 2 → SemLoc sig := fun j => (![SemLoc.dma 14, SemLoc.dma 15] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semD 0)) 0 ∗ semVal ((c : Thread nD τ), SemLoc.dma (semD 1)) 0) := by
  rw [Pipeline.ownSems0_eq_of_list c osem0 [0, 1] (by decide) (by decide)]; try rfl
/-- The array that the kernel gathers from itself. -/
def H0 : Finset (Ref sig .tc) := {main_arg3}
theorem H0_sub : H0 ⊆ Pipeline.restRefsP sig pre0 spec0 := by decide
theorem heldH_eq (c : Dev nD) :
    (bigSep H0 (fun b => ((c : Thread nD τ).loc b) ↦{fullShare} V m c b) : sProp 𝕄) = xAt c (fX m c) fullShare := by
  unfold H0; rw [BI.bigSep_singleton]; try rfl
theorem heldT_eq (c : Dev nD) :
    (Pipeline.ΦT pre0 (tbl m) c : sProp 𝕄)
      = iprop((((c : Thread nD τ).loc main_arg0) ↦{fullShare.right} tE m) ∗ (((c : Thread nD τ).loc main_arg1) ↦{fullShare.right} tV m) ∗ tabAt c (tS m)) := by
  unfold Pipeline.ΦT Pipeline.prefHeld
  exact bigSep_univ_eq_bigSepL [(0 : Fin 3), (1 : Fin 3), (2 : Fin 3)] (by decide) (by decide) _

theorem slots_disj : Disjoint (slotS 0) (slotS 1) := by
  rw [Finset.disjoint_left]
  intro y h0 h1
  have e0 := (mem_slot 0 y).mp h0
  have e1 := (mem_slot 1 y).mp h1
  rw [e0] at e1; exact absurd e1 (by decide)
theorem slots_univ : slotS 0 ∪ slotS 1 = Finset.univ := by
  ext y
  simp only [Finset.mem_union, Finset.mem_univ, iff_true, mem_slot]
  have : (y 0).val < 2 := (y 0).isLt
  show (y 0).val = 0 ∨ (y 0).val = 1
  omega

/-- The buffer of the gathered rows is its two slots. -/
theorem slots_split (c : Dev nD) (f : Buf (Elt F) ((c : Thread nD τ).loc cc0_scratch0)) :
    (((c : Thread nD τ).loc cc0_scratch0) ↦{fullShare} f : sProp 𝕄) ⊢ iprop(slotAt c 0 f ∗ slotAt c 1 f) := by
  have e : ((((c : Thread nD τ).loc cc0_scratch0) ↦[slotS 0 ∪ slotS 1]{fullShare} f) : sProp 𝕄) ⊢ iprop(slotAt c 0 f ∗ slotAt c 1 f) := (pointsTo_union slots_disj).1
  rw [slots_univ] at e
  exact e
theorem slots_join (c : Dev nD) (f g : S2x512x1024.Idx → F .f32) :
    iprop(slotAt c 0 f ∗ slotAt c 1 g) ⊢ (iprop(∃ k : Buf (Elt F) ((c : Thread nD τ).loc cc0_scratch0), ((c : Thread nD τ).loc cc0_scratch0) ↦{fullShare} k) : sProp 𝕄) := by
  have e : iprop(slotAt c 0 f ∗ slotAt c 1 g) ⊢ ((((c : Thread nD τ).loc cc0_scratch0) ↦[slotS 0 ∪ slotS 1]{fullShare} ((slotS 1).piecewise g f)) : sProp 𝕄) := pointsTo_join slots_disj
  rw [slots_univ] at e
  iintro H
  iexists _
  iapply e
  iexact H
theorem halves (c : Dev nD) (f : S78336x1024.Idx → F .f32) :
    (xAt c f fullShare : sProp 𝕄) ⊣⊢ iprop(xAt c f (qs 0) ∗ xAt c f (qs 1)) :=
  pointsTo_share (PosShare.mem_left_op_right fullShare)

theorem hin (c : Dev nD) : iprop(Pipeline.ΦD osem0 spec0 H0 (V m) c ∗ Pipeline.ΦT pre0 (tbl m) c) ⊢ (dats m h 0 c).Φ 0 := by
  have e : (dats m h 0 c).Φ 0 = inv m h c 0 := by dsimp only [dats]; rfl
  rw [e, Pipeline.ΦD_eq, scopedRest0_eq, ownSems_eq, heldH_eq, heldT_eq]
  unfold inv
  rw [slotSt_neg c (tS m) (fX m c) h.src (fun x => x.1 rfl)]
  unfold idle wts
  simp only [tAt, owns_whole]
  iintro ⟨⟨⟨⟨%f0, H0⟩, ⟨%f1, H1⟩, ⟨%f2, H2⟩, ⟨%f3, H3⟩⟩, Hg, ⟨HA, HB⟩, HX⟩, Hte, Htv, HT⟩
  ihave H0 := (slots_split c f0) $$ H0
  icases H0 with ⟨Ha, Hb⟩
  ihave HX := (halves c (fX m c)).1 $$ HX
  icases HX with ⟨Xa, Xb⟩
  isplitl [Hg]; · iexact Hg
  isplitl [HT]; · iexact HT
  isplitl [Hte]; · iexact Hte
  isplitl [Htv]; · iexact Htv
  isplitl [Ha Xa HA]
  · isplitl [Ha]; · iexists f0; iexact Ha
    isplitl [Xa]; · iexact Xa
    iexact HA
  isplitl [Hb Xb HB]
  · isplitl [Hb]; · iexists f0; iexact Hb
    isplitl [Xb]; · iexact Xb
    iexact HB
  iexists f1, f2, f3
  isplitr
  · ipureintro; intro t ht; exact absurd ht (by omega)
  isplitl [H1]; · iexact H1
  isplitl [H2]; · iexact H2
  iexact H3

theorem hout (c : Dev nD) : (dats m h 0 c).Φ (Fin.last (cf m h).N) ⊢ Pipeline.ΦD osem0 spec0 H0 (V m) c := by
  have e : (dats m h 0 c).Φ (Fin.last (cf m h).N) = inv m h c 182 := by
    dsimp only [dats]
    exact congrArg (inv m h c) N_0
  rw [e, Pipeline.ΦD_eq, scopedRest0_eq, ownSems_eq, heldH_eq]
  unfold inv
  rw [slotSt_neg c (tS m) (fX m c) h.src (fun x => absurd x.2.1 (by decide)), show par 182 = 0 from rfl, show par (182 + 1) = 1 from rfl]
  unfold idle wts
  simp only [owns_whole]
  iintro ⟨Hg, HT, Hte, Htv, ⟨⟨%f, Ha⟩, Xa, HA⟩, ⟨⟨%g, Hb⟩, Xb, HB⟩, ⟨%y1, %y2, %y3, -, H1, H2, H3⟩⟩
  isplitl [Ha Hb H1 H2 H3]
  · isplitl [Ha Hb]
    · iapply (slots_join c f g)
      isplitl [Ha]; · iexact Ha
      iexact Hb
    isplitl [H1]; · iexists y1; iexact H1
    isplitl [H2]; · iexists y2; iexact H2
    iexists y3; iexact H3
  isplitl [Hg]; · iexact Hg
  isplitl [HA HB]
  · isplitl [HA]; · iexact HA
    iexact HB
  iapply (halves c (fX m c)).2
  isplitl [Xa]; · iexact Xa
  iexact Xb

theorem pf_eq (c : Dev nD) (k) : V m c (pre0.ref k) = tbl m k := by
  obtain rfl : c = 0 := Subsingleton.elim _ _
  rfl

set_option backward.isDefEq.respectTransparency.types false in
set_option maxHeartbeats 800000 in
/-- THE LAUNCH: every run ends, every array of the pipeline is at what the proof data compute, every other buffer as the launch found it,
    every semaphore counter at zero. -/
theorem run_main : θ_run defs (onTc (τ := τ) (main (F := F))) (s₀ m ρ)
    (fun r => (Pipeline.FramePost (Pipeline.pin (pcfgs (F := F)) (adm m h)) (dats m h) 0 (V m)) r ∧ r.2.sem = fun _ => 0) :=
  Pipeline.θ_run_frameP_dma (Q' := _) pcfgs (adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := Pipeline.hmainP_region pcfgs 0 defs₀ _ m main fun c => (main_chain c).trans rfl)
    (hA := A_eq m h) (hpf := pf_eq m) (hin := hin m h) (hout := hout m h)

end Cert.FfnIdeal.Ring

end
-- ==== Proof.FfnPre.lean ====
/-
  What the precondition on the tables says of their words.
-/
module

public import proofs.«01_k».proof.Proof.FfnFrame
public import proofs.«01_k».proof.Proof.Gen.Pre_ffn_tables
public import Idealize.ShloMosaic.Lib.StableHlo.Predicate

@[expose] public section

set_option maxRecDepth 16384

namespace Cert.FfnIdeal.Ring

open Cert.FfnIdeal Idealize.ShloMosaic

attribute [local instance] Cert.Pre_ffn_tables.Gen.facts

/-! ## Words -/

theorem and_one {a b : BitVec 1} (h : IntOp.andi a b = 1#1) : a = 1#1 ∧ b = 1#1 := by
  revert h
  show (a &&& b = 1#1) → _
  revert a b; decide

theorem sge_zero {v : BitVec 32} (h : IntOp.cmpi .sge v 0#32 = 1#1) : v.toNat < 2 ^ 31 := by
  rw [show IntOp.cmpi .sge v 0#32 = BitVec.ofBool ((0#32 : BitVec 32).sle v) from rfl, StableHlo.Predicate.ofBool_eq_one_iff, BitVec.sle,
    decide_eq_true_eq, show (0#32 : BitVec 32).toInt = 0 by decide, BitVec.toInt_eq_toNat_cond] at h
  have := v.isLt
  split_ifs at h <;> omega

theorem slt_lit {v k : BitVec 32} (hv : v.toNat < 2 ^ 31) (hk : k.toNat < 2 ^ 31) (h : IntOp.cmpi .slt v k = 1#1) : v.toNat < k.toNat := by
  rw [show IntOp.cmpi .slt v k = BitVec.ofBool (v.slt k) from rfl, StableHlo.Predicate.ofBool_eq_one_iff, BitVec.slt, decide_eq_true_eq,
    StableHlo.Predicate.toInt_eq_toNat_of_lt hv, StableHlo.Predicate.toInt_eq_toNat_of_lt hk] at h
  omega

theorem sle_lit {v k : BitVec 32} (hv : v.toNat < 2 ^ 31) (hk : k.toNat < 2 ^ 31) (h : IntOp.cmpi .sle v k = 1#1) : v.toNat ≤ k.toNat := by
  rw [show IntOp.cmpi .sle v k = BitVec.ofBool (v.sle k) from rfl, StableHlo.Predicate.sle_bool_iff_toNat hv hk] at h
  exact h

theorem ne_lit {v k : BitVec 32} (h : IntOp.cmpi .ne v k = 1#1) : v ≠ k := by
  rw [show IntOp.cmpi .ne v k = BitVec.ofBool (v != k) from rfl, StableHlo.Predicate.ofBool_eq_one_iff] at h
  simpa using h

/-- A word that is not negative has, divided by eight, the remainder of its value. -/
theorem srem8 {v : BitVec 32} (hv : v.toNat < 2 ^ 31) : (IntOp.remsi .host v 8#32).toNat = v.toNat % 8 := by
  have hc : ¬ IntOp.SDivCorner v 8#32 := by
    unfold IntOp.SDivCorner
    simp
  unfold IntOp.remsi
  rw [if_neg hc, BitVec.srem_eq]
  have hm : v.msb = false := BitVec.msb_eq_false_iff_two_mul_lt.mpr (by omega)
  have h8 : (8#32 : BitVec 32).msb = false := by decide
  rw [hm, h8]
  simp

/-- The remainder the precondition takes of a word. -/
def rem8 (v : BitVec 32) : BitVec 32 :=
  let d := Scalar.select (IntOp.cmpi .eq 8#32 0#32) 1#32 8#32
  let r := IntOp.remsi .host v d
  Scalar.select (IntOp.andi (IntOp.cmpi .ne (IntOp.cmpi .slt r 0#32) (IntOp.cmpi .slt d 0#32)) (IntOp.cmpi .ne r 0#32)) (IntOp.addi r d) r

theorem rem8_zero {v : BitVec 32} (hv : v.toNat < 2 ^ 31) (h : rem8 v = 0#32) : 8 ∣ v.toNat := by
  unfold rem8 at h
  rw [show Scalar.select (IntOp.cmpi .eq (8#32 : BitVec 32) 0#32) 1#32 8#32 = 8#32 by decide] at h
  dsimp only at h
  have e := srem8 hv
  generalize IntOp.remsi .host v 8#32 = r at h e
  have hr : r.toNat < 8 := by omega
  have h1 : IntOp.cmpi .slt r 0#32 = 0#1 := by
    rw [show IntOp.cmpi .slt r 0#32 = BitVec.ofBool (r.slt 0#32) from rfl, BitVec.slt, StableHlo.Predicate.toInt_eq_toNat_of_lt (by omega),
      show (0#32 : BitVec 32).toInt = 0 by decide, decide_eq_false (by omega)]
    rfl
  rw [h1, show IntOp.cmpi .slt (8#32 : BitVec 32) 0#32 = 0#1 by decide, show IntOp.cmpi .ne (0#1 : BitVec 1) 0#1 = 0#1 by decide,
    show ∀ b : BitVec 1, IntOp.andi 0#1 b = 0#1 by decide] at h
  rw [show Scalar.select (0#1 : BitVec 1) (IntOp.addi r 8#32) r = r from rfl] at h
  subst h
  simp at e
  omega

/-! ## The tables -/

variable {F : FTy → Type} [FloatOps F]

section
variable (x0 : S182.Idx → BitVec 32) (x1 : S182.Idx → BitVec 32) (x2 : S11648.Idx → BitVec 32) (x3 : S78336x1024.Idx → F .f32)
  (x4 : S32x1024x1024.Idx → F .f32) (x5 : S32x1x1024.Idx → F .f32) (x6 : S32x1024x1024.Idx → F .f32) (x7 : S32x1x1024.Idx → F .f32)
  (x8 : S32x1024x1024.Idx → F .f32) (x9 : S32x1x1024.Idx → F .f32)

theorem te_of (h : (Cert.Pre_ffn_tables.fn (F := F) x0 x1 x2 x3 x4 x5 x6 x7 x8 x9).1 = fun _ => 1#1) (j : S182.Idx) : (x0 j).toNat < 32 := by
  have e : IntOp.andi (IntOp.cmpi .sge (x0 j) 0#32) (IntOp.cmpi .slt (x0 j) 32#32) = 1#1 := congrFun h j
  obtain ⟨e1, e2⟩ := and_one e
  exact slt_lit (sge_zero e1) (by decide) e2

theorem tv_of (h : (Cert.Pre_ffn_tables.fn (F := F) x0 x1 x2 x3 x4 x5 x6 x7 x8 x9).2.1 = fun _ => 1#1) : tw x1 0 ≠ 0#32 := by
  have e : IntOp.cmpi .ne (tw x1 0) 0#32 = 1#1 := by
    refine Eq.trans ?_ (congrFun h (fun a => a.elim0))
    show _ = IntOp.cmpi .ne (x1 _) 0#32
    congr 1
    show x1 _ = x1 _
    congr 1
    funext a
    fin_cases a
    exact Subsingleton.elim (α := Fin 1) 0 ⟨_, _⟩ ▸ rfl
  exact ne_lit e

theorem src_of (h : (Cert.Pre_ffn_tables.fn (F := F) x0 x1 x2 x3 x4 x5 x6 x7 x8 x9).2.2 = fun _ => 1#1) (j : S11648.Idx) :
    (x2 j).toNat ≤ 78328 ∧ 8 ∣ (x2 j).toNat := by
  have e : IntOp.andi (IntOp.andi (IntOp.cmpi .sge (x2 j) 0#32) (IntOp.cmpi .sle (x2 j) 78328#32)) (IntOp.cmpi .eq (rem8 (x2 j)) 0#32) = 1#1 :=
    congrFun h j
  obtain ⟨e1, e3⟩ := and_one e
  obtain ⟨e1, e2⟩ := and_one e1
  exact ⟨sle_lit (sge_zero e1) (by decide) e2, rem8_zero (sge_zero e1) (StableHlo.Predicate.cmpi_eq_iff.1 e3)⟩
end

variable (m : (ℓ : Loc nD τ sig) → Buf (Elt F) ℓ)

/-- A launch whose tables meet the precondition is one the kernel may be run at. -/
theorem good_of (h : ∀ c : Dev nD,
    (Cert.Pre_ffn_tables.fn (F := F) (V m c main_arg0) (V m c main_arg1) (V m c main_arg2) (V m c main_arg3) (V m c main_arg4) (V m c main_arg5) (V m c main_arg6) (V m c main_arg7) (V m c main_arg8) (V m c main_arg9)).1 = (fun _ => 1#1)
    ∧ (Cert.Pre_ffn_tables.fn (F := F) (V m c main_arg0) (V m c main_arg1) (V m c main_arg2) (V m c main_arg3) (V m c main_arg4) (V m c main_arg5) (V m c main_arg6) (V m c main_arg7) (V m c main_arg8) (V m c main_arg9)).2.1 = (fun _ => 1#1)
    ∧ (Cert.Pre_ffn_tables.fn (F := F) (V m c main_arg0) (V m c main_arg1) (V m c main_arg2) (V m c main_arg3) (V m c main_arg4) (V m c main_arg5) (V m c main_arg6) (V m c main_arg7) (V m c main_arg8) (V m c main_arg9)).2.2 = (fun _ => 1#1)) :
    Good m where
  te n := te_of _ _ _ _ _ _ _ _ _ _ (h 0).1 _
  tv0 := tv_of _ _ _ _ _ _ _ _ _ _ (h 0).2.1
  src n := (src_of _ _ _ _ _ _ _ _ _ _ (h 0).2.2 _).1
  al n := (src_of _ _ _ _ _ _ _ _ _ _ (h 0).2.2 _).2

end Cert.FfnIdeal.Ring

end
-- ==== Proof.FfnRun.lean ====
/-
  The frames of the expert kernel, of its idealization and of its reference.

  The kernel and its idealization are the same program, so the run proved of the second at any floats is a run of the first at machine floats.
-/
module

public import proofs.«01_k».proof.Defs
public import proofs.«01_k».proof.Proof.FfnPre
public import proofs.«01_k».proof.Proof.Gen.Ffn
public import proofs.«01_k».proof.Proof.Gen.FfnRefIdeal.Run
public import Idealize.ShloMosaic.Adequacy
public import Idealize.ShloMosaic.Init

@[expose] public section

set_option maxRecDepth 20000

noncomputable section

namespace Cert.FfnIdeal.Ring

open Cert.FfnIdeal Cert.FfnIdeal.Gen
open Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg) (h : Good m)

/-- The result array at the end of a run: what the write-backs of the blocks make of it. -/
abbrev outA (c : Dev nD) := (dats m h 0 c).arrAt (6 : Fin 7) (cf m h).N

/-- An input window's array is, at the end of a run, as the launch found it. -/
theorem kept_in (c : Dev nD) (w : Fin (cf m h).W) (hin : ((cf m h).win w).isOut = false) (t) :
    (dats m h 0 c).arrAt w t = V m c (Pipeline.arrRef spec0 w) :=
  ((dats m h 0 c).arrAt_in w hin t).trans (A_eq m h c w)

/-- Every run ends with the result array at `outA`, the arguments unchanged and every counter at zero. -/
theorem run_out : θ_run defs (onTc (τ := τ) (main (F := F))) ⟨m, fun _ => 0, ρ⟩ (fun r => (∀ c : Dev nD,
      r.2.mem ((c.tc : Thread nD τ).loc main_v0) = outA m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r q => ⟨fun c =>
    ⟨(q.1 c).1 (6 : Fin 7),
      (q.1 c).2 main_arg0 (Pipeline.mem_restRefs_of main_arg0 (by decide) (show ∀ w : Fin 7, (spec0 w).arr.view.ref ≠ main_arg0 by decide)),
      (q.1 c).2 main_arg1 (Pipeline.mem_restRefs_of main_arg1 (by decide) (show ∀ w : Fin 7, (spec0 w).arr.view.ref ≠ main_arg1 by decide)),
      (q.1 c).2 main_arg2 (Pipeline.mem_restRefs_of main_arg2 (by decide) (show ∀ w : Fin 7, (spec0 w).arr.view.ref ≠ main_arg2 by decide)),
      (q.1 c).2 main_arg3 (Pipeline.mem_restRefs_of main_arg3 (by decide) (show ∀ w : Fin 7, (spec0 w).arr.view.ref ≠ main_arg3 by decide)),
      ((q.1 c).1 (0 : Fin 7)).trans (kept_in m h c (0 : Fin 7) rfl _),
      ((q.1 c).1 (1 : Fin 7)).trans (kept_in m h c (1 : Fin 7) rfl _),
      ((q.1 c).1 (2 : Fin 7)).trans (kept_in m h c (2 : Fin 7) rfl _),
      ((q.1 c).1 (3 : Fin 7)).trans (kept_in m h c (3 : Fin 7) rfl _),
      ((q.1 c).1 (4 : Fin 7)).trans (kept_in m h c (4 : Fin 7) rfl _),
      ((q.1 c).1 (5 : Fin 7)).trans (kept_in m h c (5 : Fin 7) rfl _)⟩, q.2⟩) (run_main m ρ h)

include h in
/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ q => ⟨fun c => (q.1 c).2, q.2⟩) (run_out m ρ h)
end

attribute [local instance] Cert.Ffn.Gen.facts Cert.FfnIdeal.Gen.facts Cert.FfnRefIdeal.Gen.facts Cert.Pre_ffn_tables.Gen.facts

/-! ## The kernel and its idealization -/

/-- The two programs' bodies are the same, -/
theorem bodies : @Cert.Ffn.defs₀ Bits _ _ = @Cert.FfnIdeal.defs₀ Bits _ _ := by
  unfold Cert.Ffn.defs₀ Cert.FfnIdeal.defs₀
  refine congrArg (Defs.onTc (nD := Cert.Ffn.nD) (τ := Cert.Ffn.τ) (sig := Cert.Ffn.sig) (Λ := Cert.Ffn.Λ₀)) ?_
  funext l x
  match l, x with
  | ⟨0, _⟩, (t, s) => with_unfolding_all rfl
  | ⟨_ + 1, h⟩, _ => exact absurd h (Nat.not_lt.2 (Nat.le_add_left _ _))
/-- so are their pipelines, -/
theorem pipes : @Cert.Ffn.pcfgs Bits _ _ = @Cert.FfnIdeal.pcfgs Bits _ _ := by with_unfolding_all rfl
/-- their labels' meanings -/
theorem labels : @Cert.Ffn.defs Bits _ _ = @Cert.FfnIdeal.defs Bits _ _ := by
  unfold Cert.Ffn.defs Cert.FfnIdeal.defs
  exact congrArg (fun d => Pipeline.defs (Cert.FfnIdeal.pcfgs (F := Bits)) d) bodies
/-- and their entries. -/
theorem mains : @Cert.Ffn.main Bits _ _ = @Cert.FfnIdeal.main Bits _ _ := by with_unfolding_all rfl

/-! ## The frames -/

/-- The kernel runs, keeps its arguments and leaves every counter at zero. -/
theorem frameK : Cert.quiescent_Ffn := by
  intro m g hp
  rw [labels, mains]
  exact frame (F := Bits) m g (good_of m hp)

/-- The same of its idealization. -/
theorem frameI : Cert.quiescent_FfnIdeal := fun m g hp => frame (F := Ideal) m g (good_of m hp)

/-- The reference runs and keeps its arguments; it declares no semaphore. -/
theorem frameR : Cert.quiescent_FfnRefIdeal := fun m g _ =>
  (θ_run Cert.FfnRefIdeal.defs _ _).mono (fun r q => ⟨fun c => (q c).2, sem_eq_zero_of_no_sems (by decide) r.2⟩)
    (Cert.FfnRefIdeal.Value.run (F := Ideal) m g)

/-- The idealization rewrote nothing. -/
theorem kept : Cert.preserves_Ffn_FfnIdeal := trivial

end Cert.FfnIdeal.Ring

end
-- ==== Proof.FfnGather.lean ====
/-
  The reference's gathers read at an index: the rows of the tokens, the weights and biases of a tile's expert.
-/
module

public import proofs.«01_k».proof.Proof.FfnPre
public import proofs.«01_k».proof.Proof.Gen.FfnRefIdeal.Read
public import Idealize.ShloMosaic.Lib.Pipeline.ValueKit

@[expose] public section

set_option maxRecDepth 16384

noncomputable section

namespace Cert.FfnIdeal.Ring

open Idealize.ShloMosaic
open Cert.FfnRefIdeal Cert.FfnRefIdeal.Read

attribute [local instance] Cert.FfnRefIdeal.Gen.facts

/-! ## The gathers -/

theorem two (a : Fin 2) : a = 0 ∨ a = 1 := by omega
theorem three (a : Fin 3) : a = 0 ∨ a = 1 ∨ a = 2 := by omega

section
variable {α : Type}

/-- A start index that is in range is read as it is. -/
theorem start_word {N : ℕ} (v : BitVec 32) (hN : N < 2 ^ 31) (hv : v.toNat ≤ N) : min v.toInt.toNat N = v.toNat := by
  rw [StableHlo.Predicate.toInt_eq_toNat_of_lt (by omega), Int.toNat_natCast, Nat.min_eq_left hv]

/-- The gather of rows: entry `(n, r, d)` is entry `d` of the row its start index names. -/
theorem rows_at (x : S78336x1024.Idx → α) (ix : IVec S182x512x1 32) (n : Fin 182) (r : Fin 512) (d : Fin 1024) (p : Fin 78336)
    (hp : (ix (ix3 n r 0)).toNat = p.val) :
    Host.gather gather_S78336x1024_S182x512x1_S182x512x1024_2_0_n_n_0_2_11024 x ix (ix3 n r d) = x (ix2 p d) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  rcases two a with rfl | rfl
  · rw [GatherDims.offCoord_eq_zero _ _ _ (show (0 : Fin 2) ∉ GatherDims.sKept gather_S78336x1024_S182x512x1_S182x512x1024_2_0_n_n_0_2_11024 by decide), Nat.add_zero]
    unfold GatherDims.start
    rw [dif_pos (show (0 : Fin 2) ∈ GatherDims.startIndexMap gather_S78336x1024_S182x512x1_S182x512x1024_2_0_n_n_0_2_11024 by decide)]
    have hs : GatherDims.siIdx gather_S78336x1024_S182x512x1_S182x512x1024_2_0_n_n_0_2_11024 (ix3 n r d) ⟨0, by decide⟩ = ix3 n r 0 := by
      funext b
      match b with
      | ⟨0, _⟩ => rfl
      | ⟨1, _⟩ => rfl
      | ⟨2, _⟩ => rfl
    have := p.isLt
    refine Eq.trans (congrArg (fun z => min (ix z).toInt.toNat _) hs) ?_
    exact (start_word (N := 78335) _ (by decide) (by omega)).trans hp
  · unfold GatherDims.start
    rw [dif_neg (show ¬(1 : Fin 2) ∈ GatherDims.startIndexMap gather_S78336x1024_S182x512x1_S182x512x1024_2_0_n_n_0_2_11024 by decide), Nat.zero_add]
    unfold GatherDims.offCoord
    rw [dif_pos (show (1 : Fin 2) ∈ GatherDims.sKept gather_S78336x1024_S182x512x1_S182x512x1024_2_0_n_n_0_2_11024 by decide)]
    rfl

/-- The gather of an expert's matrix. -/
theorem mats_at (x : S32x1024x1024.Idx → α) (ix : IVec S182x1 32) (n : Fin 182) (k d : Fin 1024) (e : Fin 32)
    (he : (ix (ix2 n 0)).toNat = e.val) :
    Host.gather gather_S32x1024x1024_S182x1_S182x1024x1024_12_0_n_n_0_1_110241024 x ix (ix3 n k d) = x (ix3 e k d) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  rcases three a with rfl | rfl | rfl
  · rw [GatherDims.offCoord_eq_zero _ _ _ (show (0 : Fin 3) ∉ GatherDims.sKept gather_S32x1024x1024_S182x1_S182x1024x1024_12_0_n_n_0_1_110241024 by decide), Nat.add_zero]
    unfold GatherDims.start
    rw [dif_pos (show (0 : Fin 3) ∈ GatherDims.startIndexMap gather_S32x1024x1024_S182x1_S182x1024x1024_12_0_n_n_0_1_110241024 by decide)]
    have hs : GatherDims.siIdx gather_S32x1024x1024_S182x1_S182x1024x1024_12_0_n_n_0_1_110241024 (ix3 n k d) ⟨0, by decide⟩ = ix2 n 0 := by
      funext b
      match b with
      | ⟨0, _⟩ => rfl
      | ⟨1, _⟩ => rfl
    have := e.isLt
    refine Eq.trans (congrArg (fun z => min (ix z).toInt.toNat _) hs) ?_
    exact (start_word (N := 31) _ (by decide) (by omega)).trans he
  · unfold GatherDims.start
    rw [dif_neg (show ¬(1 : Fin 3) ∈ GatherDims.startIndexMap gather_S32x1024x1024_S182x1_S182x1024x1024_12_0_n_n_0_1_110241024 by decide), Nat.zero_add]
    unfold GatherDims.offCoord
    rw [dif_pos (show (1 : Fin 3) ∈ GatherDims.sKept gather_S32x1024x1024_S182x1_S182x1024x1024_12_0_n_n_0_1_110241024 by decide)]
    rfl
  · unfold GatherDims.start
    rw [dif_neg (show ¬(2 : Fin 3) ∈ GatherDims.startIndexMap gather_S32x1024x1024_S182x1_S182x1024x1024_12_0_n_n_0_1_110241024 by decide), Nat.zero_add]
    unfold GatherDims.offCoord
    rw [dif_pos (show (2 : Fin 3) ∈ GatherDims.sKept gather_S32x1024x1024_S182x1_S182x1024x1024_12_0_n_n_0_1_110241024 by decide)]
    rfl

/-- The gather of an expert's bias. -/
theorem bias_at (x : S32x1x1024.Idx → α) (ix : IVec S182x1 32) (n : Fin 182) (d : Fin 1024) (e : Fin 32)
    (he : (ix (ix2 n 0)).toNat = e.val) :
    Host.gather gather_S32x1x1024_S182x1_S182x1x1024_12_0_n_n_0_1_111024 x ix (ix3 n 0 d) = x (ix3 e 0 d) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  rcases three a with rfl | rfl | rfl
  · rw [GatherDims.offCoord_eq_zero _ _ _ (show (0 : Fin 3) ∉ GatherDims.sKept gather_S32x1x1024_S182x1_S182x1x1024_12_0_n_n_0_1_111024 by decide), Nat.add_zero]
    unfold GatherDims.start
    rw [dif_pos (show (0 : Fin 3) ∈ GatherDims.startIndexMap gather_S32x1x1024_S182x1_S182x1x1024_12_0_n_n_0_1_111024 by decide)]
    have hs : GatherDims.siIdx gather_S32x1x1024_S182x1_S182x1x1024_12_0_n_n_0_1_111024 (ix3 n 0 d) ⟨0, by decide⟩ = ix2 n 0 := by
      funext b
      match b with
      | ⟨0, _⟩ => rfl
      | ⟨1, _⟩ => rfl
    have := e.isLt
    refine Eq.trans (congrArg (fun z => min (ix z).toInt.toNat _) hs) ?_
    exact (start_word (N := 31) _ (by decide) (by omega)).trans he
  · unfold GatherDims.start
    rw [dif_neg (show ¬(1 : Fin 3) ∈ GatherDims.startIndexMap gather_S32x1x1024_S182x1_S182x1x1024_12_0_n_n_0_1_111024 by decide), Nat.zero_add]
    unfold GatherDims.offCoord
    rw [dif_pos (show (1 : Fin 3) ∈ GatherDims.sKept gather_S32x1x1024_S182x1_S182x1x1024_12_0_n_n_0_1_111024 by decide)]
    rfl
  · unfold GatherDims.start
    rw [dif_neg (show ¬(2 : Fin 3) ∈ GatherDims.startIndexMap gather_S32x1x1024_S182x1_S182x1x1024_12_0_n_n_0_1_111024 by decide), Nat.zero_add]
    unfold GatherDims.offCoord
    rw [dif_pos (show (2 : Fin 3) ∈ GatherDims.sKept gather_S32x1x1024_S182x1_S182x1x1024_12_0_n_n_0_1_111024 by decide)]
    rfl
end

/-! ## The start indices -/

/-- A word that is not negative is not moved to the array's end. -/
theorem no_wrap (v k : BitVec 32) (hv : v.toNat < 2 ^ 31) :
    Scalar.select (IntOp.cmpi .slt v 0#32) (IntOp.addi v k) v = v := by
  have h1 : IntOp.cmpi .slt v 0#32 = 0#1 := by
    rw [show IntOp.cmpi .slt v 0#32 = BitVec.ofBool (v.slt 0#32) from rfl, BitVec.slt, StableHlo.Predicate.toInt_eq_toNat_of_lt hv,
      show (0#32 : BitVec 32).toInt = 0 by decide, decide_eq_false (by omega)]
    rfl
  rw [h1]
  rfl

section
variable (x0 : S182.Idx → BitVec 32) (x2 : S11648.Idx → BitVec 32)

/-- The start indices of the five gathers by expert are the tile's expert. -/
theorem te_word (n : Fin 182) (h : (x0 (ix1 n)).toNat < 32) :
    val_main_v19 (F := Ideal) x0 (ix2 n 0) = x0 (ix1 n) := by
  rw [val_main_v19_apply, val_main_v18_apply]
  have e : idx_main_v19 (ix2 n 0) = ix1 n := by funext a; match a with | ⟨0, _⟩ => rfl
  rw [e]
  exact no_wrap _ _ (by omega)
theorem te_same : val_main_v27 (F := Ideal) x0 = val_main_v19 x0 ∧ val_main_v38 (F := Ideal) x0 = val_main_v19 x0
    ∧ val_main_v46 (F := Ideal) x0 = val_main_v19 x0 ∧ val_main_v68 (F := Ideal) x0 = val_main_v19 x0
    ∧ val_main_v76 (F := Ideal) x0 = val_main_v19 x0 := ⟨rfl, rfl, rfl, rfl, rfl⟩

/-- The start index of row `r` of tile `n`: the tile's word number `r / 8`, and `r mod 8` on. -/
theorem src_word (n : Fin 182) (r : Fin 512) (h : (wd x2 (64 * n + r / 8)).toNat ≤ 78328) :
    (val_main_v12 (F := Ideal) x2 (ix3 n r 0)).toNat = (wd x2 (64 * n + r / 8)).toNat + r % 8 := by
  have hn := n.isLt
  have hr := r.isLt
  rw [val_main_v12_apply, val_main_v11_apply]
  have e6 : val_main_v6 (F := Ideal) x2 (idx_main_v12 (ix3 n r 0)) = wd x2 (64 * n + r / 8) + BitVec.ofNat 32 (r % 8) := by
    rw [val_main_v6_apply, val_main_v5_apply, val_main_v3_apply, val_main_v4_apply, val_main_v2_apply, val_main_v0_apply]
    show IntOp.addi (x2 _) (val_main_v1 (F := Ideal) _) = x2 _ + _
    have a1 : ∀ i : S8.Idx, (i 0).val = r % 8 → val_main_v1 (F := Ideal) i = BitVec.ofNat 32 (r % 8) := fun i hi => by
      rw [← hi]; rfl
    rw [a1 _ (by show ((n : ℕ) * 512 + r) % 8 = r % 8; omega)]
    refine congrArg (fun z => x2 z + BitVec.ofNat 32 (r % 8)) ?_
    funext a
    match a with
    | ⟨0, _⟩ =>
      apply Fin.ext
      show ((n : ℕ) * 512 + r) / 8 = (64 * n + r / 8) % 11648
      omega
  have et : (wd x2 (64 * n + r / 8) + BitVec.ofNat 32 (r % 8)).toNat = (wd x2 (64 * n + r / 8)).toNat + r % 8 := by
    rw [BitVec.toNat_add, BitVec.toNat_ofNat]
    omega
  have ew : Scalar.select (val_main_v8 (F := Ideal) x2 (idx_main_v12 (ix3 n r 0))) (val_main_v10 (F := Ideal) x2 (idx_main_v12 (ix3 n r 0)))
      (val_main_v6 (F := Ideal) x2 (idx_main_v12 (ix3 n r 0))) = val_main_v6 (F := Ideal) x2 (idx_main_v12 (ix3 n r 0)) :=
    no_wrap _ _ (by rw [e6, et]; omega)
  rw [ew, e6, et]
end

end Cert.FfnIdeal.Ring

end
-- ==== Proof.FfnRefAt.lean ====
/-
  The reference's expert layer read at an index: the gated hidden layer of a row under its tile's expert, and its projection.
-/
module

public import proofs.«01_k».proof.Proof.FfnGather

@[expose] public section

set_option maxRecDepth 16384

noncomputable section

namespace Cert.FfnIdeal.Ring

open Idealize.ShloMosaic Idealize.ShloMosaic.Pointwise
open Cert.FfnRefIdeal Cert.FfnRefIdeal.Read

attribute [local instance] Cert.FfnRefIdeal.Gen.facts

/-- The clamped gate: `g` bounded above by seven, `u` on both sides; the gate times its logistic at the layer's slope, times one more than `u`. -/
def glu (s u : EReal) : EReal :=
  min s (Ideal.ofBits FTy.f32 0x40E00000#32)
    * Ideal.logistic (Ideal.ofBits FTy.f32 0x3FD9DB23#32 * min s (Ideal.ofBits FTy.f32 0x40E00000#32))
    * (min (Ideal.ofBits FTy.f32 0x40E00000#32) (max (Ideal.ofBits FTy.f32 0xC0E00000#32) u) + Ideal.ofBits FTy.f32 0x3F800000#32)

/-- A row's product with a column of an expert's matrix, plus the expert's bias there. -/
def lin (x : Fin 1024 → EReal) (w : S32x1024x1024.Idx → EReal) (b : S32x1x1024.Idx → EReal) (e : Fin 32) (f : Fin 1024) : EReal :=
  (∑ k : Fin 1024, x k * w (ix3 e k f)) + b (ix3 e 0 f)

/-- The row through expert `e`. -/
def ffn (x : Fin 1024 → EReal) (wg : S32x1024x1024.Idx → EReal) (bg : S32x1x1024.Idx → EReal) (wu : S32x1024x1024.Idx → EReal)
    (bu : S32x1x1024.Idx → EReal) (wd : S32x1024x1024.Idx → EReal) (bd : S32x1x1024.Idx → EReal) (e : Fin 32) (d : Fin 1024) : EReal :=
  lin (fun f => glu (lin x wg bg e f) (lin x wu bu e f)) wd bd e d

section
variable (x0 x1 : S182.Idx → BitVec 32) (x2 : S11648.Idx → BitVec 32) (x3 : S78336x1024.Idx → EReal)
  (x4 : S32x1024x1024.Idx → EReal) (x5 : S32x1x1024.Idx → EReal) (x6 : S32x1024x1024.Idx → EReal) (x7 : S32x1x1024.Idx → EReal)
  (x8 : S32x1024x1024.Idx → EReal) (x9 : S32x1x1024.Idx → EReal)

/-- Row `r` of tile `n`. -/
def rowOf (n : Fin 182) (r : Fin 512) (k : Fin 1024) : EReal :=
  x3 (ix2 (Fin.ofNat 78336 ((wd x2 (64 * n + r / 8)).toNat + r % 8)) k)

variable (n : Fin 182) (r : Fin 512) (e : Fin 32) (he : (x0 (ix1 n)).toNat = e) (hs : ∀ q, (wd x2 q).toNat ≤ 78328)

include hs in
theorem v13_at (k : Fin 1024) : val_main_v13 (F := Ideal) x2 x3 (ix3 n r k) = rowOf x2 x3 n r k := by
  have h := hs (64 * n + r / 8)
  refine rows_at _ _ _ _ _ _ ((src_word x2 n r h).trans ?_)
  show _ = ((wd x2 (64 * n + r / 8)).toNat + r % 8) % 78336
  omega

include he in
theorem te_at : (val_main_v19 (F := Ideal) x0 (ix2 n 0)).toNat = e := by
  have := e.isLt
  rw [te_word x0 n (by omega), he]

include he hs in
/-- The gate's sums. -/
theorem v30_at (f : Fin 1024) : val_main_v30 (F := Ideal) x0 x2 x3 x4 x5 (ix3 n r f) = lin (rowOf x2 x3 n r) x4 x5 e f := by
  rw [val_main_v30_apply, val_main_v21_apply, val_main_v29_apply]
  refine congrArg₂ (fun a b : EReal => a + b) (Finset.sum_congr rfl fun k _ => ?_) ?_
  · refine congrArg₂ (fun a b : EReal => a * b) ((congrArg _ (by blk_ext)).trans (v13_at x2 x3 n r hs k)) ?_
    exact (congrArg _ (by blk_ext)).trans (mats_at x4 _ n k f e (te_at x0 n e he))
  · exact (congrArg _ (by blk_ext)).trans (bias_at x5 _ n f e (te_at x0 n e he))

include he hs in
/-- The other branch's sums: the same function of its own weights. -/
theorem v49_at (f : Fin 1024) : val_main_v49 (F := Ideal) x0 x2 x3 x6 x7 (ix3 n r f) = lin (rowOf x2 x3 n r) x6 x7 e f :=
  (show val_main_v49 (F := Ideal) x0 x2 x3 x6 x7 (ix3 n r f) = val_main_v30 (F := Ideal) x0 x2 x3 x6 x7 (ix3 n r f) from rfl).trans
    (v30_at x0 x2 x3 x6 x7 n r e he hs f)

include he hs in
/-- The hidden layer. -/
theorem v62_at (f : Fin 1024) : val_main_v62 (F := Ideal) x0 x2 x3 x4 x5 x6 x7 (ix3 n r f)
    = glu (lin (rowOf x2 x3 n r) x4 x5 e f) (lin (rowOf x2 x3 n r) x6 x7 e f) := by
  rw [← v30_at x0 x2 x3 x4 x5 n r e he hs f, ← v49_at x0 x2 x3 x6 x7 n r e he hs f]
  rw [val_main_v62_apply, val_main_v61_apply, val_main_v59_apply, val_main_v58_apply, val_main_v56_apply, val_main_v54_apply,
    val_main_v53_apply, val_main_v52_apply, val_main_v50_apply, val_main_call0_v2_apply, val_main_v32_apply]
  generalize val_main_v30 (F := Ideal) x0 x2 x3 x4 x5 (ix3 n r f) = g
  generalize val_main_v49 (F := Ideal) x0 x2 x3 x6 x7 (ix3 n r f) = u
  rw [val_main_v31_apply, val_main_v51_apply, val_main_v55_apply, val_main_v57_apply, val_main_v60_apply, val_main_call0_v1_apply,
    val_main_call0_v4_apply, val_main_call0_v0_apply, val_main_call0_v3_apply, val_main_cst_apply, val_main_cst_9_apply, val_main_cst_10_apply,
    val_main_cst_11_apply, val_main_cst_12_apply, val_main_cst_13_apply, val_main_cst_14_apply]
  show min g (Ideal.ofBits FTy.f32 0x40E00000#32)
      * Ideal.div (Ideal.ofBits FTy.f32 0x3F800000#32)
          (Ideal.ofBits FTy.f32 0x3F800000#32 + Ideal.exp (-(Ideal.ofBits FTy.f32 0x3FD9DB23#32 * min g (Ideal.ofBits FTy.f32 0x40E00000#32))))
      * _ = _
  unfold glu Ideal.logistic
  refine congrArg₂ (fun a b : EReal => a * b) ?_ rfl
  rw [Ideal.ofBits_one_f32]

include he hs in
/-- The layer's result. -/
theorem v79_at (d : Fin 1024) : val_main_v79 (F := Ideal) x0 x2 x3 x4 x5 x6 x7 x8 x9 (ix3 n r d)
    = ffn (rowOf x2 x3 n r) x4 x5 x6 x7 x8 x9 e d := by
  rw [val_main_v79_apply, val_main_v70_apply, val_main_v78_apply]
  refine congrArg₂ (fun a b : EReal => a + b) (Finset.sum_congr rfl fun k _ => ?_) ?_
  · refine congrArg₂ (fun a b : EReal => a * b) ((congrArg _ (by blk_ext)).trans (v62_at x0 x2 x3 x4 x5 x6 x7 n r e he hs k)) ?_
    exact (congrArg _ (by blk_ext)).trans (mats_at x8 _ n k d e (te_at x0 n e he))
  · exact (congrArg _ (by blk_ext)).trans (bias_at x9 _ n d e (te_at x0 n e he))

include he hs in
/-- The reference's result at row `r` of tile `n`: zeros where the tile is void. -/
theorem v84_at (d : Fin 1024) (i : S93184x1024.Idx) (h0 : (i 0 : ℕ) = 512 * n + r) (h1 : (i 1 : ℕ) = d) :
    val_main_v84 (F := Ideal) x0 x1 x2 x3 x4 x5 x6 x7 x8 x9 i
      = if x1 (ix1 n) = 0#32 then 0 else ffn (rowOf x2 x3 n r) x4 x5 x6 x7 x8 x9 e d := by
  have hn := n.isLt
  have hr := r.isLt
  have hd := d.isLt
  have hi : idx_main_v84 i = ix3 n r d := by
    funext a
    match a with
    | ⟨0, _⟩ => apply Fin.ext; show ((i 0).val * 1024 + (i 1).val) / 524288 = n; omega
    | ⟨1, _⟩ => apply Fin.ext; show ((i 0).val * 1024 + (i 1).val) / 1024 % 512 = r; omega
    | ⟨2, _⟩ => apply Fin.ext; show ((i 0).val * 1024 + (i 1).val) % 1024 = d; omega
  rw [val_main_v84_apply, hi, val_main_v83_apply, v79_at x0 x2 x3 x4 x5 x6 x7 x8 x9 n r e he hs d, val_main_call1_v1_apply,
    val_main_v82_apply, val_main_v81_apply, val_main_call1_v2_apply, val_main_call1_v0_apply, val_main_cst_20_apply]
  have ei : idx_main_v82 (idx_main_call1_v1 (ix3 n r d)) = ix1 n := by funext a; match a with | ⟨0, _⟩ => rfl
  rw [ei]
  have zero : FloatOps.ofBits (F := Ideal) FTy.f32 0x00000000#32 = (0 : EReal) := Ideal.ofBits_zero_f32
  rw [zero]
  show Scalar.select (IntOp.cmpi .ne (x1 (ix1 n)) 0#32) _ _ = _
  by_cases hv : x1 (ix1 n) = 0#32
  · rw [hv, if_pos rfl, show IntOp.cmpi .ne (0#32 : BitVec 32) 0#32 = 0#1 by decide]
    rfl
  · rw [if_neg hv, show IntOp.cmpi .ne (x1 (ix1 n)) 0#32 = 1#1 from by
      rw [show IntOp.cmpi .ne (x1 (ix1 n)) 0#32 = BitVec.ofBool (x1 (ix1 n) != 0#32) from rfl, StableHlo.Predicate.ofBool_eq_one_iff]
      simpa using hv]
    rfl
end

end Cert.FfnIdeal.Ring

end
-- ==== Proof.FfnProd.lean ====
/-
  The expert kernel's result array: each tile's block is its gathered rows through its expert, which is the reference's at those rows.
-/
module

public import proofs.«01_k».proof.Proof.FfnFrame
public import proofs.«01_k».proof.Proof.FfnRefAt
public import Idealize.ShloMosaic.Lib.Pipeline.ValueKit

@[expose] public section

set_option maxRecDepth 16384

noncomputable section

namespace Cert.FfnIdeal.Ring

open Cert.FfnIdeal Cert.FfnIdeal.Gen
open Idealize.ShloMosaic Idealize.ShloMosaic.TcCoe Idealize.ShloMosaic.Pointwise Idealize.SL.Sem
open Idealize.ShloMosaic.Pipeline (Dat Cfg Window)

/-! ## The body's payloads at an index -/

section Payloads
variable (x : FVec Ideal S1x512x1024 .f32) (w wu : FVec Ideal S1x1024x1024 .f32) (b bu : FVec Ideal S1x1x1024 .f32) (h : FVec Ideal S512x1024 .bf16)

/-- A column of the rows' product with one expert's matrix, plus its bias: over the block's own arrays. -/
def linB (x : Fin 1024 → EReal) (w : FVec Ideal S1x1024x1024 .f32) (b : FVec Ideal S1x1x1024 .f32) (f : Fin 1024) : EReal :=
  (∑ k : Fin 1024, x k * w (ix3 0 k f)) + b (ix3 0 0 f)

/-- The down projection. -/
theorem down_at (r : Fin 512) (d : Fin 1024) : k0_pay4 (F := Ideal) h (k0_pay3 (F := Ideal) w) b (ix2 r d) = linB (fun k => h (ix2 r k)) w b d := by
  pointwise [k0_pay4, k0_pay3, linB]

/-- The hidden layer. -/
theorem hidden_at (r : Fin 512) (f : Fin 1024) :
    k0_pay6 (F := Ideal) x (k0_pay1 (F := Ideal) w) b (k0_pay2 (F := Ideal) wu) bu (ix2 r f)
      = glu (linB (fun k => x (ix3 0 r k)) w b f) (linB (fun k => x (ix3 0 r k)) wu bu f) := by
  pointwise [k0_pay6, k0_pay1, k0_pay2, linB, glu]

/-- A void tile's block. -/
theorem void_at (r : Fin 512) (d : Fin 1024) : k0_pay5 (F := Ideal) (ix2 r d) = 0 := by
  pointwise [k0_pay5]
end Payloads

/-! ## The blocks at an index -/

variable (m : (ℓ : Loc nD τ sig) → Buf (Elt Ideal) ℓ) (h : Good m)

/-- Tile `t`'s expert. -/
def xp (n : Fin 182) : Fin 32 := ⟨(tw (tE m) n).toNat, h.te n⟩

/-- The weights' block index at a point. -/
theorem index_at (t : Fin (cf m h).N) (n : Fin 182) (hn : (n : ℕ) = t.val) :
    cc0_transform_1 k0_off1_inb numel1_S1 (tbl m) (grid0.coords t) = ![(xp m h n).val, 0, 0] := by
  rw [ix_eq, pt_coords, ← hn]; rfl

/-- An index of a stack of matrices placed by a block index naming the matrix. -/
theorem mat_ix (j : S32x1024x1024.Idx) (v : Fin 3 → ℕ) (e : Fin 32) (k f : Fin 1024) (hv : v = ![e.val, 0, 0])
    (h0 : (j 0 : ℕ) = v 0 * 1 + 1 * 0) (h1 : (j 1 : ℕ) = v 1 * 1024 + 1 * k.val) (h2 : (j 2 : ℕ) = v 2 * 1024 + 1 * f.val) : j = ix3 e k f := by
  subst hv
  have h0 : (j 0 : ℕ) = e.val * 1 + 1 * 0 := h0
  have h1 : (j 1 : ℕ) = 0 * 1024 + 1 * k.val := h1
  have h2 : (j 2 : ℕ) = 0 * 1024 + 1 * f.val := h2
  blk_ext

/-- An index of a stack of rows placed likewise. -/
theorem vec_ix (j : S32x1x1024.Idx) (v : Fin 3 → ℕ) (e : Fin 32) (f : Fin 1024) (hv : v = ![e.val, 0, 0])
    (h0 : (j 0 : ℕ) = v 0 * 1 + 1 * 0) (h2 : (j 2 : ℕ) = v 2 * 1024 + 1 * f.val) : j = ix3 e 0 f := by
  subst hv
  have h0 : (j 0 : ℕ) = e.val * 1 + 1 * 0 := h0
  have h2 : (j 2 : ℕ) = 0 * 1024 + 1 * f.val := h2
  blk_ext

section
variable (c : Dev nD) (t : Fin (cf m h).N) (n : Fin 182) (hn : (n : ℕ) = t.val) (k f : Fin 1024)
include hn
theorem b0_at : b0 m h c t (ix3 0 k f) = V m c main_arg4 (ix3 (xp m h n) k f) :=
  congrArg (V m c main_arg4) (mat_ix _ _ _ k f (index_at m h t n hn) rfl rfl rfl)
theorem b1_at : b1 m h c t (ix3 0 0 f) = V m c main_arg5 (ix3 (xp m h n) 0 f) :=
  congrArg (V m c main_arg5) (vec_ix _ _ _ f (index_at m h t n hn) rfl rfl)
theorem b2_at : b2 m h c t (ix3 0 k f) = V m c main_arg6 (ix3 (xp m h n) k f) :=
  congrArg (V m c main_arg6) (mat_ix _ _ _ k f (index_at m h t n hn) rfl rfl rfl)
theorem b3_at : b3 m h c t (ix3 0 0 f) = V m c main_arg7 (ix3 (xp m h n) 0 f) :=
  congrArg (V m c main_arg7) (vec_ix _ _ _ f (index_at m h t n hn) rfl rfl)
theorem b4_at : b4 m h c t (ix3 0 k f) = V m c main_arg8 (ix3 (xp m h n) k f) :=
  congrArg (V m c main_arg8) (mat_ix _ _ _ k f (index_at m h t n hn) rfl rfl rfl)
theorem b5_at : b5 m h c t (ix3 0 0 f) = V m c main_arg9 (ix3 (xp m h n) 0 f) :=
  congrArg (V m c main_arg9) (vec_ix _ _ _ f (index_at m h t n hn) rfl rfl)

/-- The gathered tile. -/
theorem tile_at (r : Fin 512) : tileV (tS m) (fX m c) t.val (ix3 0 r k) = rowOf (tS m) (fX m c) n r k := by
  unfold tileV gath rowOf
  rw [hn]
  exact congrArg (fX m c) (by blk_ext)

/-- What the body leaves at a point: the reference's expert layer of the tile's rows, or zeros. -/
theorem out_at (r : Fin 512) (d : Fin 1024) : outB m h c t (ix2 r d) = if tV m (ix1 n) = 0#32 then 0
    else ffn (rowOf (tS m) (fX m c) n r) (V m c main_arg4) (V m c main_arg5) (V m c main_arg6) (V m c main_arg7) (V m c main_arg8) (V m c main_arg9) (xp m h n) d := by
  have hv : tw (tV m) (pt (grid0.coords t)) = tV m (ix1 n) := by
    rw [pt_coords, ← hn]
    unfold tw
    exact congrArg (tV m) (funext fun a => match a with | ⟨0, _⟩ => Fin.ext (Nat.mod_eq_of_lt n.isLt))
  unfold outB outV
  rw [hv]
  by_cases hz : tV m (ix1 n) = 0#32
  · rw [if_pos hz, if_pos hz]; exact void_at r d
  rw [if_neg hz, if_neg hz, down_at]
  have hl : ∀ (x x' : Fin 1024 → EReal) (w : FVec Ideal S1x1024x1024 .f32) (b : FVec Ideal S1x1x1024 .f32) (W : S32x1024x1024.Idx → EReal) (B : S32x1x1024.Idx → EReal) (f : Fin 1024),
      (∀ k, x k = x' k) → (∀ k, w (ix3 0 k f) = W (ix3 (xp m h n) k f)) → b (ix3 0 0 f) = B (ix3 (xp m h n) 0 f) → linB x w b f = lin x' W B (xp m h n) f := by
    intro x x' w b W B f hx hw hb
    unfold linB lin
    rw [hb]
    refine congrArg (· + _) (Finset.sum_congr rfl fun k _ => ?_)
    rw [hx, hw]
  have hrow : ∀ k : Fin 1024, tileV (tS m) (fX m c) (pt (grid0.coords t)) (ix3 0 r k) = rowOf (tS m) (fX m c) n r k := by
    intro k; rw [pt_coords]; exact tile_at m h c t n hn k r
  refine hl _ _ _ _ _ _ _ (fun f => ?_) (fun k => b4_at m h c t n hn k d) (b5_at m h c t n hn d)
  rw [hidden_at]
  exact congrArg₂ glu (hl _ _ _ _ _ _ _ hrow (fun k => b0_at m h c t n hn k f) (b1_at m h c t n hn f))
    (hl _ _ _ _ _ _ _ hrow (fun k => b2_at m h c t n hn k f) (b3_at m h c t n hn f))
end

/-! ## The result array -/

/-- The result's block index at a point. -/
theorem index6 (t : Fin (cf m h).N) : ((cf m h).win (6 : Fin 7)).index t = ![t.val, 0] :=
  show cc0_transform_7 (grid0.coords t) = ![t.val, 0] from (by decide +kernel : ∀ t : Fin grid0.N, cc0_transform_7 (grid0.coords t) = ![t.val, 0]) t

/-- Every point writes its block back. -/
theorem flush6 (t : Fin (cf m h).N) : ((cf m h).win (6 : Fin 7)).flush t = true := by
  unfold Window.flush
  refine (Bool.and_eq_true _ _).mpr ⟨rfl, (Bool.or_eq_true _ _).mpr ?_⟩
  by_cases e : t.val + 1 = (cf m h).N
  · exact .inl (decide_eq_true e)
  · refine .inr (decide_eq_true ⟨Nat.lt_of_le_of_ne t.isLt e, fun x => ?_⟩)
    rw [index6, index6] at x
    have : t.val + 1 = t.val := congrFun x 0
    omega

/-- The blocks cover the result. -/
theorem covers6 : ((cf m h).win (6 : Fin 7)).Covers := by
  refine ⟨fun a => (by decide : ∀ a : Fin 2, 0 < S512x1024.size a) a, fun β => ?_⟩
  have b0 : (β (0 : Fin 2)).val < 182 := lt_of_lt_of_eq (β (0 : Fin 2)).isLt (show (S93184x1024.size 0 + S512x1024.size 0 - 1) / S512x1024.size 0 = 182 by decide)
  have b1 : (β (1 : Fin 2)).val < 1 := lt_of_lt_of_eq (β (1 : Fin 2)).isLt (show (S93184x1024.size 1 + S512x1024.size 1 - 1) / S512x1024.size 1 = 1 by decide)
  refine ⟨⟨(β (0 : Fin 2)).val, lt_of_lt_of_eq b0 (show 182 = (cf m h).N from N_0.symm)⟩, flush6 m h _, fun a => ⟨?_, .inl rfl⟩⟩
  rw [index6]
  match a with
  | ⟨0, _⟩ => rfl
  | ⟨1, _⟩ => show 0 = (β (1 : Fin 2)).val; omega

/-- The reference's result of the launch's arrays. -/
abbrev ref (c : Dev nD) : S93184x1024.Idx → EReal :=
  Cert.FfnRefIdeal.Read.val_main_v84 (F := Ideal) (V m c main_arg0) (V m c main_arg1) (V m c main_arg2) (V m c main_arg3) (V m c main_arg4) (V m c main_arg5)
    (V m c main_arg6) (V m c main_arg7) (V m c main_arg8) (V m c main_arg9)

/-- The kernel's result array is the reference's. -/
theorem final (c : Dev nD) : (dats m h 0 c).arrAt (6 : Fin 7) (cf m h).N = ref m c := by
  refine (dats m h 0 c).arrAt_eq_of_covers (6 : Fin 7) _ (covers6 m h) fun t hf y => ?_
  have ht : t.val < 182 := lt_of_lt_of_eq t.isLt N_0
  rw [after_6]
  obtain ⟨n, hn⟩ : ∃ n : Fin 182, (n : ℕ) = t.val := ⟨⟨t.val, ht⟩, rfl⟩
  obtain rfl : c = 0 := Subsingleton.elim _ _
  have he : (V m (0 : Dev nD) main_arg0 (ix1 n)).toNat = xp m h n := by
    show _ = (tw (tE m) n).toNat
    unfold tw
    exact congrArg (fun j => (tE m j).toNat) (funext fun a => match a with | ⟨0, _⟩ => Fin.ext (Nat.mod_eq_of_lt n.isLt).symm)
  let r : Fin 512 := y (0 : Fin 2)
  let d : Fin 1024 := y (1 : Fin 2)
  have hi := index6 m h t
  refine Eq.trans ?_ (v84_at (tE m) (tV m) (tS m) (fX m 0) (V m (0 : Dev nD) main_arg4) (V m (0 : Dev nD) main_arg5) (V m (0 : Dev nD) main_arg6) (V m (0 : Dev nD) main_arg7)
    (V m (0 : Dev nD) main_arg8) (V m (0 : Dev nD) main_arg9) n r (xp m h n) he (fun q => h.src q) d _ ?_ ?_).symm
  · refine Eq.trans ?_ (out_at m h 0 t n hn r d)
    show outB m h 0 t _ = _
    congr 1
    funext a
    match a with
    | ⟨0, _⟩ => rfl
    | ⟨1, _⟩ => rfl
  · show ((cf m h).win (6 : Fin 7)).index t (0 : Fin 2) * 512 + 1 * r.val = 512 * n.val + r.val
    rw [hi]; show t.val * 512 + 1 * r.val = _; omega
  · show ((cf m h).win (6 : Fin 7)).index t (1 : Fin 2) * 1024 + 1 * d.val = d.val
    rw [hi]; show 0 * 1024 + 1 * d.val = _; omega

end Cert.FfnIdeal.Ring

end
-- ==== Proof.FfnClaims.lean ====
/-
  The equality of the expert kernel's result with its reference's.
-/
module

public import proofs.«01_k».proof.Defs
public import proofs.«01_k».proof.Proof.FfnRun
public import proofs.«01_k».proof.Proof.FfnProd

@[expose] public section

set_option maxRecDepth 20000

noncomputable section

namespace Cert.FfnIdeal.Ring

open Cert.FfnIdeal Cert.FfnIdeal.Gen Cert.FfnRefIdeal.Read
open Idealize.ShloMosaic Idealize.ShloMosaic.TcCoe Idealize.SL.Sem

attribute [local instance] Cert.Ffn.Gen.facts Cert.FfnIdeal.Gen.facts Cert.FfnRefIdeal.Gen.facts Cert.Pre_ffn_tables.Gen.facts

/-- On the same arguments, the tables within their ranges, the kernel's result array is the reference's. -/
theorem equal : Cert.algebraic_FfnIdeal_FfnRefIdeal := by
  intro m g m' g' hp hag
  refine ⟨fun c => ref m c, ?_, ?_⟩
  · refine (θ_run _ _ _).mono (fun r q c => ?_) (run_out (F := Ideal) m g (good_of m hp))
    exact ⟨(q.1 c).1.trans (final m (good_of m hp) c), (q.1 c).2⟩
  · refine (θ_run _ _ _).mono (fun r q c => ?_) (Cert.FfnRefIdeal.Value.run (F := Ideal) m' g')
    obtain ⟨e0, e1, e2, e3, e4, e5, e6, e7, e8, e9⟩ := hag c
    refine ⟨((q c).1.trans (val_main_v84_eq m' c)).trans ?_, (q c).2⟩
    rw [e0, e1, e2, e3, e4, e5, e6, e7, e8, e9]

end Cert.FfnIdeal.Ring

end
-- ==== Proof.MrgProd.lean ====
/- The output projection, one row at a time: what the body adds to a row, and what the reference adds to it. -/
module

public import proofs.«01_k».proof.Proof.Gen.MrgIdeal.Value
public import proofs.«01_k».proof.Proof.Gen.MrgRefIdeal.Read
public import Idealize.ShloMosaic.Lib.Pipeline.ValueKit

@[expose] public section

set_option maxRecDepth 16384

noncomputable section

namespace Cert.MrgIdeal.Prod

open Cert.MrgIdeal Cert.MrgIdeal.Gen Idealize.ShloMosaic Idealize.ShloMosaic.TcCoe Idealize.SL.Sem
open Idealize.ShloMosaic.Pipeline (Dat)
open Cert.MrgRefIdeal.Read Idealize.ShloMosaic.Pointwise

/-- A row over the root of its mean square, times the gain. -/
def unit (f g : Fin 512 → EReal) (k : Fin 512) : EReal :=
  f k * Ideal.rsqrt (Ideal.div (∑ j, f j * f j) (Ideal.ofBits FTy.f32 1140850688#32) + Ideal.ofBits FTy.f32 897988541#32) * g k

/-- The two mixers' normalised rows side by side. -/
def mix (f h ga gb : Fin 512 → EReal) (k : Fin 1024) : EReal :=
  if hk : (k : ℕ) < 512 then unit f ga ⟨k, hk⟩ else unit h gb ⟨k - 512, by have := k.isLt; omega⟩

/-- An entry of the residual with the projected row added. -/
def added (x : EReal) (f h ga gb : Fin 512 → EReal) (w : Fin 1024 → EReal) : EReal := x + ∑ k, mix f h ga gb k * w k

/-- Two entries are equal when the residuals, the rows, the gains and the column are. -/
theorem added_congr {x x' : EReal} {f f' h h' ga ga' gb gb' : Fin 512 → EReal} {w w' : Fin 1024 → EReal} (e : x = x')
    (ef : ∀ k, f k = f' k) (eh : ∀ k, h k = h' k) (ea : ∀ k, ga k = ga' k) (eb : ∀ k, gb k = gb' k) (ew : ∀ k, w k = w' k) :
    added x f h ga gb w = added x' f' h' ga' gb' w' := by
  rw [e, funext ef, funext eh, funext ea, funext eb, funext ew]

section Reference
open Cert.MrgRefIdeal (S16384x1024 S1024x1024 S16384x512 S1024x512 S512)

/-- The reference's prompt: each row is the residual with the projected row added. -/
theorem v28_at (x : FVec Ideal S16384x1024 .f32) (f h : FVec Ideal S16384x512 .f32) (ga gb : FVec Ideal S512 .f32)
    (w : FVec Ideal S1024x1024 .f32) (r : Fin 16384) (n : Fin 1024) :
    val_main_v28 (F := Ideal) x f h ga gb w (ix2 r n)
      = added (x (ix2 r n)) (fun k => f (ix2 r k)) (fun k => h (ix2 r k)) (fun k => ga (ix1 k)) (fun k => gb (ix1 k)) fun k => w (ix2 k n) := by
  have ha : ∀ k, val_main_v12 (F := Ideal) f ga (ix2 r k) = unit (fun k => f (ix2 r k)) (fun k => ga (ix1 k)) k := by
    intro k
    pointwise [val_main_v12, val_main_v11, val_main_v10, val_main_v9, val_main_v8, val_main_v7, val_main_v6, val_main_v5,
      val_main_v4, val_main_v3, val_main_v2, val_main_v1, val_main_v0, val_main_cst, val_main_cst_0, val_main_cst_1, unit]
  have hb : ∀ k, val_main_v25 (F := Ideal) h gb (ix2 r k) = unit (fun k => h (ix2 r k)) (fun k => gb (ix1 k)) k := by
    intro k
    pointwise [val_main_v25, val_main_v24, val_main_v23, val_main_v22, val_main_v21, val_main_v20, val_main_v19, val_main_v18,
      val_main_v17, val_main_v16, val_main_v15, val_main_v14, val_main_v13, val_main_cst_2, val_main_cst_3, val_main_cst_4, unit]
  have hm : ∀ k, val_main_v26 (F := Ideal) f h ga gb (lidx_main_v27 (ix2 r n) k)
      = mix (fun k => f (ix2 r k)) (fun k => h (ix2 r k)) (fun k => ga (ix1 k)) (fun k => gb (ix1 k)) k := by
    intro k
    have hl : lidx_main_v27 (ix2 r n) k = ix2 r k := by blk_ext
    rw [hl]
    pointwise [val_main_v26]
    unfold mix
    by_cases hk : (k : ℕ) < 512
    · rw [dif_pos hk, dif_pos hk]; exact ha _
    · rw [dif_neg hk, dif_neg hk]; exact hb _
  rw [val_main_v28_apply, val_main_v27_apply]
  refine congrArg (_ + ·) (Finset.sum_congr rfl fun k _ => ?_)
  rw [hm k]
  refine congrArg (_ * ·) (congrArg w ?_)
  blk_ext

/-- The reference's sample: the same of its rows. -/
theorem v57_at (x : FVec Ideal S1024x1024 .f32) (f h : FVec Ideal S1024x512 .f32) (ga gb : FVec Ideal S512 .f32)
    (w : FVec Ideal S1024x1024 .f32) (r : Fin 1024) (n : Fin 1024) :
    val_main_v57 (F := Ideal) x f h ga gb w (ix2 r n)
      = added (x (ix2 r n)) (fun k => f (ix2 r k)) (fun k => h (ix2 r k)) (fun k => ga (ix1 k)) (fun k => gb (ix1 k)) fun k => w (ix2 k n) := by
  have ha : ∀ k, val_main_v41 (F := Ideal) f ga (ix2 r k) = unit (fun k => f (ix2 r k)) (fun k => ga (ix1 k)) k := by
    intro k
    pointwise [val_main_v41, val_main_v40, val_main_v39, val_main_v38, val_main_v37, val_main_v36, val_main_v35, val_main_v34,
      val_main_v33, val_main_v32, val_main_v31, val_main_v30, val_main_v29, val_main_cst_5, val_main_cst_6, val_main_cst_7, unit]
  have hb : ∀ k, val_main_v54 (F := Ideal) h gb (ix2 r k) = unit (fun k => h (ix2 r k)) (fun k => gb (ix1 k)) k := by
    intro k
    pointwise [val_main_v54, val_main_v53, val_main_v52, val_main_v51, val_main_v50, val_main_v49, val_main_v48, val_main_v47,
      val_main_v46, val_main_v45, val_main_v44, val_main_v43, val_main_v42, val_main_cst_8, val_main_cst_9, val_main_cst_10, unit]
  have hm : ∀ k, val_main_v55 (F := Ideal) f h ga gb (lidx_main_v56 (ix2 r n) k)
      = mix (fun k => f (ix2 r k)) (fun k => h (ix2 r k)) (fun k => ga (ix1 k)) (fun k => gb (ix1 k)) k := by
    intro k
    have hl : lidx_main_v56 (ix2 r n) k = ix2 r k := by blk_ext
    rw [hl]
    pointwise [val_main_v55]
    unfold mix
    by_cases hk : (k : ℕ) < 512
    · rw [dif_pos hk, dif_pos hk]; exact ha _
    · rw [dif_neg hk, dif_neg hk]; exact hb _
  rw [val_main_v57_apply, val_main_v56_apply]
  refine congrArg (_ + ·) (Finset.sum_congr rfl fun k _ => ?_)
  rw [hm k]
  refine congrArg (_ * ·) (congrArg w ?_)
  blk_ext

/-- The reference's array at a row of the prompt. -/
theorem v58_prompt (x0 x1 x2 x3 x4 x5 x6 x7 x8) (r : Fin 17408) (n : Fin 1024) (a : Fin 16384) (h : (r : ℕ) = a) :
    val_main_v58 (F := Ideal) x0 x1 x2 x3 x4 x5 x6 x7 x8 (ix2 r n) = val_main_v28 (F := Ideal) x0 x2 x4 x6 x7 x8 (ix2 a n) := by
  pointwise [val_main_v58]
  refine (dif_pos (by omega)).trans (congrArg _ ?_)
  exact congrArg (fun z => ix2 z n) (Fin.ext h)

/-- The reference's array at a row of the sample, which follows the prompt's. -/
theorem v58_sample (x0 x1 x2 x3 x4 x5 x6 x7 x8) (r : Fin 17408) (n : Fin 1024) (a : Fin 1024) (h : (r : ℕ) = 16384 + a) :
    val_main_v58 (F := Ideal) x0 x1 x2 x3 x4 x5 x6 x7 x8 (ix2 r n) = val_main_v57 (F := Ideal) x1 x3 x5 x6 x7 x8 (ix2 a n) := by
  pointwise [val_main_v58]
  refine (dif_neg (by omega)).trans (congrArg _ ?_)
  exact congrArg (fun z => ix2 z n) (Fin.ext (by show (r : ℕ) - 16384 = a; omega))

end Reference

/-- What the body stores at an entry of its tile: the prompt's blocks where the tile is the prompt's, else the sample's. -/
theorem body_at (i : grid0.Coords) (v1 v2 v18 v19 : FVec Ideal S512x512 .f32) (v4 v21 : FVec Ideal S1x512 .f32)
    (x z : FVec Ideal S512x1024 .f32) (w : FVec Ideal S1024x1024 .bf16) (y : S512x1024.Idx) (b : BitVec 1)
    (hb : Scalar.cmpi .slt (BitVec.ofNat 32 (i 0).val) 32#32 = b) :
    k0_pay3 (F := Ideal) (Scalar.cmpi .slt (BitVec.ofNat 32 (i 0).val) 32#32) (k0_pay2 (F := Ideal) i v1 v2 v4 v18 v19 v21) x z w y
      = added (Scalar.select b (x y) (z y)) (fun k => Scalar.select b (v1 (ix2 (y 0) k)) (v2 (ix2 (y 0) k)))
          (fun k => Scalar.select b (v18 (ix2 (y 0) k)) (v19 (ix2 (y 0) k))) (fun k => v4 (ix2 0 k)) (fun k => v21 (ix2 0 k))
          fun k => w (ix2 k (y 1)) := by
  subst hb
  have h2 : ∀ k, k0_pay2 (F := Ideal) i v1 v2 v4 v18 v19 v21 (ix2 (y 0) k)
      = mix (fun k => Scalar.select (Scalar.cmpi .slt (BitVec.ofNat 32 (i 0).val) 32#32) (v1 (ix2 (y 0) k)) (v2 (ix2 (y 0) k)))
          (fun k => Scalar.select (Scalar.cmpi .slt (BitVec.ofNat 32 (i 0).val) 32#32) (v18 (ix2 (y 0) k)) (v19 (ix2 (y 0) k)))
          (fun k => v4 (ix2 0 k)) (fun k => v21 (ix2 0 k)) k := by
    intro k; pointwise [k0_pay2, mix, unit]
  pointwise [k0_pay3]
  exact congrArg (_ + ·) (Finset.sum_congr rfl fun k _ => congrArg (· * _) (h2 k))

end Cert.MrgIdeal.Prod

end
-- ==== Proof.MrgClaims.lean ====
/-
  The claims about the output projection: the frames of the program and of its idealization are the generated ones, the
  frame of the reference is read off its generated run, and the equality puts the first output array beside the
  reference's result.
-/
module

public import proofs.«01_k».proof.Defs
public import proofs.«01_k».proof.Proof.MrgProd
public import proofs.«01_k».proof.Proof.Gen.Mrg.Frame
public import proofs.«01_k».proof.Proof.Gen.MrgRefIdeal.Run
public import Idealize.ShloMosaic.Adequacy
public import Idealize.ShloMosaic.Init

@[expose] public section

set_option maxRecDepth 16384

noncomputable section

namespace Cert.MrgIdeal.Prod

open Idealize.ShloMosaic Idealize.ShloMosaic.TcCoe Idealize.SL.Sem Cert.MrgIdeal Cert.MrgIdeal.Gen Cert.MrgRefIdeal.Read
open Idealize.ShloMosaic.Pipeline (Dat)
open Idealize.ShloMosaic.Pointwise

attribute [local instance] Cert.Mrg.Gen.facts Cert.MrgIdeal.Gen.facts Cert.MrgRefIdeal.Gen.facts

/-- The call runs, keeps its arguments and leaves every counter at zero. -/
theorem frameK : Cert.quiescent_Mrg := fun m ρ _ => Cert.Mrg.Gen.frame m ρ

/-- The same of its idealization. -/
theorem frameI : Cert.quiescent_MrgIdeal := fun m ρ _ => Cert.MrgIdeal.Gen.frame m ρ

/-- The reference runs and keeps its arguments; it declares no semaphore. -/
theorem frameR : Cert.quiescent_MrgRefIdeal := fun m ρ _ =>
  (θ_run Cert.MrgRefIdeal.defs _ _).mono (fun r h => ⟨fun c => (h c).2, sem_eq_zero_of_no_sems (by decide) r.2⟩)
    (Cert.MrgRefIdeal.Value.run (F := Ideal) m ρ)

/-- The idealization rewrote nothing. -/
theorem kept : Cert.preserves_Mrg_MrgIdeal := trivial

variable (m : (ℓ : Loc nD τ sig) → Buf (Elt Ideal) ℓ)

/-- The block index of the windows that move, at every grid point. -/
theorem idx : ∀ t : Fin cfg0.N, win0_0.index t = ![min t.val 31, 0] ∧ win0_1.index t = ![t.val - 32, 0]
    ∧ win0_2.index t = ![min t.val 31, 0] ∧ win0_3.index t = ![t.val - 32, 0]
    ∧ win0_4.index t = ![min t.val 31, 0] ∧ win0_5.index t = ![t.val - 32, 0]
    ∧ win0_6.index t = ![0, 0] ∧ win0_7.index t = ![0, 0] ∧ win0_8.index t = ![0, 0] ∧ win0_12.index t = ![t.val, 0] :=
  (by decide +kernel : ∀ t : Fin grid0.N, _)

/-- A tile is the prompt's when its number is below 32. -/
theorem side : ∀ t : Fin cfg0.N, Scalar.cmpi .slt (BitVec.ofNat 32 (grid0.coords t 0).val) 32#32 = if t.val < 32 then 1#1 else 0#1 :=
  (by decide +kernel : ∀ t : Fin grid0.N, _)

/-- The arguments that the projection reads, as launched. -/
abbrev A0 (c : Dev nD) : FVec Ideal S16384x1024 .f32 := m ((c : Thread nD τ).loc main_arg0)
abbrev A1 (c : Dev nD) : FVec Ideal S1024x1024 .f32 := m ((c : Thread nD τ).loc main_arg1)
abbrev A2 (c : Dev nD) : FVec Ideal S16384x512 .f32 := m ((c : Thread nD τ).loc main_arg2)
abbrev A3 (c : Dev nD) : FVec Ideal S1024x512 .f32 := m ((c : Thread nD τ).loc main_arg3)
abbrev A4 (c : Dev nD) : FVec Ideal S16384x512 .f32 := m ((c : Thread nD τ).loc main_arg4)
abbrev A5 (c : Dev nD) : FVec Ideal S1024x512 .f32 := m ((c : Thread nD τ).loc main_arg5)
abbrev A6 (c : Dev nD) : FVec Ideal S512 .f32 := m ((c : Thread nD τ).loc main_arg6)
abbrev A7 (c : Dev nD) : FVec Ideal S512 .f32 := m ((c : Thread nD τ).loc main_arg7)
abbrev A8 (c : Dev nD) : FVec Ideal S1024x1024 .f32 := m ((c : Thread nD τ).loc main_arg8)

/-- The reference's array of the launched arguments. -/
abbrev R (c : Dev nD) : FVec Ideal S17408x1024 .f32 :=
  val_main_v58 (F := Ideal) (A0 m c) (A1 m c) (A2 m c) (A3 m c) (A4 m c) (A5 m c) (A6 m c) (A7 m c) (A8 m c)

/-- The gains and the weights' column that the body reads are the launched ones. -/
theorem gainA (c : Dev nD) (t : Fin cfg0.N) (k : Fin 512) : View.ld (iblk m c 6 t) r0_1 (ix2 0 k) = A6 m c (ix1 k) := by
  have he : (win0_6.blk t).view.emb (ix2 0 k) = ix2 0 k := by
    refine funext (Fin.forall_fin_two.2 ⟨Fin.ext ?_, Fin.ext ?_⟩) <;> blk_simp [idx t]
  have hc : shapeCast S1x512 (A6 m c) shapeCasts_S512_S1x512 (ix2 0 k) = A6 m c (ix1 k) := by pointwise
  show View.ld (iblk m c 6 t) r0_1 (ix2 0 k) = _
  pointwise
  unfold iblk V
  entry_read
  exact (congrArg (shapeCast S1x512 (A6 m c) shapeCasts_S512_S1x512) he).trans hc
theorem gainB (c : Dev nD) (t : Fin cfg0.N) (k : Fin 512) : View.ld (iblk m c 7 t) r0_1 (ix2 0 k) = A7 m c (ix1 k) := by
  have he : (win0_7.blk t).view.emb (ix2 0 k) = ix2 0 k := by
    refine funext (Fin.forall_fin_two.2 ⟨Fin.ext ?_, Fin.ext ?_⟩) <;> blk_simp [idx t]
  have hc : shapeCast S1x512 (A7 m c) shapeCasts_S512_S1x512 (ix2 0 k) = A7 m c (ix1 k) := by pointwise
  show View.ld (iblk m c 7 t) r0_1 (ix2 0 k) = _
  pointwise
  unfold iblk V
  entry_read
  exact (congrArg (shapeCast S1x512 (A7 m c) shapeCasts_S512_S1x512) he).trans hc
theorem column (c : Dev nD) (t : Fin cfg0.N) (l n : Fin 1024) (h : (l : ℕ) = n) (k : Fin 1024) :
    iblk m c 8 t (ix2 k l) = A8 m c (ix2 k n) := by
  blk_point [iblk, V, idx t]

/-- The first output array after the run is the reference's. -/
theorem final12 (c : Dev nD) : (dats m 0 c).arrAt 12 (cfgs 0).N = R m c := by
  refine (dats m 0 c).arrAt_eq_of_covers 12 _ (by decide +kernel) fun t hf y => ?_
  have ht : t.val < 34 := lt_of_lt_of_eq t.isLt N_0
  have hy0 : (y 0 : ℕ) < 512 := (y 0).isLt
  have hy1 : (y 1 : ℕ) < 1024 := (y 1).isLt
  blk_simp
  rw [after0_12]; frame_out
  unfold k0_pay48
  obtain ⟨r, hr⟩ : ∃ r : Fin 17408, (r : ℕ) = 512 * t.val + y 0 := ⟨⟨512 * t.val + y 0, by omega⟩, rfl⟩
  obtain ⟨n, hn⟩ : ∃ n : Fin 1024, (n : ℕ) = y 1 := ⟨⟨y 1, hy1⟩, rfl⟩
  have he : ((View.whole main_v5_0).slice (win0_12.rect t)).emb y = ix2 r n := by
    refine funext (Fin.forall_fin_two.2 ⟨Fin.ext ?_, Fin.ext ?_⟩)
    · show _ = (r : ℕ); rw [hr]; blk_simp [idx t]; omega
    · show _ = (n : ℕ); rw [hn]; blk_simp [idx t]
  rw [he]
  by_cases hs : t.val < 32
  · obtain ⟨a, ha⟩ : ∃ a : Fin 16384, (a : ℕ) = r := ⟨⟨r, by omega⟩, rfl⟩
    refine (body_at _ _ _ _ _ _ _ _ _ _ _ 1#1 ((side t).trans (if_pos hs))).trans
      (Eq.trans ?_ ((v58_prompt _ _ _ _ _ _ _ _ _ r n a ha.symm).trans (v28_at _ _ _ _ _ _ a n)).symm)
    refine added_congr ?_ (fun k => ?_) (fun k => ?_) (gainA m c t) (gainB m c t) (column m c t _ n hn.symm)
    · show iblk m c 0 t y = _
      blk_point [iblk, V, idx t]
    · show View.ld (iblk m c 2 t) r0_0 (ix2 (y 0) k) = _
      blk_point [iblk, V, idx t]
    · show View.ld (iblk m c 4 t) r0_0 (ix2 (y 0) k) = _
      blk_point [iblk, V, idx t]
  · obtain ⟨a, ha⟩ : ∃ a : Fin 1024, (r : ℕ) = 16384 + a := ⟨⟨r - 16384, by omega⟩, by show (r : ℕ) = 16384 + (r - 16384); omega⟩
    refine (body_at _ _ _ _ _ _ _ _ _ _ _ 0#1 ((side t).trans (if_neg hs))).trans
      (Eq.trans ?_ ((v58_sample _ _ _ _ _ _ _ _ _ r n a ha).trans (v57_at _ _ _ _ _ _ a n)).symm)
    refine added_congr ?_ (fun k => ?_) (fun k => ?_) (gainA m c t) (gainB m c t) (column m c t _ n hn.symm)
    · show iblk m c 1 t y = _
      blk_point [iblk, V, idx t]
    · show View.ld (iblk m c 3 t) r0_0 (ix2 (y 0) k) = _
      blk_point [iblk, V, idx t]
    · show View.ld (iblk m c 5 t) r0_0 (ix2 (y 0) k) = _
      blk_point [iblk, V, idx t]

/-- On the same arguments the first output array is the reference's result. -/
theorem equal : Cert.algebraic_MrgIdeal_MrgRefIdeal := by
  intro m g m' g' _ hag
  refine ⟨fun c => R m c, ?_, ?_⟩
  · refine (θ_run _ _ _).mono (fun r h c => ?_) (Cert.MrgIdeal.Value.run_blocks (F := Ideal) m g)
    obtain ⟨h12, _, _, _, _, _, ha⟩ := h c
    exact ⟨h12.trans (final12 m c), ha⟩
  · refine (θ_run _ _ _).mono (fun r h c => ?_) (Cert.MrgRefIdeal.Value.run (F := Ideal) m' g')
    obtain ⟨h12, ha⟩ := h c
    obtain ⟨e0, e1, e2, e3, e4, e5, e6, e7, e8, _⟩ := hag c
    refine ⟨(h12.trans (val_main_v58_eq _ _ _ _ _ _ _ _ _)).trans ?_, ha⟩
    rw [e0, e1, e2, e3, e4, e5, e6, e7, e8]

end Cert.MrgIdeal.Prod

end
-- ==== Proof.lean ====
/-
  The claims, one call after the other: each call's frames, the idealization's provenance and the equality with the
  reference, proved in the module of that call.
-/
module

public import proofs.«01_k».proof.Defs
public import proofs.«01_k».proof.Proof.QkvClaims
public import proofs.«01_k».proof.Proof.QksClaims
public import proofs.«01_k».proof.Proof.BiaClaims
public import proofs.«01_k».proof.Proof.BndClaims
public import proofs.«01_k».proof.Proof.FfnClaims
public import proofs.«01_k».proof.Proof.MrgClaims

@[expose] public section

noncomputable section

namespace Cert.Proof

/-- Every claim of the certificate. -/
theorem claim : Cert.Claim := ⟨Cert.Qkv.Gen.facts, Cert.QkvIdeal.Gen.facts, Cert.QkvRefIdeal.Gen.facts,
  Cert.Qks.Gen.facts, Cert.QksIdeal.Gen.facts, Cert.QksRefIdeal.Gen.facts,
  Cert.Ffn.Gen.facts, Cert.FfnIdeal.Gen.facts, Cert.FfnRefIdeal.Gen.facts,
  Cert.Mrg.Gen.facts, Cert.MrgIdeal.Gen.facts, Cert.MrgRefIdeal.Gen.facts,
  Cert.Bia.Gen.facts, Cert.BiaIdeal.Gen.facts, Cert.BiaRefIdeal.Gen.facts,
  Cert.Bnd.Gen.facts, Cert.BndIdeal.Gen.facts, Cert.BndRefIdeal.Gen.facts, Cert.Pre_ffn_tables.Gen.facts, Cert.Pre_band_finite.Gen.facts,
  Cert.QkvIdeal.Prod.frameK, Cert.QkvIdeal.Prod.frameI, Cert.QkvIdeal.Prod.frameR,
  Cert.QksIdeal.Prod.frameK, Cert.QksIdeal.Prod.frameI, Cert.QksIdeal.Prod.frameR,
  Cert.FfnIdeal.Ring.frameK, Cert.FfnIdeal.Ring.frameI, Cert.FfnIdeal.Ring.frameR,
  Cert.MrgIdeal.Prod.frameK, Cert.MrgIdeal.Prod.frameI, Cert.MrgIdeal.Prod.frameR,
  Cert.BiaIdeal.Prod.frameK, Cert.BiaIdeal.Prod.frameI, Cert.BiaIdeal.Prod.frameR,
  Cert.BndIdeal.Prod.frameK, Cert.BndIdeal.Prod.frameI, Cert.BndIdeal.Prod.framePI, Cert.BndIdeal.Prod.frameR, Cert.BndIdeal.Prod.framePR,
  Cert.QkvIdeal.Prod.kept, Cert.QkvIdeal.Prod.equal, Cert.QksIdeal.Prod.kept, Cert.QksIdeal.Prod.equal,
  Cert.FfnIdeal.Ring.kept, Cert.FfnIdeal.Ring.equal, Cert.MrgIdeal.Prod.kept, Cert.MrgIdeal.Prod.equal,
  Cert.BiaIdeal.Prod.kept, Cert.BiaIdeal.Prod.equal, Cert.BndIdeal.Prod.kept, Cert.BndIdeal.Prod.equal⟩

end Cert.Proof

end
